-- ==== Defs.lean ====
def Pre_Dscan (m : (ℓ : Loc Cert.Dscan.nD Cert.Dscan.τ Cert.Dscan.sig) → Buf (Elt Bits) ℓ) : Prop :=
  True

def Pre_DscanIdeal (m : (ℓ : Loc Cert.DscanIdeal.nD Cert.DscanIdeal.τ Cert.DscanIdeal.sig) → Buf (Elt Ideal) ℓ) : Prop :=
  True

def Pre_DscanIdeal_finite_scan [hPre_finite_scan : Cert.Pre_finite_scan.Facts] (m : (ℓ : Loc Cert.DscanIdeal.nD Cert.DscanIdeal.τ Cert.DscanIdeal.sig) → Buf (Elt Ideal) ℓ) : Prop :=
  ∀ c : Dev Cert.DscanIdeal.nD,
    (Cert.Pre_finite_scan.fn (F := Ideal) (m ((c.tc : Thread Cert.DscanIdeal.nD Cert.DscanIdeal.τ).loc Cert.DscanIdeal.main_arg0)) (m ((c.tc : Thread Cert.DscanIdeal.nD Cert.DscanIdeal.τ).loc Cert.DscanIdeal.main_arg1)) (m ((c.tc : Thread Cert.DscanIdeal.nD Cert.DscanIdeal.τ).loc Cert.DscanIdeal.main_arg2)) (m ((c.tc : Thread Cert.DscanIdeal.nD Cert.DscanIdeal.τ).loc Cert.DscanIdeal.main_arg3)) (m ((c.tc : Thread Cert.DscanIdeal.nD Cert.DscanIdeal.τ).loc Cert.DscanIdeal.main_arg4)) (m ((c.tc : Thread Cert.DscanIdeal.nD Cert.DscanIdeal.τ).loc Cert.DscanIdeal.main_arg5)) (m ((c.tc : Thread Cert.DscanIdeal.nD Cert.DscanIdeal.τ).loc Cert.DscanIdeal.main_arg6)) (m ((c.tc : Thread Cert.DscanIdeal.nD Cert.DscanIdeal.τ).loc Cert.DscanIdeal.main_arg7)) (m ((c.tc : Thread Cert.DscanIdeal.nD Cert.DscanIdeal.τ).loc Cert.DscanIdeal.main_arg8)) (m ((c.tc : Thread Cert.DscanIdeal.nD Cert.DscanIdeal.τ).loc Cert.DscanIdeal.main_arg9))) = (fun _ => 1#1)

def Pre_DscanRefIdeal (m : (ℓ : Loc Cert.DscanRefIdeal.nD Cert.DscanRefIdeal.τ Cert.DscanRefIdeal.sig) → Buf (Elt Ideal) ℓ) : Prop :=
  True

def Pre_DscanRefIdeal_finite_scan [hPre_finite_scan : Cert.Pre_finite_scan.Facts] (m : (ℓ : Loc Cert.DscanRefIdeal.nD Cert.DscanRefIdeal.τ Cert.DscanRefIdeal.sig) → Buf (Elt Ideal) ℓ) : Prop :=
  ∀ c : Dev Cert.DscanRefIdeal.nD,
    (Cert.Pre_finite_scan.fn (F := Ideal) (m ((c.tc : Thread Cert.DscanRefIdeal.nD Cert.DscanRefIdeal.τ).loc Cert.DscanRefIdeal.main_arg0)) (m ((c.tc : Thread Cert.DscanRefIdeal.nD Cert.DscanRefIdeal.τ).loc Cert.DscanRefIdeal.main_arg1)) (m ((c.tc : Thread Cert.DscanRefIdeal.nD Cert.DscanRefIdeal.τ).loc Cert.DscanRefIdeal.main_arg2)) (m ((c.tc : Thread Cert.DscanRefIdeal.nD Cert.DscanRefIdeal.τ).loc Cert.DscanRefIdeal.main_arg3)) (m ((c.tc : Thread Cert.DscanRefIdeal.nD Cert.DscanRefIdeal.τ).loc Cert.DscanRefIdeal.main_arg4)) (m ((c.tc : Thread Cert.DscanRefIdeal.nD Cert.DscanRefIdeal.τ).loc Cert.DscanRefIdeal.main_arg5)) (m ((c.tc : Thread Cert.DscanRefIdeal.nD Cert.DscanRefIdeal.τ).loc Cert.DscanRefIdeal.main_arg6)) (m ((c.tc : Thread Cert.DscanRefIdeal.nD Cert.DscanRefIdeal.τ).loc Cert.DscanRefIdeal.main_arg7)) (m ((c.tc : Thread Cert.DscanRefIdeal.nD Cert.DscanRefIdeal.τ).loc Cert.DscanRefIdeal.main_arg8)) (m ((c.tc : Thread Cert.DscanRefIdeal.nD Cert.DscanRefIdeal.τ).loc Cert.DscanRefIdeal.main_arg9))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Dhid (m : (ℓ : Loc Cert.Dhid.nD Cert.Dhid.τ Cert.Dhid.sig) → Buf (Elt Bits) ℓ) : Prop :=
  True

def Pre_DhidIdeal (m : (ℓ : Loc Cert.DhidIdeal.nD Cert.DhidIdeal.τ Cert.DhidIdeal.sig) → Buf (Elt Ideal) ℓ) : Prop :=
  True

def Pre_DhidRefIdeal (m : (ℓ : Loc Cert.DhidRefIdeal.nD Cert.DhidRefIdeal.τ Cert.DhidRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_Recin (m : (ℓ : Loc Cert.Recin.nD Cert.Recin.τ Cert.Recin.sig) → Buf (Elt Bits) ℓ) : Prop :=
  True

def Pre_RecinIdeal (m : (ℓ : Loc Cert.RecinIdeal.nD Cert.RecinIdeal.τ Cert.RecinIdeal.sig) → Buf (Elt Ideal) ℓ) : Prop :=
  True

def Pre_RecinRefIdeal (m : (ℓ : Loc Cert.RecinRefIdeal.nD Cert.RecinRefIdeal.τ Cert.RecinRefIdeal.sig) → Buf (Elt Ideal) ℓ) : Prop :=
  True

def Pre_Dwqkv (m : (ℓ : Loc Cert.Dwqkv.nD Cert.Dwqkv.τ Cert.Dwqkv.sig) → Buf (Elt Bits) ℓ) : Prop :=
  True

def Pre_DwqkvIdeal (m : (ℓ : Loc Cert.DwqkvIdeal.nD Cert.DwqkvIdeal.τ Cert.DwqkvIdeal.sig) → Buf (Elt Ideal) ℓ) : Prop :=
  True

def Pre_DwqkvRefIdeal (m : (ℓ : Loc Cert.DwqkvRefIdeal.nD Cert.DwqkvRefIdeal.τ Cert.DwqkvRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dwgate (m : (ℓ : Loc Cert.Dwgate.nD Cert.Dwgate.τ Cert.Dwgate.sig) → Buf (Elt Bits) ℓ) : Prop :=
  True

def Pre_DwgateIdeal (m : (ℓ : Loc Cert.DwgateIdeal.nD Cert.DwgateIdeal.τ Cert.DwgateIdeal.sig) → Buf (Elt Ideal) ℓ) : Prop :=
  True

def Pre_DwgateRefIdeal (m : (ℓ : Loc Cert.DwgateRefIdeal.nD Cert.DwgateRefIdeal.τ Cert.DwgateRefIdeal.sig) → Buf (Elt Ideal) ℓ) : Prop :=
  True

def Pre_Dwrest (m : (ℓ : Loc Cert.Dwrest.nD Cert.Dwrest.τ Cert.Dwrest.sig) → Buf (Elt Bits) ℓ) : Prop :=
  True

def Pre_DwrestIdeal (m : (ℓ : Loc Cert.DwrestIdeal.nD Cert.DwrestIdeal.τ Cert.DwrestIdeal.sig) → Buf (Elt Ideal) ℓ) : Prop :=
  True

def Pre_DwrestRefIdeal (m : (ℓ : Loc Cert.DwrestRefIdeal.nD Cert.DwrestRefIdeal.τ Cert.DwrestRefIdeal.sig) → Buf (Elt Ideal) ℓ) : Prop :=
  True

def Pre_Dhqkv (m : (ℓ : Loc Cert.Dhqkv.nD Cert.Dhqkv.τ Cert.Dhqkv.sig) → Buf (Elt Bits) ℓ) : Prop :=
  True

def Pre_DhqkvIdeal (m : (ℓ : Loc Cert.DhqkvIdeal.nD Cert.DhqkvIdeal.τ Cert.DhqkvIdeal.sig) → Buf (Elt Ideal) ℓ) : Prop :=
  True

def Pre_DhqkvRefIdeal (m : (ℓ : Loc Cert.DhqkvRefIdeal.nD Cert.DhqkvRefIdeal.τ Cert.DhqkvRefIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_Drec (m : (ℓ : Loc Cert.Drec.nD Cert.Drec.τ Cert.Drec.sig) → Buf (Elt Bits) ℓ) : Prop :=
  True

def Pre_DrecIdeal (m : (ℓ : Loc Cert.DrecIdeal.nD Cert.DrecIdeal.τ Cert.DrecIdeal.sig) → Buf (Elt Ideal) ℓ) : Prop :=
  True

def Pre_DrecRefIdeal (m : (ℓ : Loc Cert.DrecRefIdeal.nD Cert.DrecRefIdeal.τ Cert.DrecRefIdeal.sig) → Buf (Elt Ideal) ℓ) : Prop :=
  True

def quiescent_Dscan [hDscan : Cert.Dscan.Facts] : Prop :=
  ∀ (m : (ℓ : Loc Cert.Dscan.nD Cert.Dscan.τ Cert.Dscan.sig) → Buf (Elt Bits) ℓ) (g : Dev Cert.Dscan.nD → PrngReg), Pre_Dscan m →
    θ_run (Cert.Dscan.defs (F := Bits)) (onTc (τ := Cert.Dscan.τ) (Cert.Dscan.main (F := Bits))) ⟨m, fun _ => 0, g⟩ (fun r => (∀ c : Dev Cert.Dscan.nD,
      r.2.mem ((c.tc : Thread Cert.Dscan.nD Cert.Dscan.τ).loc Cert.Dscan.main_arg0) = m ((c.tc : Thread Cert.Dscan.nD Cert.Dscan.τ).loc Cert.Dscan.main_arg0)
      ∧ r.2.mem ((c.tc : Thread Cert.Dscan.nD Cert.Dscan.τ).loc Cert.Dscan.main_arg1) = m ((c.tc : Thread Cert.Dscan.nD Cert.Dscan.τ).loc Cert.Dscan.main_arg1)
      ∧ r.2.mem ((c.tc : Thread Cert.Dscan.nD Cert.Dscan.τ).loc Cert.Dscan.main_arg2) = m ((c.tc : Thread Cert.Dscan.nD Cert.Dscan.τ).loc Cert.Dscan.main_arg2)
      ∧ r.2.mem ((c.tc : Thread Cert.Dscan.nD Cert.Dscan.τ).loc Cert.Dscan.main_arg3) = m ((c.tc : Thread Cert.Dscan.nD Cert.Dscan.τ).loc Cert.Dscan.main_arg3)
      ∧ r.2.mem ((c.tc : Thread Cert.Dscan.nD Cert.Dscan.τ).loc Cert.Dscan.main_arg4) = m ((c.tc : Thread Cert.Dscan.nD Cert.Dscan.τ).loc Cert.Dscan.main_arg4)
      ∧ r.2.mem ((c.tc : Thread Cert.Dscan.nD Cert.Dscan.τ).loc Cert.Dscan.main_arg5) = m ((c.tc : Thread Cert.Dscan.nD Cert.Dscan.τ).loc Cert.Dscan.main_arg5)
      ∧ r.2.mem ((c.tc : Thread Cert.Dscan.nD Cert.Dscan.τ).loc Cert.Dscan.main_arg6) = m ((c.tc : Thread Cert.Dscan.nD Cert.Dscan.τ).loc Cert.Dscan.main_arg6)
      ∧ r.2.mem ((c.tc : Thread Cert.Dscan.nD Cert.Dscan.τ).loc Cert.Dscan.main_arg7) = m ((c.tc : Thread Cert.Dscan.nD Cert.Dscan.τ).loc Cert.Dscan.main_arg7)
      ∧ r.2.mem ((c.tc : Thread Cert.Dscan.nD Cert.Dscan.τ).loc Cert.Dscan.main_arg8) = m ((c.tc : Thread Cert.Dscan.nD Cert.Dscan.τ).loc Cert.Dscan.main_arg8)
      ∧ r.2.mem ((c.tc : Thread Cert.Dscan.nD Cert.Dscan.τ).loc Cert.Dscan.main_arg9) = m ((c.tc : Thread Cert.Dscan.nD Cert.Dscan.τ).loc Cert.Dscan.main_arg9))
      ∧ r.2.sem = fun _ => 0)

def quiescent_DscanIdeal [hDscanIdeal : Cert.DscanIdeal.Facts] : Prop :=
  ∀ (m : (ℓ : Loc Cert.DscanIdeal.nD Cert.DscanIdeal.τ Cert.DscanIdeal.sig) → Buf (Elt Ideal) ℓ) (g : Dev Cert.DscanIdeal.nD → PrngReg), Pre_DscanIdeal m →
    θ_run (Cert.DscanIdeal.defs (F := Ideal)) (onTc (τ := Cert.DscanIdeal.τ) (Cert.DscanIdeal.main (F := Ideal))) ⟨m, fun _ => 0, g⟩ (fun r => (∀ c : Dev Cert.DscanIdeal.nD,
      r.2.mem ((c.tc : Thread Cert.DscanIdeal.nD Cert.DscanIdeal.τ).loc Cert.DscanIdeal.main_arg0) = m ((c.tc : Thread Cert.DscanIdeal.nD Cert.DscanIdeal.τ).loc Cert.DscanIdeal.main_arg0)
      ∧ r.2.mem ((c.tc : Thread Cert.DscanIdeal.nD Cert.DscanIdeal.τ).loc Cert.DscanIdeal.main_arg1) = m ((c.tc : Thread Cert.DscanIdeal.nD Cert.DscanIdeal.τ).loc Cert.DscanIdeal.main_arg1)
      ∧ r.2.mem ((c.tc : Thread Cert.DscanIdeal.nD Cert.DscanIdeal.τ).loc Cert.DscanIdeal.main_arg2) = m ((c.tc : Thread Cert.DscanIdeal.nD Cert.DscanIdeal.τ).loc Cert.DscanIdeal.main_arg2)
      ∧ r.2.mem ((c.tc : Thread Cert.DscanIdeal.nD Cert.DscanIdeal.τ).loc Cert.DscanIdeal.main_arg3) = m ((c.tc : Thread Cert.DscanIdeal.nD Cert.DscanIdeal.τ).loc Cert.DscanIdeal.main_arg3)
      ∧ r.2.mem ((c.tc : Thread Cert.DscanIdeal.nD Cert.DscanIdeal.τ).loc Cert.DscanIdeal.main_arg4) = m ((c.tc : Thread Cert.DscanIdeal.nD Cert.DscanIdeal.τ).loc Cert.DscanIdeal.main_arg4)
      ∧ r.2.mem ((c.tc : Thread Cert.DscanIdeal.nD Cert.DscanIdeal.τ).loc Cert.DscanIdeal.main_arg5) = m ((c.tc : Thread Cert.DscanIdeal.nD Cert.DscanIdeal.τ).loc Cert.DscanIdeal.main_arg5)
      ∧ r.2.mem ((c.tc : Thread Cert.DscanIdeal.nD Cert.DscanIdeal.τ).loc Cert.DscanIdeal.main_arg6) = m ((c.tc : Thread Cert.DscanIdeal.nD Cert.DscanIdeal.τ).loc Cert.DscanIdeal.main_arg6)
      ∧ r.2.mem ((c.tc : Thread Cert.DscanIdeal.nD Cert.DscanIdeal.τ).loc Cert.DscanIdeal.main_arg7) = m ((c.tc : Thread Cert.DscanIdeal.nD Cert.DscanIdeal.τ).loc Cert.DscanIdeal.main_arg7)
      ∧ r.2.mem ((c.tc : Thread Cert.DscanIdeal.nD Cert.DscanIdeal.τ).loc Cert.DscanIdeal.main_arg8) = m ((c.tc : Thread Cert.DscanIdeal.nD Cert.DscanIdeal.τ).loc Cert.DscanIdeal.main_arg8)
      ∧ r.2.mem ((c.tc : Thread Cert.DscanIdeal.nD Cert.DscanIdeal.τ).loc Cert.DscanIdeal.main_arg9) = m ((c.tc : Thread Cert.DscanIdeal.nD Cert.DscanIdeal.τ).loc Cert.DscanIdeal.main_arg9))
      ∧ r.2.sem = fun _ => 0)

def quiescent_DscanIdeal_pre_finite_scan [hDscanIdeal : Cert.DscanIdeal.Facts] [hPre_finite_scan : Cert.Pre_finite_scan.Facts] : Prop :=
  ∀ (m : (ℓ : Loc Cert.DscanIdeal.nD Cert.DscanIdeal.τ Cert.DscanIdeal.sig) → Buf (Elt Ideal) ℓ) (g : Dev Cert.DscanIdeal.nD → PrngReg), Pre_DscanIdeal_finite_scan m →
    θ_run (Cert.DscanIdeal.defs (F := Ideal)) (onTc (τ := Cert.DscanIdeal.τ) (Cert.DscanIdeal.main (F := Ideal))) ⟨m, fun _ => 0, g⟩ (fun r => (∀ c : Dev Cert.DscanIdeal.nD,
      r.2.mem ((c.tc : Thread Cert.DscanIdeal.nD Cert.DscanIdeal.τ).loc Cert.DscanIdeal.main_arg0) = m ((c.tc : Thread Cert.DscanIdeal.nD Cert.DscanIdeal.τ).loc Cert.DscanIdeal.main_arg0)
      ∧ r.2.mem ((c.tc : Thread Cert.DscanIdeal.nD Cert.DscanIdeal.τ).loc Cert.DscanIdeal.main_arg1) = m ((c.tc : Thread Cert.DscanIdeal.nD Cert.DscanIdeal.τ).loc Cert.DscanIdeal.main_arg1)
      ∧ r.2.mem ((c.tc : Thread Cert.DscanIdeal.nD Cert.DscanIdeal.τ).loc Cert.DscanIdeal.main_arg2) = m ((c.tc : Thread Cert.DscanIdeal.nD Cert.DscanIdeal.τ).loc Cert.DscanIdeal.main_arg2)
      ∧ r.2.mem ((c.tc : Thread Cert.DscanIdeal.nD Cert.DscanIdeal.τ).loc Cert.DscanIdeal.main_arg3) = m ((c.tc : Thread Cert.DscanIdeal.nD Cert.DscanIdeal.τ).loc Cert.DscanIdeal.main_arg3)
      ∧ r.2.mem ((c.tc : Thread Cert.DscanIdeal.nD Cert.DscanIdeal.τ).loc Cert.DscanIdeal.main_arg4) = m ((c.tc : Thread Cert.DscanIdeal.nD Cert.DscanIdeal.τ).loc Cert.DscanIdeal.main_arg4)
      ∧ r.2.mem ((c.tc : Thread Cert.DscanIdeal.nD Cert.DscanIdeal.τ).loc Cert.DscanIdeal.main_arg5) = m ((c.tc : Thread Cert.DscanIdeal.nD Cert.DscanIdeal.τ).loc Cert.DscanIdeal.main_arg5)
      ∧ r.2.mem ((c.tc : Thread Cert.DscanIdeal.nD Cert.DscanIdeal.τ).loc Cert.DscanIdeal.main_arg6) = m ((c.tc : Thread Cert.DscanIdeal.nD Cert.DscanIdeal.τ).loc Cert.DscanIdeal.main_arg6)
      ∧ r.2.mem ((c.tc : Thread Cert.DscanIdeal.nD Cert.DscanIdeal.τ).loc Cert.DscanIdeal.main_arg7) = m ((c.tc : Thread Cert.DscanIdeal.nD Cert.DscanIdeal.τ).loc Cert.DscanIdeal.main_arg7)
      ∧ r.2.mem ((c.tc : Thread Cert.DscanIdeal.nD Cert.DscanIdeal.τ).loc Cert.DscanIdeal.main_arg8) = m ((c.tc : Thread Cert.DscanIdeal.nD Cert.DscanIdeal.τ).loc Cert.DscanIdeal.main_arg8)
      ∧ r.2.mem ((c.tc : Thread Cert.DscanIdeal.nD Cert.DscanIdeal.τ).loc Cert.DscanIdeal.main_arg9) = m ((c.tc : Thread Cert.DscanIdeal.nD Cert.DscanIdeal.τ).loc Cert.DscanIdeal.main_arg9))
      ∧ r.2.sem = fun _ => 0)

def quiescent_DscanRefIdeal [hDscanRefIdeal : Cert.DscanRefIdeal.Facts] : Prop :=
  ∀ (m : (ℓ : Loc Cert.DscanRefIdeal.nD Cert.DscanRefIdeal.τ Cert.DscanRefIdeal.sig) → Buf (Elt Ideal) ℓ) (g : Dev Cert.DscanRefIdeal.nD → PrngReg), Pre_DscanRefIdeal m →
    θ_run (Cert.DscanRefIdeal.defs (F := Ideal)) (onTc (τ := Cert.DscanRefIdeal.τ) (Cert.DscanRefIdeal.main (F := Ideal))) ⟨m, fun _ => 0, g⟩ (fun r => (∀ c : Dev Cert.DscanRefIdeal.nD,
      r.2.mem ((c.tc : Thread Cert.DscanRefIdeal.nD Cert.DscanRefIdeal.τ).loc Cert.DscanRefIdeal.main_arg0) = m ((c.tc : Thread Cert.DscanRefIdeal.nD Cert.DscanRefIdeal.τ).loc Cert.DscanRefIdeal.main_arg0)
      ∧ r.2.mem ((c.tc : Thread Cert.DscanRefIdeal.nD Cert.DscanRefIdeal.τ).loc Cert.DscanRefIdeal.main_arg1) = m ((c.tc : Thread Cert.DscanRefIdeal.nD Cert.DscanRefIdeal.τ).loc Cert.DscanRefIdeal.main_arg1)
      ∧ r.2.mem ((c.tc : Thread Cert.DscanRefIdeal.nD Cert.DscanRefIdeal.τ).loc Cert.DscanRefIdeal.main_arg2) = m ((c.tc : Thread Cert.DscanRefIdeal.nD Cert.DscanRefIdeal.τ).loc Cert.DscanRefIdeal.main_arg2)
      ∧ r.2.mem ((c.tc : Thread Cert.DscanRefIdeal.nD Cert.DscanRefIdeal.τ).loc Cert.DscanRefIdeal.main_arg3) = m ((c.tc : Thread Cert.DscanRefIdeal.nD Cert.DscanRefIdeal.τ).loc Cert.DscanRefIdeal.main_arg3)
      ∧ r.2.mem ((c.tc : Thread Cert.DscanRefIdeal.nD Cert.DscanRefIdeal.τ).loc Cert.DscanRefIdeal.main_arg4) = m ((c.tc : Thread Cert.DscanRefIdeal.nD Cert.DscanRefIdeal.τ).loc Cert.DscanRefIdeal.main_arg4)
      ∧ r.2.mem ((c.tc : Thread Cert.DscanRefIdeal.nD Cert.DscanRefIdeal.τ).loc Cert.DscanRefIdeal.main_arg5) = m ((c.tc : Thread Cert.DscanRefIdeal.nD Cert.DscanRefIdeal.τ).loc Cert.DscanRefIdeal.main_arg5)
      ∧ r.2.mem ((c.tc : Thread Cert.DscanRefIdeal.nD Cert.DscanRefIdeal.τ).loc Cert.DscanRefIdeal.main_arg6) = m ((c.tc : Thread Cert.DscanRefIdeal.nD Cert.DscanRefIdeal.τ).loc Cert.DscanRefIdeal.main_arg6)
      ∧ r.2.mem ((c.tc : Thread Cert.DscanRefIdeal.nD Cert.DscanRefIdeal.τ).loc Cert.DscanRefIdeal.main_arg7) = m ((c.tc : Thread Cert.DscanRefIdeal.nD Cert.DscanRefIdeal.τ).loc Cert.DscanRefIdeal.main_arg7)
      ∧ r.2.mem ((c.tc : Thread Cert.DscanRefIdeal.nD Cert.DscanRefIdeal.τ).loc Cert.DscanRefIdeal.main_arg8) = m ((c.tc : Thread Cert.DscanRefIdeal.nD Cert.DscanRefIdeal.τ).loc Cert.DscanRefIdeal.main_arg8)
      ∧ r.2.mem ((c.tc : Thread Cert.DscanRefIdeal.nD Cert.DscanRefIdeal.τ).loc Cert.DscanRefIdeal.main_arg9) = m ((c.tc : Thread Cert.DscanRefIdeal.nD Cert.DscanRefIdeal.τ).loc Cert.DscanRefIdeal.main_arg9))
      ∧ r.2.sem = fun _ => 0)

def quiescent_DscanRefIdeal_pre_finite_scan [hDscanRefIdeal : Cert.DscanRefIdeal.Facts] [hPre_finite_scan : Cert.Pre_finite_scan.Facts] : Prop :=
  ∀ (m : (ℓ : Loc Cert.DscanRefIdeal.nD Cert.DscanRefIdeal.τ Cert.DscanRefIdeal.sig) → Buf (Elt Ideal) ℓ) (g : Dev Cert.DscanRefIdeal.nD → PrngReg), Pre_DscanRefIdeal_finite_scan m →
    θ_run (Cert.DscanRefIdeal.defs (F := Ideal)) (onTc (τ := Cert.DscanRefIdeal.τ) (Cert.DscanRefIdeal.main (F := Ideal))) ⟨m, fun _ => 0, g⟩ (fun r => (∀ c : Dev Cert.DscanRefIdeal.nD,
      r.2.mem ((c.tc : Thread Cert.DscanRefIdeal.nD Cert.DscanRefIdeal.τ).loc Cert.DscanRefIdeal.main_arg0) = m ((c.tc : Thread Cert.DscanRefIdeal.nD Cert.DscanRefIdeal.τ).loc Cert.DscanRefIdeal.main_arg0)
      ∧ r.2.mem ((c.tc : Thread Cert.DscanRefIdeal.nD Cert.DscanRefIdeal.τ).loc Cert.DscanRefIdeal.main_arg1) = m ((c.tc : Thread Cert.DscanRefIdeal.nD Cert.DscanRefIdeal.τ).loc Cert.DscanRefIdeal.main_arg1)
      ∧ r.2.mem ((c.tc : Thread Cert.DscanRefIdeal.nD Cert.DscanRefIdeal.τ).loc Cert.DscanRefIdeal.main_arg2) = m ((c.tc : Thread Cert.DscanRefIdeal.nD Cert.DscanRefIdeal.τ).loc Cert.DscanRefIdeal.main_arg2)
      ∧ r.2.mem ((c.tc : Thread Cert.DscanRefIdeal.nD Cert.DscanRefIdeal.τ).loc Cert.DscanRefIdeal.main_arg3) = m ((c.tc : Thread Cert.DscanRefIdeal.nD Cert.DscanRefIdeal.τ).loc Cert.DscanRefIdeal.main_arg3)
      ∧ r.2.mem ((c.tc : Thread Cert.DscanRefIdeal.nD Cert.DscanRefIdeal.τ).loc Cert.DscanRefIdeal.main_arg4) = m ((c.tc : Thread Cert.DscanRefIdeal.nD Cert.DscanRefIdeal.τ).loc Cert.DscanRefIdeal.main_arg4)
      ∧ r.2.mem ((c.tc : Thread Cert.DscanRefIdeal.nD Cert.DscanRefIdeal.τ).loc Cert.DscanRefIdeal.main_arg5) = m ((c.tc : Thread Cert.DscanRefIdeal.nD Cert.DscanRefIdeal.τ).loc Cert.DscanRefIdeal.main_arg5)
      ∧ r.2.mem ((c.tc : Thread Cert.DscanRefIdeal.nD Cert.DscanRefIdeal.τ).loc Cert.DscanRefIdeal.main_arg6) = m ((c.tc : Thread Cert.DscanRefIdeal.nD Cert.DscanRefIdeal.τ).loc Cert.DscanRefIdeal.main_arg6)
      ∧ r.2.mem ((c.tc : Thread Cert.DscanRefIdeal.nD Cert.DscanRefIdeal.τ).loc Cert.DscanRefIdeal.main_arg7) = m ((c.tc : Thread Cert.DscanRefIdeal.nD Cert.DscanRefIdeal.τ).loc Cert.DscanRefIdeal.main_arg7)
      ∧ r.2.mem ((c.tc : Thread Cert.DscanRefIdeal.nD Cert.DscanRefIdeal.τ).loc Cert.DscanRefIdeal.main_arg8) = m ((c.tc : Thread Cert.DscanRefIdeal.nD Cert.DscanRefIdeal.τ).loc Cert.DscanRefIdeal.main_arg8)
      ∧ r.2.mem ((c.tc : Thread Cert.DscanRefIdeal.nD Cert.DscanRefIdeal.τ).loc Cert.DscanRefIdeal.main_arg9) = m ((c.tc : Thread Cert.DscanRefIdeal.nD Cert.DscanRefIdeal.τ).loc Cert.DscanRefIdeal.main_arg9))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1))
      ∧ r.2.sem = fun _ => 0)

def quiescent_Dhid [hDhid : Cert.Dhid.Facts] : Prop :=
  ∀ (m : (ℓ : Loc Cert.Dhid.nD Cert.Dhid.τ Cert.Dhid.sig) → Buf (Elt Bits) ℓ) (g : Dev Cert.Dhid.nD → PrngReg), Pre_Dhid m →
    θ_run (Cert.Dhid.defs (F := Bits)) (onTc (τ := Cert.Dhid.τ) (Cert.Dhid.main (F := Bits))) ⟨m, fun _ => 0, g⟩ (fun r => (∀ c : Dev Cert.Dhid.nD,
      r.2.mem ((c.tc : Thread Cert.Dhid.nD Cert.Dhid.τ).loc Cert.Dhid.main_arg0) = m ((c.tc : Thread Cert.Dhid.nD Cert.Dhid.τ).loc Cert.Dhid.main_arg0)
      ∧ r.2.mem ((c.tc : Thread Cert.Dhid.nD Cert.Dhid.τ).loc Cert.Dhid.main_arg1) = m ((c.tc : Thread Cert.Dhid.nD Cert.Dhid.τ).loc Cert.Dhid.main_arg1)
      ∧ r.2.mem ((c.tc : Thread Cert.Dhid.nD Cert.Dhid.τ).loc Cert.Dhid.main_arg2) = m ((c.tc : Thread Cert.Dhid.nD Cert.Dhid.τ).loc Cert.Dhid.main_arg2)
      ∧ r.2.mem ((c.tc : Thread Cert.Dhid.nD Cert.Dhid.τ).loc Cert.Dhid.main_arg3) = m ((c.tc : Thread Cert.Dhid.nD Cert.Dhid.τ).loc Cert.Dhid.main_arg3))
      ∧ r.2.sem = fun _ => 0)

def quiescent_DhidIdeal [hDhidIdeal : Cert.DhidIdeal.Facts] : Prop :=
  ∀ (m : (ℓ : Loc Cert.DhidIdeal.nD Cert.DhidIdeal.τ Cert.DhidIdeal.sig) → Buf (Elt Ideal) ℓ) (g : Dev Cert.DhidIdeal.nD → PrngReg), Pre_DhidIdeal m →
    θ_run (Cert.DhidIdeal.defs (F := Ideal)) (onTc (τ := Cert.DhidIdeal.τ) (Cert.DhidIdeal.main (F := Ideal))) ⟨m, fun _ => 0, g⟩ (fun r => (∀ c : Dev Cert.DhidIdeal.nD,
      r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
      ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1)
      ∧ r.2.mem ((c.tc : Thread Cert.DhidIdeal.nD Cert.DhidIdeal.τ).loc Cert.DhidIdeal.main_arg2) = m ((c.tc : Thread Cert.DhidIdeal.nD Cert.DhidIdeal.τ).loc Cert.DhidIdeal.main_arg2)
      ∧ r.2.mem ((c.tc : Thread Cert.DhidIdeal.nD Cert.DhidIdeal.τ).loc Cert.DhidIdeal.main_arg3) = m ((c.tc : Thread Cert.DhidIdeal.nD Cert.DhidIdeal.τ).loc Cert.DhidIdeal.main_arg3))
      ∧ r.2.sem = fun _ => 0)

def quiescent_DhidRefIdeal [hDhidRefIdeal : Cert.DhidRefIdeal.Facts] : Prop :=
  ∀ (m : (ℓ : Loc Cert.DhidRefIdeal.nD Cert.DhidRefIdeal.τ Cert.DhidRefIdeal.sig) → Buf (Elt Ideal) ℓ) (g : Dev Cert.DhidRefIdeal.nD → PrngReg), Pre_DhidRefIdeal m →
    θ_run (Cert.DhidRefIdeal.defs (F := Ideal)) (onTc (τ := Cert.DhidRefIdeal.τ) (Cert.DhidRefIdeal.main (F := Ideal))) ⟨m, fun _ => 0, g⟩ (fun r => (∀ c : Dev Cert.DhidRefIdeal.nD,
      r.2.mem ((c.tc : Thread Cert.DhidRefIdeal.nD Cert.DhidRefIdeal.τ).loc Cert.DhidRefIdeal.main_arg0) = m ((c.tc : Thread Cert.DhidRefIdeal.nD Cert.DhidRefIdeal.τ).loc Cert.DhidRefIdeal.main_arg0)
      ∧ r.2.mem ((c.tc : Thread Cert.DhidRefIdeal.nD Cert.DhidRefIdeal.τ).loc Cert.DhidRefIdeal.main_arg1) = m ((c.tc : Thread Cert.DhidRefIdeal.nD Cert.DhidRefIdeal.τ).loc Cert.DhidRefIdeal.main_arg1)
      ∧ r.2.mem ((c.tc : Thread Cert.DhidRefIdeal.nD Cert.DhidRefIdeal.τ).loc Cert.DhidRefIdeal.main_arg2) = m ((c.tc : Thread Cert.DhidRefIdeal.nD Cert.DhidRefIdeal.τ).loc Cert.DhidRefIdeal.main_arg2)
      ∧ r.2.mem ((c.tc : Thread Cert.DhidRefIdeal.nD Cert.DhidRefIdeal.τ).loc Cert.DhidRefIdeal.main_arg3) = m ((c.tc : Thread Cert.DhidRefIdeal.nD Cert.DhidRefIdeal.τ).loc Cert.DhidRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1))
      ∧ r.2.sem = fun _ => 0)

def quiescent_Recin [hRecin : Cert.Recin.Facts] : Prop :=
  ∀ (m : (ℓ : Loc Cert.Recin.nD Cert.Recin.τ Cert.Recin.sig) → Buf (Elt Bits) ℓ) (g : Dev Cert.Recin.nD → PrngReg), Pre_Recin m →
    θ_run (Cert.Recin.defs (F := Bits)) (onTc (τ := Cert.Recin.τ) (Cert.Recin.main (F := Bits))) ⟨m, fun _ => 0, g⟩ (fun r => (∀ c : Dev Cert.Recin.nD,
      r.2.mem ((c.tc : Thread Cert.Recin.nD Cert.Recin.τ).loc Cert.Recin.main_arg0) = m ((c.tc : Thread Cert.Recin.nD Cert.Recin.τ).loc Cert.Recin.main_arg0)
      ∧ r.2.mem ((c.tc : Thread Cert.Recin.nD Cert.Recin.τ).loc Cert.Recin.main_arg1) = m ((c.tc : Thread Cert.Recin.nD Cert.Recin.τ).loc Cert.Recin.main_arg1))
      ∧ r.2.sem = fun _ => 0)

def quiescent_RecinIdeal [hRecinIdeal : Cert.RecinIdeal.Facts] : Prop :=
  ∀ (m : (ℓ : Loc Cert.RecinIdeal.nD Cert.RecinIdeal.τ Cert.RecinIdeal.sig) → Buf (Elt Ideal) ℓ) (g : Dev Cert.RecinIdeal.nD → PrngReg), Pre_RecinIdeal m →
    θ_run (Cert.RecinIdeal.defs (F := Ideal)) (onTc (τ := Cert.RecinIdeal.τ) (Cert.RecinIdeal.main (F := Ideal))) ⟨m, fun _ => 0, g⟩ (fun r => (∀ c : Dev Cert.RecinIdeal.nD,
      r.2.mem ((c.tc : Thread Cert.RecinIdeal.nD Cert.RecinIdeal.τ).loc Cert.RecinIdeal.main_arg0) = m ((c.tc : Thread Cert.RecinIdeal.nD Cert.RecinIdeal.τ).loc Cert.RecinIdeal.main_arg0)
      ∧ r.2.mem ((c.tc : Thread Cert.RecinIdeal.nD Cert.RecinIdeal.τ).loc Cert.RecinIdeal.main_arg1) = m ((c.tc : Thread Cert.RecinIdeal.nD Cert.RecinIdeal.τ).loc Cert.RecinIdeal.main_arg1))
      ∧ r.2.sem = fun _ => 0)

def quiescent_RecinRefIdeal [hRecinRefIdeal : Cert.RecinRefIdeal.Facts] : Prop :=
  ∀ (m : (ℓ : Loc Cert.RecinRefIdeal.nD Cert.RecinRefIdeal.τ Cert.RecinRefIdeal.sig) → Buf (Elt Ideal) ℓ) (g : Dev Cert.RecinRefIdeal.nD → PrngReg), Pre_RecinRefIdeal m →
    θ_run (Cert.RecinRefIdeal.defs (F := Ideal)) (onTc (τ := Cert.RecinRefIdeal.τ) (Cert.RecinRefIdeal.main (F := Ideal))) ⟨m, fun _ => 0, g⟩ (fun r => (∀ c : Dev Cert.RecinRefIdeal.nD,
      r.2.mem ((c.tc : Thread Cert.RecinRefIdeal.nD Cert.RecinRefIdeal.τ).loc Cert.RecinRefIdeal.main_arg0) = m ((c.tc : Thread Cert.RecinRefIdeal.nD Cert.RecinRefIdeal.τ).loc Cert.RecinRefIdeal.main_arg0)
      ∧ r.2.mem ((c.tc : Thread Cert.RecinRefIdeal.nD Cert.RecinRefIdeal.τ).loc Cert.RecinRefIdeal.main_arg1) = m ((c.tc : Thread Cert.RecinRefIdeal.nD Cert.RecinRefIdeal.τ).loc Cert.RecinRefIdeal.main_arg1))
      ∧ r.2.sem = fun _ => 0)

def quiescent_Dwqkv [hDwqkv : Cert.Dwqkv.Facts] : Prop :=
  ∀ (m : (ℓ : Loc Cert.Dwqkv.nD Cert.Dwqkv.τ Cert.Dwqkv.sig) → Buf (Elt Bits) ℓ) (g : Dev Cert.Dwqkv.nD → PrngReg), Pre_Dwqkv m →
    θ_run (Cert.Dwqkv.defs (F := Bits)) (onTc (τ := Cert.Dwqkv.τ) (Cert.Dwqkv.main (F := Bits))) ⟨m, fun _ => 0, g⟩ (fun r => (∀ c : Dev Cert.Dwqkv.nD,
      r.2.mem ((c.tc : Thread Cert.Dwqkv.nD Cert.Dwqkv.τ).loc Cert.Dwqkv.main_arg0) = m ((c.tc : Thread Cert.Dwqkv.nD Cert.Dwqkv.τ).loc Cert.Dwqkv.main_arg0)
      ∧ r.2.mem ((c.tc : Thread Cert.Dwqkv.nD Cert.Dwqkv.τ).loc Cert.Dwqkv.main_arg1) = m ((c.tc : Thread Cert.Dwqkv.nD Cert.Dwqkv.τ).loc Cert.Dwqkv.main_arg1))
      ∧ r.2.sem = fun _ => 0)

def quiescent_DwqkvIdeal [hDwqkvIdeal : Cert.DwqkvIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg), Pre_DwqkvIdeal m →
    θ_run (Cert.DwqkvIdeal.defs (F := Ideal)) (onTc (τ := Cert.DwqkvIdeal.τ) (Cert.DwqkvIdeal.main (F := Ideal))) ⟨m, fun _ => 0, g⟩ (fun r => (∀ c : Dev Cert.DwqkvIdeal.nD,
      r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
      ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1))
      ∧ r.2.sem = fun _ => 0)

def quiescent_DwqkvRefIdeal [hDwqkvRefIdeal : Cert.DwqkvRefIdeal.Facts] : Prop :=
  ∀ (m : (ℓ : Loc Cert.DwqkvRefIdeal.nD Cert.DwqkvRefIdeal.τ Cert.DwqkvRefIdeal.sig) → Buf (Elt Ideal) ℓ) (g : Dev Cert.DwqkvRefIdeal.nD → PrngReg), Pre_DwqkvRefIdeal m →
    θ_run (Cert.DwqkvRefIdeal.defs (F := Ideal)) (onTc (τ := Cert.DwqkvRefIdeal.τ) (Cert.DwqkvRefIdeal.main (F := Ideal))) ⟨m, fun _ => 0, g⟩ (fun r => (∀ c : Dev Cert.DwqkvRefIdeal.nD,
      r.2.mem ((c.tc : Thread Cert.DwqkvRefIdeal.nD Cert.DwqkvRefIdeal.τ).loc Cert.DwqkvRefIdeal.main_arg0) = m ((c.tc : Thread Cert.DwqkvRefIdeal.nD Cert.DwqkvRefIdeal.τ).loc Cert.DwqkvRefIdeal.main_arg0)
      ∧ r.2.mem ((c.tc : Thread Cert.DwqkvRefIdeal.nD Cert.DwqkvRefIdeal.τ).loc Cert.DwqkvRefIdeal.main_arg1) = m ((c.tc : Thread Cert.DwqkvRefIdeal.nD Cert.DwqkvRefIdeal.τ).loc Cert.DwqkvRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dwgate [hDwgate : Cert.Dwgate.Facts] : Prop :=
  ∀ (m : (ℓ : Loc Cert.Dwgate.nD Cert.Dwgate.τ Cert.Dwgate.sig) → Buf (Elt Bits) ℓ) (g : Dev Cert.Dwgate.nD → PrngReg), Pre_Dwgate m →
    θ_run (Cert.Dwgate.defs (F := Bits)) (onTc (τ := Cert.Dwgate.τ) (Cert.Dwgate.main (F := Bits))) ⟨m, fun _ => 0, g⟩ (fun r => (∀ c : Dev Cert.Dwgate.nD,
      r.2.mem ((c.tc : Thread Cert.Dwgate.nD Cert.Dwgate.τ).loc Cert.Dwgate.main_arg0) = m ((c.tc : Thread Cert.Dwgate.nD Cert.Dwgate.τ).loc Cert.Dwgate.main_arg0)
      ∧ r.2.mem ((c.tc : Thread Cert.Dwgate.nD Cert.Dwgate.τ).loc Cert.Dwgate.main_arg1) = m ((c.tc : Thread Cert.Dwgate.nD Cert.Dwgate.τ).loc Cert.Dwgate.main_arg1))
      ∧ r.2.sem = fun _ => 0)

def quiescent_DwgateIdeal [hDwgateIdeal : Cert.DwgateIdeal.Facts] : Prop :=
  ∀ (m : (ℓ : Loc Cert.DwgateIdeal.nD Cert.DwgateIdeal.τ Cert.DwgateIdeal.sig) → Buf (Elt Ideal) ℓ) (g : Dev Cert.DwgateIdeal.nD → PrngReg), Pre_DwgateIdeal m →
    θ_run (Cert.DwgateIdeal.defs (F := Ideal)) (onTc (τ := Cert.DwgateIdeal.τ) (Cert.DwgateIdeal.main (F := Ideal))) ⟨m, fun _ => 0, g⟩ (fun r => (∀ c : Dev Cert.DwgateIdeal.nD,
      r.2.mem ((c.tc : Thread Cert.DwgateIdeal.nD Cert.DwgateIdeal.τ).loc Cert.DwgateIdeal.main_arg0) = m ((c.tc : Thread Cert.DwgateIdeal.nD Cert.DwgateIdeal.τ).loc Cert.DwgateIdeal.main_arg0)
      ∧ r.2.mem ((c.tc : Thread Cert.DwgateIdeal.nD Cert.DwgateIdeal.τ).loc Cert.DwgateIdeal.main_arg1) = m ((c.tc : Thread Cert.DwgateIdeal.nD Cert.DwgateIdeal.τ).loc Cert.DwgateIdeal.main_arg1))
      ∧ r.2.sem = fun _ => 0)

def quiescent_DwgateRefIdeal [hDwgateRefIdeal : Cert.DwgateRefIdeal.Facts] : Prop :=
  ∀ (m : (ℓ : Loc Cert.DwgateRefIdeal.nD Cert.DwgateRefIdeal.τ Cert.DwgateRefIdeal.sig) → Buf (Elt Ideal) ℓ) (g : Dev Cert.DwgateRefIdeal.nD → PrngReg), Pre_DwgateRefIdeal m →
    θ_run (Cert.DwgateRefIdeal.defs (F := Ideal)) (onTc (τ := Cert.DwgateRefIdeal.τ) (Cert.DwgateRefIdeal.main (F := Ideal))) ⟨m, fun _ => 0, g⟩ (fun r => (∀ c : Dev Cert.DwgateRefIdeal.nD,
      r.2.mem ((c.tc : Thread Cert.DwgateRefIdeal.nD Cert.DwgateRefIdeal.τ).loc Cert.DwgateRefIdeal.main_arg0) = m ((c.tc : Thread Cert.DwgateRefIdeal.nD Cert.DwgateRefIdeal.τ).loc Cert.DwgateRefIdeal.main_arg0)
      ∧ r.2.mem ((c.tc : Thread Cert.DwgateRefIdeal.nD Cert.DwgateRefIdeal.τ).loc Cert.DwgateRefIdeal.main_arg1) = m ((c.tc : Thread Cert.DwgateRefIdeal.nD Cert.DwgateRefIdeal.τ).loc Cert.DwgateRefIdeal.main_arg1))
      ∧ r.2.sem = fun _ => 0)

def quiescent_Dwrest [hDwrest : Cert.Dwrest.Facts] : Prop :=
  ∀ (m : (ℓ : Loc Cert.Dwrest.nD Cert.Dwrest.τ Cert.Dwrest.sig) → Buf (Elt Bits) ℓ) (g : Dev Cert.Dwrest.nD → PrngReg), Pre_Dwrest m →
    θ_run (Cert.Dwrest.defs (F := Bits)) (onTc (τ := Cert.Dwrest.τ) (Cert.Dwrest.main (F := Bits))) ⟨m, fun _ => 0, g⟩ (fun r => (∀ c : Dev Cert.Dwrest.nD,
      r.2.mem ((c.tc : Thread Cert.Dwrest.nD Cert.Dwrest.τ).loc Cert.Dwrest.main_arg0) = m ((c.tc : Thread Cert.Dwrest.nD Cert.Dwrest.τ).loc Cert.Dwrest.main_arg0)
      ∧ r.2.mem ((c.tc : Thread Cert.Dwrest.nD Cert.Dwrest.τ).loc Cert.Dwrest.main_arg1) = m ((c.tc : Thread Cert.Dwrest.nD Cert.Dwrest.τ).loc Cert.Dwrest.main_arg1))
      ∧ r.2.sem = fun _ => 0)

def quiescent_DwrestIdeal [hDwrestIdeal : Cert.DwrestIdeal.Facts] : Prop :=
  ∀ (m : (ℓ : Loc Cert.DwrestIdeal.nD Cert.DwrestIdeal.τ Cert.DwrestIdeal.sig) → Buf (Elt Ideal) ℓ) (g : Dev Cert.DwrestIdeal.nD → PrngReg), Pre_DwrestIdeal m →
    θ_run (Cert.DwrestIdeal.defs (F := Ideal)) (onTc (τ := Cert.DwrestIdeal.τ) (Cert.DwrestIdeal.main (F := Ideal))) ⟨m, fun _ => 0, g⟩ (fun r => (∀ c : Dev Cert.DwrestIdeal.nD,
      r.2.mem ((c.tc : Thread Cert.DwrestIdeal.nD Cert.DwrestIdeal.τ).loc Cert.DwrestIdeal.main_arg0) = m ((c.tc : Thread Cert.DwrestIdeal.nD Cert.DwrestIdeal.τ).loc Cert.DwrestIdeal.main_arg0)
      ∧ r.2.mem ((c.tc : Thread Cert.DwrestIdeal.nD Cert.DwrestIdeal.τ).loc Cert.DwrestIdeal.main_arg1) = m ((c.tc : Thread Cert.DwrestIdeal.nD Cert.DwrestIdeal.τ).loc Cert.DwrestIdeal.main_arg1))
      ∧ r.2.sem = fun _ => 0)

def quiescent_DwrestRefIdeal [hDwrestRefIdeal : Cert.DwrestRefIdeal.Facts] : Prop :=
  ∀ (m : (ℓ : Loc Cert.DwrestRefIdeal.nD Cert.DwrestRefIdeal.τ Cert.DwrestRefIdeal.sig) → Buf (Elt Ideal) ℓ) (g : Dev Cert.DwrestRefIdeal.nD → PrngReg), Pre_DwrestRefIdeal m →
    θ_run (Cert.DwrestRefIdeal.defs (F := Ideal)) (onTc (τ := Cert.DwrestRefIdeal.τ) (Cert.DwrestRefIdeal.main (F := Ideal))) ⟨m, fun _ => 0, g⟩ (fun r => (∀ c : Dev Cert.DwrestRefIdeal.nD,
      r.2.mem ((c.tc : Thread Cert.DwrestRefIdeal.nD Cert.DwrestRefIdeal.τ).loc Cert.DwrestRefIdeal.main_arg0) = m ((c.tc : Thread Cert.DwrestRefIdeal.nD Cert.DwrestRefIdeal.τ).loc Cert.DwrestRefIdeal.main_arg0)
      ∧ r.2.mem ((c.tc : Thread Cert.DwrestRefIdeal.nD Cert.DwrestRefIdeal.τ).loc Cert.DwrestRefIdeal.main_arg1) = m ((c.tc : Thread Cert.DwrestRefIdeal.nD Cert.DwrestRefIdeal.τ).loc Cert.DwrestRefIdeal.main_arg1))
      ∧ r.2.sem = fun _ => 0)

def quiescent_Dhqkv [hDhqkv : Cert.Dhqkv.Facts] : Prop :=
  ∀ (m : (ℓ : Loc Cert.Dhqkv.nD Cert.Dhqkv.τ Cert.Dhqkv.sig) → Buf (Elt Bits) ℓ) (g : Dev Cert.Dhqkv.nD → PrngReg), Pre_Dhqkv m →
    θ_run (Cert.Dhqkv.defs (F := Bits)) (onTc (τ := Cert.Dhqkv.τ) (Cert.Dhqkv.main (F := Bits))) ⟨m, fun _ => 0, g⟩ (fun r => (∀ c : Dev Cert.Dhqkv.nD,
      r.2.mem ((c.tc : Thread Cert.Dhqkv.nD Cert.Dhqkv.τ).loc Cert.Dhqkv.main_arg0) = m ((c.tc : Thread Cert.Dhqkv.nD Cert.Dhqkv.τ).loc Cert.Dhqkv.main_arg0)
      ∧ r.2.mem ((c.tc : Thread Cert.Dhqkv.nD Cert.Dhqkv.τ).loc Cert.Dhqkv.main_arg1) = m ((c.tc : Thread Cert.Dhqkv.nD Cert.Dhqkv.τ).loc Cert.Dhqkv.main_arg1))
      ∧ r.2.sem = fun _ => 0)

def quiescent_DhqkvIdeal [hDhqkvIdeal : Cert.DhqkvIdeal.Facts] : Prop :=
  ∀ (m : (ℓ : Loc Cert.DhqkvIdeal.nD Cert.DhqkvIdeal.τ Cert.DhqkvIdeal.sig) → Buf (Elt Ideal) ℓ) (g : Dev Cert.DhqkvIdeal.nD → PrngReg), Pre_DhqkvIdeal m →
    θ_run (Cert.DhqkvIdeal.defs (F := Ideal)) (onTc (τ := Cert.DhqkvIdeal.τ) (Cert.DhqkvIdeal.main (F := Ideal))) ⟨m, fun _ => 0, g⟩ (fun r => (∀ c : Dev Cert.DhqkvIdeal.nD,
      r.2.mem ((c.tc : Thread Cert.DhqkvIdeal.nD Cert.DhqkvIdeal.τ).loc Cert.DhqkvIdeal.main_arg0) = m ((c.tc : Thread Cert.DhqkvIdeal.nD Cert.DhqkvIdeal.τ).loc Cert.DhqkvIdeal.main_arg0)
      ∧ r.2.mem ((c.tc : Thread Cert.DhqkvIdeal.nD Cert.DhqkvIdeal.τ).loc Cert.DhqkvIdeal.main_arg1) = m ((c.tc : Thread Cert.DhqkvIdeal.nD Cert.DhqkvIdeal.τ).loc Cert.DhqkvIdeal.main_arg1))
      ∧ r.2.sem = fun _ => 0)

def quiescent_DhqkvRefIdeal [hDhqkvRefIdeal : Cert.DhqkvRefIdeal.Facts] : Prop :=
  ∀ (m : (ℓ : Loc Cert.DhqkvRefIdeal.nD Cert.DhqkvRefIdeal.τ Cert.DhqkvRefIdeal.sig) → Buf (Elt Ideal) ℓ) (g : Dev Cert.DhqkvRefIdeal.nD → PrngReg), Pre_DhqkvRefIdeal m →
    θ_run (Cert.DhqkvRefIdeal.defs (F := Ideal)) (onTc (τ := Cert.DhqkvRefIdeal.τ) (Cert.DhqkvRefIdeal.main (F := Ideal))) ⟨m, fun _ => 0, g⟩ (fun r => (∀ c : Dev Cert.DhqkvRefIdeal.nD,
      r.2.mem ((c.tc : Thread Cert.DhqkvRefIdeal.nD Cert.DhqkvRefIdeal.τ).loc Cert.DhqkvRefIdeal.main_arg0) = m ((c.tc : Thread Cert.DhqkvRefIdeal.nD Cert.DhqkvRefIdeal.τ).loc Cert.DhqkvRefIdeal.main_arg0)
      ∧ r.2.mem ((c.tc : Thread Cert.DhqkvRefIdeal.nD Cert.DhqkvRefIdeal.τ).loc Cert.DhqkvRefIdeal.main_arg1) = m ((c.tc : Thread Cert.DhqkvRefIdeal.nD Cert.DhqkvRefIdeal.τ).loc Cert.DhqkvRefIdeal.main_arg1))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_Drec [hDrec : Cert.Drec.Facts] : Prop :=
  ∀ (m : (ℓ : Loc Cert.Drec.nD Cert.Drec.τ Cert.Drec.sig) → Buf (Elt Bits) ℓ) (g : Dev Cert.Drec.nD → PrngReg), Pre_Drec m →
    θ_run (Cert.Drec.defs (F := Bits)) (onTc (τ := Cert.Drec.τ) (Cert.Drec.main (F := Bits))) ⟨m, fun _ => 0, g⟩ (fun r => (∀ c : Dev Cert.Drec.nD,
      r.2.mem ((c.tc : Thread Cert.Drec.nD Cert.Drec.τ).loc Cert.Drec.main_arg0) = m ((c.tc : Thread Cert.Drec.nD Cert.Drec.τ).loc Cert.Drec.main_arg0)
      ∧ r.2.mem ((c.tc : Thread Cert.Drec.nD Cert.Drec.τ).loc Cert.Drec.main_arg1) = m ((c.tc : Thread Cert.Drec.nD Cert.Drec.τ).loc Cert.Drec.main_arg1)
      ∧ r.2.mem ((c.tc : Thread Cert.Drec.nD Cert.Drec.τ).loc Cert.Drec.main_arg2) = m ((c.tc : Thread Cert.Drec.nD Cert.Drec.τ).loc Cert.Drec.main_arg2)
      ∧ r.2.mem ((c.tc : Thread Cert.Drec.nD Cert.Drec.τ).loc Cert.Drec.main_arg3) = m ((c.tc : Thread Cert.Drec.nD Cert.Drec.τ).loc Cert.Drec.main_arg3))
      ∧ r.2.sem = fun _ => 0)

def quiescent_DrecIdeal [hDrecIdeal : Cert.DrecIdeal.Facts] : Prop :=
  ∀ (m : (ℓ : Loc Cert.DrecIdeal.nD Cert.DrecIdeal.τ Cert.DrecIdeal.sig) → Buf (Elt Ideal) ℓ) (g : Dev Cert.DrecIdeal.nD → PrngReg), Pre_DrecIdeal m →
    θ_run (Cert.DrecIdeal.defs (F := Ideal)) (onTc (τ := Cert.DrecIdeal.τ) (Cert.DrecIdeal.main (F := Ideal))) ⟨m, fun _ => 0, g⟩ (fun r => (∀ c : Dev Cert.DrecIdeal.nD,
      r.2.mem ((c.tc : Thread Cert.DrecIdeal.nD Cert.DrecIdeal.τ).loc Cert.DrecIdeal.main_arg0) = m ((c.tc : Thread Cert.DrecIdeal.nD Cert.DrecIdeal.τ).loc Cert.DrecIdeal.main_arg0)
      ∧ r.2.mem ((c.tc : Thread Cert.DrecIdeal.nD Cert.DrecIdeal.τ).loc Cert.DrecIdeal.main_arg1) = m ((c.tc : Thread Cert.DrecIdeal.nD Cert.DrecIdeal.τ).loc Cert.DrecIdeal.main_arg1)
      ∧ r.2.mem ((c.tc : Thread Cert.DrecIdeal.nD Cert.DrecIdeal.τ).loc Cert.DrecIdeal.main_arg2) = m ((c.tc : Thread Cert.DrecIdeal.nD Cert.DrecIdeal.τ).loc Cert.DrecIdeal.main_arg2)
      ∧ r.2.mem ((c.tc : Thread Cert.DrecIdeal.nD Cert.DrecIdeal.τ).loc Cert.DrecIdeal.main_arg3) = m ((c.tc : Thread Cert.DrecIdeal.nD Cert.DrecIdeal.τ).loc Cert.DrecIdeal.main_arg3))
      ∧ r.2.sem = fun _ => 0)

def quiescent_DrecRefIdeal [hDrecRefIdeal : Cert.DrecRefIdeal.Facts] : Prop :=
  ∀ (m : (ℓ : Loc Cert.DrecRefIdeal.nD Cert.DrecRefIdeal.τ Cert.DrecRefIdeal.sig) → Buf (Elt Ideal) ℓ) (g : Dev Cert.DrecRefIdeal.nD → PrngReg), Pre_DrecRefIdeal m →
    θ_run (Cert.DrecRefIdeal.defs (F := Ideal)) (onTc (τ := Cert.DrecRefIdeal.τ) (Cert.DrecRefIdeal.main (F := Ideal))) ⟨m, fun _ => 0, g⟩ (fun r => (∀ c : Dev Cert.DrecRefIdeal.nD,
      r.2.mem ((c.tc : Thread Cert.DrecRefIdeal.nD Cert.DrecRefIdeal.τ).loc Cert.DrecRefIdeal.main_arg0) = m ((c.tc : Thread Cert.DrecRefIdeal.nD Cert.DrecRefIdeal.τ).loc Cert.DrecRefIdeal.main_arg0)
      ∧ r.2.mem ((c.tc : Thread Cert.DrecRefIdeal.nD Cert.DrecRefIdeal.τ).loc Cert.DrecRefIdeal.main_arg1) = m ((c.tc : Thread Cert.DrecRefIdeal.nD Cert.DrecRefIdeal.τ).loc Cert.DrecRefIdeal.main_arg1)
      ∧ r.2.mem ((c.tc : Thread Cert.DrecRefIdeal.nD Cert.DrecRefIdeal.τ).loc Cert.DrecRefIdeal.main_arg2) = m ((c.tc : Thread Cert.DrecRefIdeal.nD Cert.DrecRefIdeal.τ).loc Cert.DrecRefIdeal.main_arg2)
      ∧ r.2.mem ((c.tc : Thread Cert.DrecRefIdeal.nD Cert.DrecRefIdeal.τ).loc Cert.DrecRefIdeal.main_arg3) = m ((c.tc : Thread Cert.DrecRefIdeal.nD Cert.DrecRefIdeal.τ).loc Cert.DrecRefIdeal.main_arg3))
      ∧ r.2.sem = fun _ => 0)

def preserves_Dscan_DscanIdeal : Prop :=
  True

def algebraic_DscanIdeal_DscanRefIdeal_pre_finite_scan [hDscanIdeal : Cert.DscanIdeal.Facts] [hDscanRefIdeal : Cert.DscanRefIdeal.Facts] [hPre_finite_scan : Cert.Pre_finite_scan.Facts] : Prop :=
  ∀ (m : (ℓ : Loc Cert.DscanIdeal.nD Cert.DscanIdeal.τ Cert.DscanIdeal.sig) → Buf (Elt Ideal) ℓ) (g : Dev Cert.DscanIdeal.nD → PrngReg)
    (m' : (ℓ : Loc Cert.DscanRefIdeal.nD Cert.DscanRefIdeal.τ Cert.DscanRefIdeal.sig) → Buf (Elt Ideal) ℓ) (g' : Dev Cert.DscanRefIdeal.nD → PrngReg), Pre_DscanIdeal_finite_scan m →
    (∀ c : Dev Cert.DscanIdeal.nD,
      m' ((c.tc : Thread Cert.DscanRefIdeal.nD Cert.DscanRefIdeal.τ).loc Cert.DscanRefIdeal.main_arg0) = m ((c.tc : Thread Cert.DscanIdeal.nD Cert.DscanIdeal.τ).loc Cert.DscanIdeal.main_arg0)
      ∧ m' ((c.tc : Thread Cert.DscanRefIdeal.nD Cert.DscanRefIdeal.τ).loc Cert.DscanRefIdeal.main_arg1) = m ((c.tc : Thread Cert.DscanIdeal.nD Cert.DscanIdeal.τ).loc Cert.DscanIdeal.main_arg1)
      ∧ m' ((c.tc : Thread Cert.DscanRefIdeal.nD Cert.DscanRefIdeal.τ).loc Cert.DscanRefIdeal.main_arg2) = m ((c.tc : Thread Cert.DscanIdeal.nD Cert.DscanIdeal.τ).loc Cert.DscanIdeal.main_arg2)
      ∧ m' ((c.tc : Thread Cert.DscanRefIdeal.nD Cert.DscanRefIdeal.τ).loc Cert.DscanRefIdeal.main_arg3) = m ((c.tc : Thread Cert.DscanIdeal.nD Cert.DscanIdeal.τ).loc Cert.DscanIdeal.main_arg3)
      ∧ m' ((c.tc : Thread Cert.DscanRefIdeal.nD Cert.DscanRefIdeal.τ).loc Cert.DscanRefIdeal.main_arg4) = m ((c.tc : Thread Cert.DscanIdeal.nD Cert.DscanIdeal.τ).loc Cert.DscanIdeal.main_arg4)
      ∧ m' ((c.tc : Thread Cert.DscanRefIdeal.nD Cert.DscanRefIdeal.τ).loc Cert.DscanRefIdeal.main_arg5) = m ((c.tc : Thread Cert.DscanIdeal.nD Cert.DscanIdeal.τ).loc Cert.DscanIdeal.main_arg5)
      ∧ m' ((c.tc : Thread Cert.DscanRefIdeal.nD Cert.DscanRefIdeal.τ).loc Cert.DscanRefIdeal.main_arg6) = m ((c.tc : Thread Cert.DscanIdeal.nD Cert.DscanIdeal.τ).loc Cert.DscanIdeal.main_arg6)
      ∧ m' ((c.tc : Thread Cert.DscanRefIdeal.nD Cert.DscanRefIdeal.τ).loc Cert.DscanRefIdeal.main_arg7) = m ((c.tc : Thread Cert.DscanIdeal.nD Cert.DscanIdeal.τ).loc Cert.DscanIdeal.main_arg7)
      ∧ m' ((c.tc : Thread Cert.DscanRefIdeal.nD Cert.DscanRefIdeal.τ).loc Cert.DscanRefIdeal.main_arg8) = m ((c.tc : Thread Cert.DscanIdeal.nD Cert.DscanIdeal.τ).loc Cert.DscanIdeal.main_arg8)
      ∧ m' ((c.tc : Thread Cert.DscanRefIdeal.nD Cert.DscanRefIdeal.τ).loc Cert.DscanRefIdeal.main_arg9) = m ((c.tc : Thread Cert.DscanIdeal.nD Cert.DscanIdeal.τ).loc Cert.DscanIdeal.main_arg9)) →
    ∃ (v0 : (c : Dev Cert.DscanIdeal.nD) → Buf (Elt Ideal) ((c.tc : Thread Cert.DscanIdeal.nD Cert.DscanIdeal.τ).loc Cert.DscanIdeal.main_v62_0)) (v1 : (c : Dev Cert.DscanIdeal.nD) → Buf (Elt Ideal) ((c.tc : Thread Cert.DscanIdeal.nD Cert.DscanIdeal.τ).loc Cert.DscanIdeal.main_v62_1)) (v2 : (c : Dev Cert.DscanIdeal.nD) → Buf (Elt Ideal) ((c.tc : Thread Cert.DscanIdeal.nD Cert.DscanIdeal.τ).loc Cert.DscanIdeal.main_v64)),
      θ_run (Cert.DscanIdeal.defs (F := Ideal)) (onTc (τ := Cert.DscanIdeal.τ) (Cert.DscanIdeal.main (F := Ideal))) ⟨m, fun _ => 0, g⟩ (fun r => ∀ c : Dev Cert.DscanIdeal.nD,
          r.2.mem ((c.tc : Thread Cert.DscanIdeal.nD Cert.DscanIdeal.τ).loc Cert.DscanIdeal.main_v62_0) = v0 c
          ∧ r.2.mem ((c.tc : Thread Cert.DscanIdeal.nD Cert.DscanIdeal.τ).loc Cert.DscanIdeal.main_v62_1) = v1 c
          ∧ r.2.mem ((c.tc : Thread Cert.DscanIdeal.nD Cert.DscanIdeal.τ).loc Cert.DscanIdeal.main_v64) = v2 c
          ∧ r.2.mem ((c.tc : Thread Cert.DscanIdeal.nD Cert.DscanIdeal.τ).loc Cert.DscanIdeal.main_arg0) = m ((c.tc : Thread Cert.DscanIdeal.nD Cert.DscanIdeal.τ).loc Cert.DscanIdeal.main_arg0)
          ∧ r.2.mem ((c.tc : Thread Cert.DscanIdeal.nD Cert.DscanIdeal.τ).loc Cert.DscanIdeal.main_arg1) = m ((c.tc : Thread Cert.DscanIdeal.nD Cert.DscanIdeal.τ).loc Cert.DscanIdeal.main_arg1)
          ∧ r.2.mem ((c.tc : Thread Cert.DscanIdeal.nD Cert.DscanIdeal.τ).loc Cert.DscanIdeal.main_arg2) = m ((c.tc : Thread Cert.DscanIdeal.nD Cert.DscanIdeal.τ).loc Cert.DscanIdeal.main_arg2)
          ∧ r.2.mem ((c.tc : Thread Cert.DscanIdeal.nD Cert.DscanIdeal.τ).loc Cert.DscanIdeal.main_arg3) = m ((c.tc : Thread Cert.DscanIdeal.nD Cert.DscanIdeal.τ).loc Cert.DscanIdeal.main_arg3)
          ∧ r.2.mem ((c.tc : Thread Cert.DscanIdeal.nD Cert.DscanIdeal.τ).loc Cert.DscanIdeal.main_arg4) = m ((c.tc : Thread Cert.DscanIdeal.nD Cert.DscanIdeal.τ).loc Cert.DscanIdeal.main_arg4)
          ∧ r.2.mem ((c.tc : Thread Cert.DscanIdeal.nD Cert.DscanIdeal.τ).loc Cert.DscanIdeal.main_arg5) = m ((c.tc : Thread Cert.DscanIdeal.nD Cert.DscanIdeal.τ).loc Cert.DscanIdeal.main_arg5)
          ∧ r.2.mem ((c.tc : Thread Cert.DscanIdeal.nD Cert.DscanIdeal.τ).loc Cert.DscanIdeal.main_arg6) = m ((c.tc : Thread Cert.DscanIdeal.nD Cert.DscanIdeal.τ).loc Cert.DscanIdeal.main_arg6)
          ∧ r.2.mem ((c.tc : Thread Cert.DscanIdeal.nD Cert.DscanIdeal.τ).loc Cert.DscanIdeal.main_arg7) = m ((c.tc : Thread Cert.DscanIdeal.nD Cert.DscanIdeal.τ).loc Cert.DscanIdeal.main_arg7)
          ∧ r.2.mem ((c.tc : Thread Cert.DscanIdeal.nD Cert.DscanIdeal.τ).loc Cert.DscanIdeal.main_arg8) = m ((c.tc : Thread Cert.DscanIdeal.nD Cert.DscanIdeal.τ).loc Cert.DscanIdeal.main_arg8)
          ∧ r.2.mem ((c.tc : Thread Cert.DscanIdeal.nD Cert.DscanIdeal.τ).loc Cert.DscanIdeal.main_arg9) = m ((c.tc : Thread Cert.DscanIdeal.nD Cert.DscanIdeal.τ).loc Cert.DscanIdeal.main_arg9))
      ∧ θ_run (Cert.DscanRefIdeal.defs (F := Ideal)) (onTc (τ := Cert.DscanRefIdeal.τ) (Cert.DscanRefIdeal.main (F := Ideal))) ⟨m', fun _ => 0, g'⟩ (fun r => ∀ c : Dev Cert.DscanRefIdeal.nD,
          r.2.mem ((c.tc : Thread Cert.DscanRefIdeal.nD Cert.DscanRefIdeal.τ).loc Cert.DscanRefIdeal.main_v71) = v0 c
          ∧ r.2.mem ((c.tc : Thread Cert.DscanRefIdeal.nD Cert.DscanRefIdeal.τ).loc Cert.DscanRefIdeal.main_v64) = v1 c
          ∧ r.2.mem ((c.tc : Thread Cert.DscanRefIdeal.nD Cert.DscanRefIdeal.τ).loc Cert.DscanRefIdeal.main_v76) = v2 c
          ∧ r.2.mem ((c.tc : Thread Cert.DscanRefIdeal.nD Cert.DscanRefIdeal.τ).loc Cert.DscanRefIdeal.main_arg0) = m' ((c.tc : Thread Cert.DscanRefIdeal.nD Cert.DscanRefIdeal.τ).loc Cert.DscanRefIdeal.main_arg0)
          ∧ r.2.mem ((c.tc : Thread Cert.DscanRefIdeal.nD Cert.DscanRefIdeal.τ).loc Cert.DscanRefIdeal.main_arg1) = m' ((c.tc : Thread Cert.DscanRefIdeal.nD Cert.DscanRefIdeal.τ).loc Cert.DscanRefIdeal.main_arg1)
          ∧ r.2.mem ((c.tc : Thread Cert.DscanRefIdeal.nD Cert.DscanRefIdeal.τ).loc Cert.DscanRefIdeal.main_arg2) = m' ((c.tc : Thread Cert.DscanRefIdeal.nD Cert.DscanRefIdeal.τ).loc Cert.DscanRefIdeal.main_arg2)
          ∧ r.2.mem ((c.tc : Thread Cert.DscanRefIdeal.nD Cert.DscanRefIdeal.τ).loc Cert.DscanRefIdeal.main_arg3) = m' ((c.tc : Thread Cert.DscanRefIdeal.nD Cert.DscanRefIdeal.τ).loc Cert.DscanRefIdeal.main_arg3)
          ∧ r.2.mem ((c.tc : Thread Cert.DscanRefIdeal.nD Cert.DscanRefIdeal.τ).loc Cert.DscanRefIdeal.main_arg4) = m' ((c.tc : Thread Cert.DscanRefIdeal.nD Cert.DscanRefIdeal.τ).loc Cert.DscanRefIdeal.main_arg4)
          ∧ r.2.mem ((c.tc : Thread Cert.DscanRefIdeal.nD Cert.DscanRefIdeal.τ).loc Cert.DscanRefIdeal.main_arg5) = m' ((c.tc : Thread Cert.DscanRefIdeal.nD Cert.DscanRefIdeal.τ).loc Cert.DscanRefIdeal.main_arg5)
          ∧ r.2.mem ((c.tc : Thread Cert.DscanRefIdeal.nD Cert.DscanRefIdeal.τ).loc Cert.DscanRefIdeal.main_arg6) = m' ((c.tc : Thread Cert.DscanRefIdeal.nD Cert.DscanRefIdeal.τ).loc Cert.DscanRefIdeal.main_arg6)
          ∧ r.2.mem ((c.tc : Thread Cert.DscanRefIdeal.nD Cert.DscanRefIdeal.τ).loc Cert.DscanRefIdeal.main_arg7) = m' ((c.tc : Thread Cert.DscanRefIdeal.nD Cert.DscanRefIdeal.τ).loc Cert.DscanRefIdeal.main_arg7)
          ∧ r.2.mem ((c.tc : Thread Cert.DscanRefIdeal.nD Cert.DscanRefIdeal.τ).loc Cert.DscanRefIdeal.main_arg8) = m' ((c.tc : Thread Cert.DscanRefIdeal.nD Cert.DscanRefIdeal.τ).loc Cert.DscanRefIdeal.main_arg8)
          ∧ r.2.mem ((c.tc : Thread Cert.DscanRefIdeal.nD Cert.DscanRefIdeal.τ).loc Cert.DscanRefIdeal.main_arg9) = m' ((c.tc : Thread Cert.DscanRefIdeal.nD Cert.DscanRefIdeal.τ).loc Cert.DscanRefIdeal.main_arg9))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v0)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v0) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v6) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v4) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v6) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1))

def preserves_Dhid_DhidIdeal : Prop :=
  True

def algebraic_DhidIdeal_DhidRefIdeal [hDhidIdeal : Cert.DhidIdeal.Facts] [hDhidRefIdeal : Cert.DhidRefIdeal.Facts] : Prop :=
  ∀ (m : (ℓ : Loc Cert.DhidIdeal.nD Cert.DhidIdeal.τ Cert.DhidIdeal.sig) → Buf (Elt Ideal) ℓ) (g : Dev Cert.DhidIdeal.nD → PrngReg)
    (m' : (ℓ : Loc Cert.DhidRefIdeal.nD Cert.DhidRefIdeal.τ Cert.DhidRefIdeal.sig) → Buf (Elt Ideal) ℓ) (g' : Dev Cert.DhidRefIdeal.nD → PrngReg), Pre_DhidIdeal m →
    (∀ c : Dev Cert.DhidIdeal.nD,
      m' ((c.tc : Thread Cert.DhidRefIdeal.nD Cert.DhidRefIdeal.τ).loc Cert.DhidRefIdeal.main_arg0) = m ((c.tc : Thread Cert.DhidIdeal.nD Cert.DhidIdeal.τ).loc Cert.DhidIdeal.main_arg0)
      ∧ m' ((c.tc : Thread Cert.DhidRefIdeal.nD Cert.DhidRefIdeal.τ).loc Cert.DhidRefIdeal.main_arg1) = m ((c.tc : Thread Cert.DhidIdeal.nD Cert.DhidIdeal.τ).loc Cert.DhidIdeal.main_arg1)
      ∧ m' ((c.tc : Thread Cert.DhidRefIdeal.nD Cert.DhidRefIdeal.τ).loc Cert.DhidRefIdeal.main_arg2) = m ((c.tc : Thread Cert.DhidIdeal.nD Cert.DhidIdeal.τ).loc Cert.DhidIdeal.main_arg2)
      ∧ m' ((c.tc : Thread Cert.DhidRefIdeal.nD Cert.DhidRefIdeal.τ).loc Cert.DhidRefIdeal.main_arg3) = m ((c.tc : Thread Cert.DhidIdeal.nD Cert.DhidIdeal.τ).loc Cert.DhidIdeal.main_arg3)) →
    ∃ (v0 : (c : Dev Cert.DhidIdeal.nD) → Buf (Elt Ideal) ((c.tc : Thread Cert.DhidIdeal.nD Cert.DhidIdeal.τ).loc Cert.DhidIdeal.main_v0)),
      θ_run (Cert.DhidIdeal.defs (F := Ideal)) (onTc (τ := Cert.DhidIdeal.τ) (Cert.DhidIdeal.main (F := Ideal))) ⟨m, fun _ => 0, g⟩ (fun r => ∀ c : Dev Cert.DhidIdeal.nD,
          r.2.mem ((c.tc : Thread Cert.DhidIdeal.nD Cert.DhidIdeal.τ).loc Cert.DhidIdeal.main_v0) = v0 c
          ∧ r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
          ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1)
          ∧ r.2.mem ((c.tc : Thread Cert.DhidIdeal.nD Cert.DhidIdeal.τ).loc Cert.DhidIdeal.main_arg2) = m ((c.tc : Thread Cert.DhidIdeal.nD Cert.DhidIdeal.τ).loc Cert.DhidIdeal.main_arg2)
          ∧ r.2.mem ((c.tc : Thread Cert.DhidIdeal.nD Cert.DhidIdeal.τ).loc Cert.DhidIdeal.main_arg3) = m ((c.tc : Thread Cert.DhidIdeal.nD Cert.DhidIdeal.τ).loc Cert.DhidIdeal.main_arg3))
      ∧ θ_run (Cert.DhidRefIdeal.defs (F := Ideal)) (onTc (τ := Cert.DhidRefIdeal.τ) (Cert.DhidRefIdeal.main (F := Ideal))) ⟨m', fun _ => 0, g'⟩ (fun r => ∀ c : Dev Cert.DhidRefIdeal.nD,
          r.2.mem ((c.tc : Thread Cert.DhidRefIdeal.nD Cert.DhidRefIdeal.τ).loc Cert.DhidRefIdeal.main_v9) = v0 c
          ∧ r.2.mem ((c.tc : Thread Cert.DhidRefIdeal.nD Cert.DhidRefIdeal.τ).loc Cert.DhidRefIdeal.main_arg0) = m' ((c.tc : Thread Cert.DhidRefIdeal.nD Cert.DhidRefIdeal.τ).loc Cert.DhidRefIdeal.main_arg0)
          ∧ r.2.mem ((c.tc : Thread Cert.DhidRefIdeal.nD Cert.DhidRefIdeal.τ).loc Cert.DhidRefIdeal.main_arg1) = m' ((c.tc : Thread Cert.DhidRefIdeal.nD Cert.DhidRefIdeal.τ).loc Cert.DhidRefIdeal.main_arg1)
          ∧ r.2.mem ((c.tc : Thread Cert.DhidRefIdeal.nD Cert.DhidRefIdeal.τ).loc Cert.DhidRefIdeal.main_arg2) = m' ((c.tc : Thread Cert.DhidRefIdeal.nD Cert.DhidRefIdeal.τ).loc Cert.DhidRefIdeal.main_arg2)
          ∧ r.2.mem ((c.tc : Thread Cert.DhidRefIdeal.nD Cert.DhidRefIdeal.τ).loc Cert.DhidRefIdeal.main_arg3) = m' ((c.tc : Thread Cert.DhidRefIdeal.nD Cert.DhidRefIdeal.τ).loc Cert.DhidRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)) →
    ∃ (v0 : (c : Dev Cert.MixoutIdeal.nD) → Buf (Elt Ideal) ((c.tc : Thread Cert.MixoutIdeal.nD Cert.MixoutIdeal.τ).loc Cert.MixoutIdeal.main_v0)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v0) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v2) = v0 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1))

def preserves_Recin_RecinIdeal : Prop :=
  True

def algebraic_RecinIdeal_RecinRefIdeal [hRecinIdeal : Cert.RecinIdeal.Facts] [hRecinRefIdeal : Cert.RecinRefIdeal.Facts] : Prop :=
  ∀ (m : (ℓ : Loc Cert.RecinIdeal.nD Cert.RecinIdeal.τ Cert.RecinIdeal.sig) → Buf (Elt Ideal) ℓ) (g : Dev Cert.RecinIdeal.nD → PrngReg)
    (m' : (ℓ : Loc Cert.RecinRefIdeal.nD Cert.RecinRefIdeal.τ Cert.RecinRefIdeal.sig) → Buf (Elt Ideal) ℓ) (g' : Dev Cert.RecinRefIdeal.nD → PrngReg), Pre_RecinIdeal m →
    (∀ c : Dev Cert.RecinIdeal.nD,
      m' ((c.tc : Thread Cert.RecinRefIdeal.nD Cert.RecinRefIdeal.τ).loc Cert.RecinRefIdeal.main_arg0) = m ((c.tc : Thread Cert.RecinIdeal.nD Cert.RecinIdeal.τ).loc Cert.RecinIdeal.main_arg0)
      ∧ m' ((c.tc : Thread Cert.RecinRefIdeal.nD Cert.RecinRefIdeal.τ).loc Cert.RecinRefIdeal.main_arg1) = m ((c.tc : Thread Cert.RecinIdeal.nD Cert.RecinIdeal.τ).loc Cert.RecinIdeal.main_arg1)) →
    ∃ (v0 : (c : Dev Cert.RecinIdeal.nD) → Buf (Elt Ideal) ((c.tc : Thread Cert.RecinIdeal.nD Cert.RecinIdeal.τ).loc Cert.RecinIdeal.main_v0)),
      θ_run (Cert.RecinIdeal.defs (F := Ideal)) (onTc (τ := Cert.RecinIdeal.τ) (Cert.RecinIdeal.main (F := Ideal))) ⟨m, fun _ => 0, g⟩ (fun r => ∀ c : Dev Cert.RecinIdeal.nD,
          r.2.mem ((c.tc : Thread Cert.RecinIdeal.nD Cert.RecinIdeal.τ).loc Cert.RecinIdeal.main_v0) = v0 c
          ∧ r.2.mem ((c.tc : Thread Cert.RecinIdeal.nD Cert.RecinIdeal.τ).loc Cert.RecinIdeal.main_arg0) = m ((c.tc : Thread Cert.RecinIdeal.nD Cert.RecinIdeal.τ).loc Cert.RecinIdeal.main_arg0)
          ∧ r.2.mem ((c.tc : Thread Cert.RecinIdeal.nD Cert.RecinIdeal.τ).loc Cert.RecinIdeal.main_arg1) = m ((c.tc : Thread Cert.RecinIdeal.nD Cert.RecinIdeal.τ).loc Cert.RecinIdeal.main_arg1))
      ∧ θ_run (Cert.RecinRefIdeal.defs (F := Ideal)) (onTc (τ := Cert.RecinRefIdeal.τ) (Cert.RecinRefIdeal.main (F := Ideal))) ⟨m', fun _ => 0, g'⟩ (fun r => ∀ c : Dev Cert.RecinRefIdeal.nD,
          r.2.mem ((c.tc : Thread Cert.RecinRefIdeal.nD Cert.RecinRefIdeal.τ).loc Cert.RecinRefIdeal.main_v2) = v0 c
          ∧ r.2.mem ((c.tc : Thread Cert.RecinRefIdeal.nD Cert.RecinRefIdeal.τ).loc Cert.RecinRefIdeal.main_arg0) = m' ((c.tc : Thread Cert.RecinRefIdeal.nD Cert.RecinRefIdeal.τ).loc Cert.RecinRefIdeal.main_arg0)
          ∧ r.2.mem ((c.tc : Thread Cert.RecinRefIdeal.nD Cert.RecinRefIdeal.τ).loc Cert.RecinRefIdeal.main_arg1) = m' ((c.tc : Thread Cert.RecinRefIdeal.nD Cert.RecinRefIdeal.τ).loc Cert.RecinRefIdeal.main_arg1))

def preserves_Dwqkv_DwqkvIdeal : Prop :=
  True

def algebraic_DwqkvIdeal_DwqkvRefIdeal [hDwqkvIdeal : Cert.DwqkvIdeal.Facts] [hDwqkvRefIdeal : Cert.DwqkvRefIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg)
    (m' : (ℓ : Loc Cert.DwqkvRefIdeal.nD Cert.DwqkvRefIdeal.τ Cert.DwqkvRefIdeal.sig) → Buf (Elt Ideal) ℓ) (g' : Dev Cert.DwqkvRefIdeal.nD → PrngReg), Pre_DwqkvIdeal m →
    (∀ c : Dev Cert.DwqkvIdeal.nD,
      m' ((c.tc : Thread Cert.DwqkvRefIdeal.nD Cert.DwqkvRefIdeal.τ).loc Cert.DwqkvRefIdeal.main_arg0) = m ((c.tc : Thread Cert.DwqkvIdeal.nD Cert.DwqkvIdeal.τ).loc Cert.DwqkvIdeal.main_arg0)
      ∧ m' ((c.tc : Thread Cert.DwqkvRefIdeal.nD Cert.DwqkvRefIdeal.τ).loc Cert.DwqkvRefIdeal.main_arg1) = m ((c.tc : Thread Cert.DwqkvIdeal.nD Cert.DwqkvIdeal.τ).loc Cert.DwqkvIdeal.main_arg1)) →
    ∃ (v0 : (c : Dev Cert.DwqkvIdeal.nD) → Buf (Elt Ideal) ((c.tc : Thread Cert.DwqkvIdeal.nD Cert.DwqkvIdeal.τ).loc Cert.DwqkvIdeal.main_v0)),
      θ_run (Cert.DwqkvIdeal.defs (F := Ideal)) (onTc (τ := Cert.DwqkvIdeal.τ) (Cert.DwqkvIdeal.main (F := Ideal))) ⟨m, fun _ => 0, g⟩ (fun r => ∀ c : Dev Cert.DwqkvIdeal.nD,
          r.2.mem ((c.tc : Thread Cert.DwqkvIdeal.nD Cert.DwqkvIdeal.τ).loc Cert.DwqkvIdeal.main_v0) = v0 c
          ∧ r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
          ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1))
      ∧ θ_run (Cert.DwqkvRefIdeal.defs (F := Ideal)) (onTc (τ := Cert.DwqkvRefIdeal.τ) (Cert.DwqkvRefIdeal.main (F := Ideal))) ⟨m', fun _ => 0, g'⟩ (fun r => ∀ c : Dev Cert.DwqkvRefIdeal.nD,
          r.2.mem ((c.tc : Thread Cert.DwqkvRefIdeal.nD Cert.DwqkvRefIdeal.τ).loc Cert.DwqkvRefIdeal.main_v6) = v0 c
          ∧ r.2.mem ((c.tc : Thread Cert.DwqkvRefIdeal.nD Cert.DwqkvRefIdeal.τ).loc Cert.DwqkvRefIdeal.main_arg0) = m' ((c.tc : Thread Cert.DwqkvRefIdeal.nD Cert.DwqkvRefIdeal.τ).loc Cert.DwqkvRefIdeal.main_arg0)
          ∧ r.2.mem ((c.tc : Thread Cert.DwqkvRefIdeal.nD Cert.DwqkvRefIdeal.τ).loc Cert.DwqkvRefIdeal.main_arg1) = m' ((c.tc : Thread Cert.DwqkvRefIdeal.nD Cert.DwqkvRefIdeal.τ).loc Cert.DwqkvRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v6) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dwgate_DwgateIdeal : Prop :=
  True

def algebraic_DwgateIdeal_DwgateRefIdeal [hDwgateIdeal : Cert.DwgateIdeal.Facts] [hDwgateRefIdeal : Cert.DwgateRefIdeal.Facts] : Prop :=
  ∀ (m : (ℓ : Loc Cert.DwgateIdeal.nD Cert.DwgateIdeal.τ Cert.DwgateIdeal.sig) → Buf (Elt Ideal) ℓ) (g : Dev Cert.DwgateIdeal.nD → PrngReg)
    (m' : (ℓ : Loc Cert.DwgateRefIdeal.nD Cert.DwgateRefIdeal.τ Cert.DwgateRefIdeal.sig) → Buf (Elt Ideal) ℓ) (g' : Dev Cert.DwgateRefIdeal.nD → PrngReg), Pre_DwgateIdeal m →
    (∀ c : Dev Cert.DwgateIdeal.nD,
      m' ((c.tc : Thread Cert.DwgateRefIdeal.nD Cert.DwgateRefIdeal.τ).loc Cert.DwgateRefIdeal.main_arg0) = m ((c.tc : Thread Cert.DwgateIdeal.nD Cert.DwgateIdeal.τ).loc Cert.DwgateIdeal.main_arg0)
      ∧ m' ((c.tc : Thread Cert.DwgateRefIdeal.nD Cert.DwgateRefIdeal.τ).loc Cert.DwgateRefIdeal.main_arg1) = m ((c.tc : Thread Cert.DwgateIdeal.nD Cert.DwgateIdeal.τ).loc Cert.DwgateIdeal.main_arg1)) →
    ∃ (v0 : (c : Dev Cert.DwgateIdeal.nD) → Buf (Elt Ideal) ((c.tc : Thread Cert.DwgateIdeal.nD Cert.DwgateIdeal.τ).loc Cert.DwgateIdeal.main_v0)),
      θ_run (Cert.DwgateIdeal.defs (F := Ideal)) (onTc (τ := Cert.DwgateIdeal.τ) (Cert.DwgateIdeal.main (F := Ideal))) ⟨m, fun _ => 0, g⟩ (fun r => ∀ c : Dev Cert.DwgateIdeal.nD,
          r.2.mem ((c.tc : Thread Cert.DwgateIdeal.nD Cert.DwgateIdeal.τ).loc Cert.DwgateIdeal.main_v0) = v0 c
          ∧ r.2.mem ((c.tc : Thread Cert.DwgateIdeal.nD Cert.DwgateIdeal.τ).loc Cert.DwgateIdeal.main_arg0) = m ((c.tc : Thread Cert.DwgateIdeal.nD Cert.DwgateIdeal.τ).loc Cert.DwgateIdeal.main_arg0)
          ∧ r.2.mem ((c.tc : Thread Cert.DwgateIdeal.nD Cert.DwgateIdeal.τ).loc Cert.DwgateIdeal.main_arg1) = m ((c.tc : Thread Cert.DwgateIdeal.nD Cert.DwgateIdeal.τ).loc Cert.DwgateIdeal.main_arg1))
      ∧ θ_run (Cert.DwgateRefIdeal.defs (F := Ideal)) (onTc (τ := Cert.DwgateRefIdeal.τ) (Cert.DwgateRefIdeal.main (F := Ideal))) ⟨m', fun _ => 0, g'⟩ (fun r => ∀ c : Dev Cert.DwgateRefIdeal.nD,
          r.2.mem ((c.tc : Thread Cert.DwgateRefIdeal.nD Cert.DwgateRefIdeal.τ).loc Cert.DwgateRefIdeal.main_v6) = v0 c
          ∧ r.2.mem ((c.tc : Thread Cert.DwgateRefIdeal.nD Cert.DwgateRefIdeal.τ).loc Cert.DwgateRefIdeal.main_arg0) = m' ((c.tc : Thread Cert.DwgateRefIdeal.nD Cert.DwgateRefIdeal.τ).loc Cert.DwgateRefIdeal.main_arg0)
          ∧ r.2.mem ((c.tc : Thread Cert.DwgateRefIdeal.nD Cert.DwgateRefIdeal.τ).loc Cert.DwgateRefIdeal.main_arg1) = m' ((c.tc : Thread Cert.DwgateRefIdeal.nD Cert.DwgateRefIdeal.τ).loc Cert.DwgateRefIdeal.main_arg1))

def preserves_Dwrest_DwrestIdeal : Prop :=
  True

def algebraic_DwrestIdeal_DwrestRefIdeal [hDwrestIdeal : Cert.DwrestIdeal.Facts] [hDwrestRefIdeal : Cert.DwrestRefIdeal.Facts] : Prop :=
  ∀ (m : (ℓ : Loc Cert.DwrestIdeal.nD Cert.DwrestIdeal.τ Cert.DwrestIdeal.sig) → Buf (Elt Ideal) ℓ) (g : Dev Cert.DwrestIdeal.nD → PrngReg)
    (m' : (ℓ : Loc Cert.DwrestRefIdeal.nD Cert.DwrestRefIdeal.τ Cert.DwrestRefIdeal.sig) → Buf (Elt Ideal) ℓ) (g' : Dev Cert.DwrestRefIdeal.nD → PrngReg), Pre_DwrestIdeal m →
    (∀ c : Dev Cert.DwrestIdeal.nD,
      m' ((c.tc : Thread Cert.DwrestRefIdeal.nD Cert.DwrestRefIdeal.τ).loc Cert.DwrestRefIdeal.main_arg0) = m ((c.tc : Thread Cert.DwrestIdeal.nD Cert.DwrestIdeal.τ).loc Cert.DwrestIdeal.main_arg0)
      ∧ m' ((c.tc : Thread Cert.DwrestRefIdeal.nD Cert.DwrestRefIdeal.τ).loc Cert.DwrestRefIdeal.main_arg1) = m ((c.tc : Thread Cert.DwrestIdeal.nD Cert.DwrestIdeal.τ).loc Cert.DwrestIdeal.main_arg1)) →
    ∃ (v0 : (c : Dev Cert.DwrestIdeal.nD) → Buf (Elt Ideal) ((c.tc : Thread Cert.DwrestIdeal.nD Cert.DwrestIdeal.τ).loc Cert.DwrestIdeal.main_v0)),
      θ_run (Cert.DwrestIdeal.defs (F := Ideal)) (onTc (τ := Cert.DwrestIdeal.τ) (Cert.DwrestIdeal.main (F := Ideal))) ⟨m, fun _ => 0, g⟩ (fun r => ∀ c : Dev Cert.DwrestIdeal.nD,
          r.2.mem ((c.tc : Thread Cert.DwrestIdeal.nD Cert.DwrestIdeal.τ).loc Cert.DwrestIdeal.main_v0) = v0 c
          ∧ r.2.mem ((c.tc : Thread Cert.DwrestIdeal.nD Cert.DwrestIdeal.τ).loc Cert.DwrestIdeal.main_arg0) = m ((c.tc : Thread Cert.DwrestIdeal.nD Cert.DwrestIdeal.τ).loc Cert.DwrestIdeal.main_arg0)
          ∧ r.2.mem ((c.tc : Thread Cert.DwrestIdeal.nD Cert.DwrestIdeal.τ).loc Cert.DwrestIdeal.main_arg1) = m ((c.tc : Thread Cert.DwrestIdeal.nD Cert.DwrestIdeal.τ).loc Cert.DwrestIdeal.main_arg1))
      ∧ θ_run (Cert.DwrestRefIdeal.defs (F := Ideal)) (onTc (τ := Cert.DwrestRefIdeal.τ) (Cert.DwrestRefIdeal.main (F := Ideal))) ⟨m', fun _ => 0, g'⟩ (fun r => ∀ c : Dev Cert.DwrestRefIdeal.nD,
          r.2.mem ((c.tc : Thread Cert.DwrestRefIdeal.nD Cert.DwrestRefIdeal.τ).loc Cert.DwrestRefIdeal.main_v6) = v0 c
          ∧ r.2.mem ((c.tc : Thread Cert.DwrestRefIdeal.nD Cert.DwrestRefIdeal.τ).loc Cert.DwrestRefIdeal.main_arg0) = m' ((c.tc : Thread Cert.DwrestRefIdeal.nD Cert.DwrestRefIdeal.τ).loc Cert.DwrestRefIdeal.main_arg0)
          ∧ r.2.mem ((c.tc : Thread Cert.DwrestRefIdeal.nD Cert.DwrestRefIdeal.τ).loc Cert.DwrestRefIdeal.main_arg1) = m' ((c.tc : Thread Cert.DwrestRefIdeal.nD Cert.DwrestRefIdeal.τ).loc Cert.DwrestRefIdeal.main_arg1))

def preserves_Dhqkv_DhqkvIdeal : Prop :=
  True

def algebraic_DhqkvIdeal_DhqkvRefIdeal [hDhqkvIdeal : Cert.DhqkvIdeal.Facts] [hDhqkvRefIdeal : Cert.DhqkvRefIdeal.Facts] : Prop :=
  ∀ (m : (ℓ : Loc Cert.DhqkvIdeal.nD Cert.DhqkvIdeal.τ Cert.DhqkvIdeal.sig) → Buf (Elt Ideal) ℓ) (g : Dev Cert.DhqkvIdeal.nD → PrngReg)
    (m' : (ℓ : Loc Cert.DhqkvRefIdeal.nD Cert.DhqkvRefIdeal.τ Cert.DhqkvRefIdeal.sig) → Buf (Elt Ideal) ℓ) (g' : Dev Cert.DhqkvRefIdeal.nD → PrngReg), Pre_DhqkvIdeal m →
    (∀ c : Dev Cert.DhqkvIdeal.nD,
      m' ((c.tc : Thread Cert.DhqkvRefIdeal.nD Cert.DhqkvRefIdeal.τ).loc Cert.DhqkvRefIdeal.main_arg0) = m ((c.tc : Thread Cert.DhqkvIdeal.nD Cert.DhqkvIdeal.τ).loc Cert.DhqkvIdeal.main_arg0)
      ∧ m' ((c.tc : Thread Cert.DhqkvRefIdeal.nD Cert.DhqkvRefIdeal.τ).loc Cert.DhqkvRefIdeal.main_arg1) = m ((c.tc : Thread Cert.DhqkvIdeal.nD Cert.DhqkvIdeal.τ).loc Cert.DhqkvIdeal.main_arg1)) →
    ∃ (v0 : (c : Dev Cert.DhqkvIdeal.nD) → Buf (Elt Ideal) ((c.tc : Thread Cert.DhqkvIdeal.nD Cert.DhqkvIdeal.τ).loc Cert.DhqkvIdeal.main_v0)),
      θ_run (Cert.DhqkvIdeal.defs (F := Ideal)) (onTc (τ := Cert.DhqkvIdeal.τ) (Cert.DhqkvIdeal.main (F := Ideal))) ⟨m, fun _ => 0, g⟩ (fun r => ∀ c : Dev Cert.DhqkvIdeal.nD,
          r.2.mem ((c.tc : Thread Cert.DhqkvIdeal.nD Cert.DhqkvIdeal.τ).loc Cert.DhqkvIdeal.main_v0) = v0 c
          ∧ r.2.mem ((c.tc : Thread Cert.DhqkvIdeal.nD Cert.DhqkvIdeal.τ).loc Cert.DhqkvIdeal.main_arg0) = m ((c.tc : Thread Cert.DhqkvIdeal.nD Cert.DhqkvIdeal.τ).loc Cert.DhqkvIdeal.main_arg0)
          ∧ r.2.mem ((c.tc : Thread Cert.DhqkvIdeal.nD Cert.DhqkvIdeal.τ).loc Cert.DhqkvIdeal.main_arg1) = m ((c.tc : Thread Cert.DhqkvIdeal.nD Cert.DhqkvIdeal.τ).loc Cert.DhqkvIdeal.main_arg1))
      ∧ θ_run (Cert.DhqkvRefIdeal.defs (F := Ideal)) (onTc (τ := Cert.DhqkvRefIdeal.τ) (Cert.DhqkvRefIdeal.main (F := Ideal))) ⟨m', fun _ => 0, g'⟩ (fun r => ∀ c : Dev Cert.DhqkvRefIdeal.nD,
          r.2.mem ((c.tc : Thread Cert.DhqkvRefIdeal.nD Cert.DhqkvRefIdeal.τ).loc Cert.DhqkvRefIdeal.main_v4) = v0 c
          ∧ r.2.mem ((c.tc : Thread Cert.DhqkvRefIdeal.nD Cert.DhqkvRefIdeal.τ).loc Cert.DhqkvRefIdeal.main_arg0) = m' ((c.tc : Thread Cert.DhqkvRefIdeal.nD Cert.DhqkvRefIdeal.τ).loc Cert.DhqkvRefIdeal.main_arg0)
          ∧ r.2.mem ((c.tc : Thread Cert.DhqkvRefIdeal.nD Cert.DhqkvRefIdeal.τ).loc Cert.DhqkvRefIdeal.main_arg1) = m' ((c.tc : Thread Cert.DhqkvRefIdeal.nD Cert.DhqkvRefIdeal.τ).loc Cert.DhqkvRefIdeal.main_arg1))

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v4) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_Drec_DrecIdeal : Prop :=
  True

def algebraic_DrecIdeal_DrecRefIdeal [hDrecIdeal : Cert.DrecIdeal.Facts] [hDrecRefIdeal : Cert.DrecRefIdeal.Facts] : Prop :=
  ∀ (m : (ℓ : Loc Cert.DrecIdeal.nD Cert.DrecIdeal.τ Cert.DrecIdeal.sig) → Buf (Elt Ideal) ℓ) (g : Dev Cert.DrecIdeal.nD → PrngReg)
    (m' : (ℓ : Loc Cert.DrecRefIdeal.nD Cert.DrecRefIdeal.τ Cert.DrecRefIdeal.sig) → Buf (Elt Ideal) ℓ) (g' : Dev Cert.DrecRefIdeal.nD → PrngReg), Pre_DrecIdeal m →
    (∀ c : Dev Cert.DrecIdeal.nD,
      m' ((c.tc : Thread Cert.DrecRefIdeal.nD Cert.DrecRefIdeal.τ).loc Cert.DrecRefIdeal.main_arg0) = m ((c.tc : Thread Cert.DrecIdeal.nD Cert.DrecIdeal.τ).loc Cert.DrecIdeal.main_arg0)
      ∧ m' ((c.tc : Thread Cert.DrecRefIdeal.nD Cert.DrecRefIdeal.τ).loc Cert.DrecRefIdeal.main_arg1) = m ((c.tc : Thread Cert.DrecIdeal.nD Cert.DrecIdeal.τ).loc Cert.DrecIdeal.main_arg1)
      ∧ m' ((c.tc : Thread Cert.DrecRefIdeal.nD Cert.DrecRefIdeal.τ).loc Cert.DrecRefIdeal.main_arg2) = m ((c.tc : Thread Cert.DrecIdeal.nD Cert.DrecIdeal.τ).loc Cert.DrecIdeal.main_arg2)
      ∧ m' ((c.tc : Thread Cert.DrecRefIdeal.nD Cert.DrecRefIdeal.τ).loc Cert.DrecRefIdeal.main_arg3) = m ((c.tc : Thread Cert.DrecIdeal.nD Cert.DrecIdeal.τ).loc Cert.DrecIdeal.main_arg3)) →
    ∃ (v0 : (c : Dev Cert.DrecIdeal.nD) → Buf (Elt Ideal) ((c.tc : Thread Cert.DrecIdeal.nD Cert.DrecIdeal.τ).loc Cert.DrecIdeal.main_v3)),
      θ_run (Cert.DrecIdeal.defs (F := Ideal)) (onTc (τ := Cert.DrecIdeal.τ) (Cert.DrecIdeal.main (F := Ideal))) ⟨m, fun _ => 0, g⟩ (fun r => ∀ c : Dev Cert.DrecIdeal.nD,
          r.2.mem ((c.tc : Thread Cert.DrecIdeal.nD Cert.DrecIdeal.τ).loc Cert.DrecIdeal.main_v3) = v0 c
          ∧ r.2.mem ((c.tc : Thread Cert.DrecIdeal.nD Cert.DrecIdeal.τ).loc Cert.DrecIdeal.main_arg0) = m ((c.tc : Thread Cert.DrecIdeal.nD Cert.DrecIdeal.τ).loc Cert.DrecIdeal.main_arg0)
          ∧ r.2.mem ((c.tc : Thread Cert.DrecIdeal.nD Cert.DrecIdeal.τ).loc Cert.DrecIdeal.main_arg1) = m ((c.tc : Thread Cert.DrecIdeal.nD Cert.DrecIdeal.τ).loc Cert.DrecIdeal.main_arg1)
          ∧ r.2.mem ((c.tc : Thread Cert.DrecIdeal.nD Cert.DrecIdeal.τ).loc Cert.DrecIdeal.main_arg2) = m ((c.tc : Thread Cert.DrecIdeal.nD Cert.DrecIdeal.τ).loc Cert.DrecIdeal.main_arg2)
          ∧ r.2.mem ((c.tc : Thread Cert.DrecIdeal.nD Cert.DrecIdeal.τ).loc Cert.DrecIdeal.main_arg3) = m ((c.tc : Thread Cert.DrecIdeal.nD Cert.DrecIdeal.τ).loc Cert.DrecIdeal.main_arg3))
      ∧ θ_run (Cert.DrecRefIdeal.defs (F := Ideal)) (onTc (τ := Cert.DrecRefIdeal.τ) (Cert.DrecRefIdeal.main (F := Ideal))) ⟨m', fun _ => 0, g'⟩ (fun r => ∀ c : Dev Cert.DrecRefIdeal.nD,
          r.2.mem ((c.tc : Thread Cert.DrecRefIdeal.nD Cert.DrecRefIdeal.τ).loc Cert.DrecRefIdeal.main_v7) = v0 c
          ∧ r.2.mem ((c.tc : Thread Cert.DrecRefIdeal.nD Cert.DrecRefIdeal.τ).loc Cert.DrecRefIdeal.main_arg0) = m' ((c.tc : Thread Cert.DrecRefIdeal.nD Cert.DrecRefIdeal.τ).loc Cert.DrecRefIdeal.main_arg0)
          ∧ r.2.mem ((c.tc : Thread Cert.DrecRefIdeal.nD Cert.DrecRefIdeal.τ).loc Cert.DrecRefIdeal.main_arg1) = m' ((c.tc : Thread Cert.DrecRefIdeal.nD Cert.DrecRefIdeal.τ).loc Cert.DrecRefIdeal.main_arg1)
          ∧ r.2.mem ((c.tc : Thread Cert.DrecRefIdeal.nD Cert.DrecRefIdeal.τ).loc Cert.DrecRefIdeal.main_arg2) = m' ((c.tc : Thread Cert.DrecRefIdeal.nD Cert.DrecRefIdeal.τ).loc Cert.DrecRefIdeal.main_arg2)
          ∧ r.2.mem ((c.tc : Thread Cert.DrecRefIdeal.nD Cert.DrecRefIdeal.τ).loc Cert.DrecRefIdeal.main_arg3) = m' ((c.tc : Thread Cert.DrecRefIdeal.nD Cert.DrecRefIdeal.τ).loc Cert.DrecRefIdeal.main_arg3))

def Claim : Prop :=
  ∃ (hDscan : Cert.Dscan.Facts) (hDscanIdeal : Cert.DscanIdeal.Facts) (hDscanRefIdeal : Cert.DscanRefIdeal.Facts) (hKernel : Cert.Kernel.Facts) (hKernelIdeal : Cert.KernelIdeal.Facts) (hReferenceIdeal : Cert.ReferenceIdeal.Facts) (hDwdown : Cert.Dwdown.Facts) (hDwdownIdeal : Cert.DwdownIdeal.Facts) (hDwdownRefIdeal : Cert.DwdownRefIdeal.Facts) (hDact : Cert.Dact.Facts) (hDactIdeal : Cert.DactIdeal.Facts) (hDactRefIdeal : Cert.DactRefIdeal.Facts) (hDwup : Cert.Dwup.Facts) (hDwupIdeal : Cert.DwupIdeal.Facts) (hDwupRefIdeal : Cert.DwupRefIdeal.Facts) (hDhid : Cert.Dhid.Facts) (hDhidIdeal : Cert.DhidIdeal.Facts) (hDhidRefIdeal : Cert.DhidRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hMixout : Cert.Mixout.Facts) (hMixoutIdeal : Cert.MixoutIdeal.Facts) (hMixoutRefIdeal : Cert.MixoutRefIdeal.Facts) (hRecin : Cert.Recin.Facts) (hRecinIdeal : Cert.RecinIdeal.Facts) (hRecinRefIdeal : Cert.RecinRefIdeal.Facts) (hDwqkv : Cert.Dwqkv.Facts) (hDwqkvIdeal : Cert.DwqkvIdeal.Facts) (hDwqkvRefIdeal : Cert.DwqkvRefIdeal.Facts) (hDwout : Cert.Dwout.Facts) (hDwoutIdeal : Cert.DwoutIdeal.Facts) (hDwoutRefIdeal : Cert.DwoutRefIdeal.Facts) (hDwgate : Cert.Dwgate.Facts) (hDwgateIdeal : Cert.DwgateIdeal.Facts) (hDwgateRefIdeal : Cert.DwgateRefIdeal.Facts) (hDwrest : Cert.Dwrest.Facts) (hDwrestIdeal : Cert.DwrestIdeal.Facts) (hDwrestRefIdeal : Cert.DwrestRefIdeal.Facts) (hDhqkv : Cert.Dhqkv.Facts) (hDhqkvIdeal : Cert.DhqkvIdeal.Facts) (hDhqkvRefIdeal : Cert.DhqkvRefIdeal.Facts) (hDmix : Cert.Dmix.Facts) (hDmixIdeal : Cert.DmixIdeal.Facts) (hDmixRefIdeal : Cert.DmixRefIdeal.Facts) (hDrec : Cert.Drec.Facts) (hDrecIdeal : Cert.DrecIdeal.Facts) (hDrecRefIdeal : Cert.DrecRefIdeal.Facts) (hPre_finite_scan : Cert.Pre_finite_scan.Facts) (hPre_finite : Cert.Pre_finite.Facts),
    quiescent_Dscan (hDscan := hDscan)
    ∧ quiescent_DscanIdeal (hDscanIdeal := hDscanIdeal)
    ∧ quiescent_DscanIdeal_pre_finite_scan (hDscanIdeal := hDscanIdeal) (hPre_finite_scan := hPre_finite_scan)
    ∧ quiescent_DscanRefIdeal (hDscanRefIdeal := hDscanRefIdeal)
    ∧ quiescent_DscanRefIdeal_pre_finite_scan (hDscanRefIdeal := hDscanRefIdeal) (hPre_finite_scan := hPre_finite_scan)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Dact (hDact := hDact)
    ∧ quiescent_DactIdeal (hDactIdeal := hDactIdeal)
    ∧ quiescent_DactRefIdeal (hDactRefIdeal := hDactRefIdeal)
    ∧ quiescent_Dwup (hDwup := hDwup)
    ∧ quiescent_DwupIdeal (hDwupIdeal := hDwupIdeal)
    ∧ quiescent_DwupRefIdeal (hDwupRefIdeal := hDwupRefIdeal)
    ∧ quiescent_Dhid (hDhid := hDhid)
    ∧ quiescent_DhidIdeal (hDhidIdeal := hDhidIdeal)
    ∧ quiescent_DhidRefIdeal (hDhidRefIdeal := hDhidRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_Recin (hRecin := hRecin)
    ∧ quiescent_RecinIdeal (hRecinIdeal := hRecinIdeal)
    ∧ quiescent_RecinRefIdeal (hRecinRefIdeal := hRecinRefIdeal)
    ∧ quiescent_Dwqkv (hDwqkv := hDwqkv)
    ∧ quiescent_DwqkvIdeal (hDwqkvIdeal := hDwqkvIdeal)
    ∧ quiescent_DwqkvRefIdeal (hDwqkvRefIdeal := hDwqkvRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dwgate (hDwgate := hDwgate)
    ∧ quiescent_DwgateIdeal (hDwgateIdeal := hDwgateIdeal)
    ∧ quiescent_DwgateRefIdeal (hDwgateRefIdeal := hDwgateRefIdeal)
    ∧ quiescent_Dwrest (hDwrest := hDwrest)
    ∧ quiescent_DwrestIdeal (hDwrestIdeal := hDwrestIdeal)
    ∧ quiescent_DwrestRefIdeal (hDwrestRefIdeal := hDwrestRefIdeal)
    ∧ quiescent_Dhqkv (hDhqkv := hDhqkv)
    ∧ quiescent_DhqkvIdeal (hDhqkvIdeal := hDhqkvIdeal)
    ∧ quiescent_DhqkvRefIdeal (hDhqkvRefIdeal := hDhqkvRefIdeal)
    ∧ quiescent_Dmix (hDmix := hDmix)
    ∧ quiescent_DmixIdeal (hDmixIdeal := hDmixIdeal)
    ∧ quiescent_DmixRefIdeal (hDmixRefIdeal := hDmixRefIdeal)
    ∧ quiescent_Drec (hDrec := hDrec)
    ∧ quiescent_DrecIdeal (hDrecIdeal := hDrecIdeal)
    ∧ quiescent_DrecRefIdeal (hDrecRefIdeal := hDrecRefIdeal)
    ∧ preserves_Dscan_DscanIdeal
    ∧ algebraic_DscanIdeal_DscanRefIdeal_pre_finite_scan (hDscanIdeal := hDscanIdeal) (hDscanRefIdeal := hDscanRefIdeal) (hPre_finite_scan := hPre_finite_scan)
    ∧ preserves_Kernel_KernelIdeal
    ∧ algebraic_KernelIdeal_ReferenceIdeal_pre_finite (hKernelIdeal := hKernelIdeal) (hReferenceIdeal := hReferenceIdeal) (hPre_finite := hPre_finite)
    ∧ preserves_Dwdown_DwdownIdeal
    ∧ algebraic_DwdownIdeal_DwdownRefIdeal (hDwdownIdeal := hDwdownIdeal) (hDwdownRefIdeal := hDwdownRefIdeal)
    ∧ preserves_Dact_DactIdeal
    ∧ algebraic_DactIdeal_DactRefIdeal (hDactIdeal := hDactIdeal) (hDactRefIdeal := hDactRefIdeal)
    ∧ preserves_Dwup_DwupIdeal
    ∧ algebraic_DwupIdeal_DwupRefIdeal (hDwupIdeal := hDwupIdeal) (hDwupRefIdeal := hDwupRefIdeal)
    ∧ preserves_Dhid_DhidIdeal
    ∧ algebraic_DhidIdeal_DhidRefIdeal (hDhidIdeal := hDhidIdeal) (hDhidRefIdeal := hDhidRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_Mixout_MixoutIdeal
    ∧ algebraic_MixoutIdeal_MixoutRefIdeal (hMixoutIdeal := hMixoutIdeal) (hMixoutRefIdeal := hMixoutRefIdeal)
    ∧ preserves_Recin_RecinIdeal
    ∧ algebraic_RecinIdeal_RecinRefIdeal (hRecinIdeal := hRecinIdeal) (hRecinRefIdeal := hRecinRefIdeal)
    ∧ preserves_Dwqkv_DwqkvIdeal
    ∧ algebraic_DwqkvIdeal_DwqkvRefIdeal (hDwqkvIdeal := hDwqkvIdeal) (hDwqkvRefIdeal := hDwqkvRefIdeal)
    ∧ preserves_Dwout_DwoutIdeal
    ∧ algebraic_DwoutIdeal_DwoutRefIdeal (hDwoutIdeal := hDwoutIdeal) (hDwoutRefIdeal := hDwoutRefIdeal)
    ∧ preserves_Dwgate_DwgateIdeal
    ∧ algebraic_DwgateIdeal_DwgateRefIdeal (hDwgateIdeal := hDwgateIdeal) (hDwgateRefIdeal := hDwgateRefIdeal)
    ∧ preserves_Dwrest_DwrestIdeal
    ∧ algebraic_DwrestIdeal_DwrestRefIdeal (hDwrestIdeal := hDwrestIdeal) (hDwrestRefIdeal := hDwrestRefIdeal)
    ∧ preserves_Dhqkv_DhqkvIdeal
    ∧ algebraic_DhqkvIdeal_DhqkvRefIdeal (hDhqkvIdeal := hDhqkvIdeal) (hDhqkvRefIdeal := hDhqkvRefIdeal)
    ∧ preserves_Dmix_DmixIdeal
    ∧ algebraic_DmixIdeal_DmixRefIdeal (hDmixIdeal := hDmixIdeal) (hDmixRefIdeal := hDmixRefIdeal)
    ∧ preserves_Drec_DrecIdeal
    ∧ algebraic_DrecIdeal_DrecRefIdeal (hDrecIdeal := hDrecIdeal) (hDrecRefIdeal := hDrecRefIdeal)
-- ==== Pre_finite.lean ====
abbrev S8192x2816 : Shape := ⟨2, ![8192, 2816]⟩
abbrev S3x5632 : Shape := ⟨2, ![3, 5632]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_

variable [Facts]

def fn {F : FTy → Type} [FloatOps F] (main_arg0 : FVec F S8192x2816 .f32) (main_arg1 : FVec F S8192x2816 .f32) (main_arg2 : FVec F S3x5632 .f32) (main_arg3 : FVec F S8192x2816 .f32) : IVec S_ 1 :=
  let main_v0 : FVec F S8192x2816 .f32 := Host.absf main_arg1
  let main_cst : FVec F S_ .f32 := constant S_ .f32 0x7F7FFFFF#32
  let main_v1 : FVec F S8192x2816 .f32 := broadcastInDim S8192x2816 ![] bcast_S_S8192x2816 main_cst
  let main_v2 : IVec S8192x2816 1 := cmpf .ole main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S3x5632 .f32 := Host.absf main_arg2
  let main_cst_0 : FVec F S_ .f32 := constant S_ .f32 0x7F7FFFFF#32
  let main_v5 : FVec F S3x5632 .f32 := broadcastInDim S3x5632 ![] bcast_S_S3x5632 main_cst_0
  let main_v6 : IVec S3x5632 1 := cmpf .ole main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S8192x2816 .f32 := Host.absf main_arg3
  let main_cst_2 : FVec F S_ .f32 := constant S_ .f32 0x7F7FFFFF#32
  let main_v10 : FVec F S8192x2816 .f32 := broadcastInDim S8192x2816 ![] bcast_S_S8192x2816 main_cst_2
  let main_v11 : IVec S8192x2816 1 := cmpf .ole main_v9 main_v10
  let main_c_3 : IVec S_ 1 := constantI S_ 1 1#1
  let main_v12 : IVec S_ 1 := (fun x v => Host.reduce IntOp.andi x v reducesTo_S8192x2816_S_d0_1 h_S_) main_v11 main_c_3
  let main_v13 : IVec S_ 1 := andi main_v8 main_v12
  main_v13
-- ==== Pre_finite_scan.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S1x1024 .f32) (main_arg7 : FVec F S1x1024 .f32) (main_arg8 : FVec F S1x1024 .f32) (main_arg9 : FVec F S1x1024 .f32) : IVec S_ 1 :=
  let main_v0 : FVec F S8192x1024 .f32 := Host.absf main_arg0
  let main_cst : FVec F S_ .f32 := constant S_ .f32 0x7F7FFFFF#32
  let main_v1 : FVec F S8192x1024 .f32 := broadcastInDim S8192x1024 ![] bcast_S_S8192x1024 main_cst
  let main_v2 : IVec S8192x1024 1 := cmpf .ole main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F7FFFFF#32
  let main_v5 : FVec F S8192x1024 .f32 := broadcastInDim S8192x1024 ![] bcast_S_S8192x1024 main_cst_0
  let main_v6 : IVec S8192x1024 1 := cmpf .ole main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg6
  let main_cst_2 : FVec F S_ .f32 := constant S_ .f32 0x7F7FFFFF#32
  let main_v9 : FVec F S1x1024 .f32 := broadcastInDim S1x1024 ![] bcast_S_S1x1024 main_cst_2
  let main_v10 : IVec S1x1024 1 := cmpf .ole main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg7
  let main_cst_4 : FVec F S_ .f32 := constant S_ .f32 0x7F7FFFFF#32
  let main_v13 : FVec F S1x1024 .f32 := broadcastInDim S1x1024 ![] bcast_S_S1x1024 main_cst_4
  let main_v14 : IVec S1x1024 1 := cmpf .ole main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_v3 main_v7 main_v11 main_v15
-- ==== Dscan.lean ====
abbrev S8192x1024 : Shape := ⟨2, ![8192, 1024]⟩
abbrev S1x1024 : Shape := ⟨2, ![1, 1024]⟩
abbrev S8 : Shape := ⟨1, ![8]⟩
abbrev S8x1 : Shape := ⟨2, ![8, 1]⟩
abbrev S_ : Shape := ⟨0, ![]⟩
abbrev S8x1024 : Shape := ⟨2, ![8, 1024]⟩
abbrev S64x1024 : Shape := ⟨2, ![64, 1024]⟩
abbrev S32x1024 : Shape := ⟨2, ![32, 1024]⟩
abbrev S256x1024 : Shape := ⟨2, ![256, 1024]⟩
abbrev S4x8x1024 : Shape := ⟨3, ![4, 8, 1024]⟩
abbrev S4x1024 : Shape := ⟨2, ![4, 1024]⟩

abbrev nBuf : Space → Nat
  | .hbm => 112
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S8, .i32⟩
  | .hbm, ⟨54, _⟩ => ⟨S8x1, .i32⟩
  | .hbm, ⟨55, _⟩ => ⟨S_, .i32⟩
  | .hbm, ⟨56, _⟩ => ⟨S8x1, .i32⟩
  | .hbm, ⟨57, _⟩ => ⟨S8x1, .i1⟩
  | .hbm, ⟨58, _⟩ => ⟨S_, .f32⟩
  | .hbm, ⟨59, _⟩ => ⟨S_, .f32⟩
  | .hbm, ⟨60, _⟩ => ⟨S8x1024, .i1⟩
  | .hbm, ⟨61, _⟩ => ⟨S8x1024, .f32⟩
  | .hbm, ⟨62, _⟩ => ⟨S8x1024, .f32⟩
  | .hbm, ⟨63, _⟩ => ⟨S8x1024, .f32⟩
  | .hbm, ⟨64, _⟩ => ⟨S_, .f32⟩
  | .hbm, ⟨65, _⟩ => ⟨S_, .f32⟩
  | .hbm, ⟨66, _⟩ => ⟨S8x1024, .i1⟩
  | .hbm, ⟨67, _⟩ => ⟨S8x1024, .f32⟩
  | .hbm, ⟨68, _⟩ => ⟨S8x1024, .f32⟩
  | .hbm, ⟨69, _⟩ => ⟨S8x1024, .f32⟩
  | .hbm, ⟨70, _⟩ => ⟨S_, .i32⟩
  | .hbm, ⟨71, _⟩ => ⟨S8x1, .i32⟩
  | .hbm, ⟨72, _⟩ => ⟨S8x1, .i1⟩
  | .hbm, ⟨73, _⟩ => ⟨S_, .f32⟩
  | .hbm, ⟨74, _⟩ => ⟨S_, .f32⟩
  | .hbm, ⟨75, _⟩ => ⟨S8x1024, .i1⟩
  | .hbm, ⟨76, _⟩ => ⟨S8x1024, .f32⟩
  | .hbm, ⟨77, _⟩ => ⟨S8x1024, .f32⟩
  | .hbm, ⟨78, _⟩ => ⟨S8x1024, .f32⟩
  | .hbm, ⟨79, _⟩ => ⟨S_, .f32⟩
  | .hbm, ⟨80, _⟩ => ⟨S_, .f32⟩
  | .hbm, ⟨81, _⟩ => ⟨S8x1024, .i1⟩
  | .hbm, ⟨82, _⟩ => ⟨S8x1024, .f32⟩
  | .hbm, ⟨83, _⟩ => ⟨S8x1024, .f32⟩
  | .hbm, ⟨84, _⟩ => ⟨S8x1024, .f32⟩
  | .hbm, ⟨85, _⟩ => ⟨S_, .i32⟩
  | .hbm, ⟨86, _⟩ => ⟨S8x1, .i32⟩
  | .hbm, ⟨87, _⟩ => ⟨S8x1, .i1⟩
  | .hbm, ⟨88, _⟩ => ⟨S_, .f32⟩
  | .hbm, ⟨89, _⟩ => ⟨S_, .f32⟩
  | .hbm, ⟨90, _⟩ => ⟨S8x1024, .i1⟩
  | .hbm, ⟨91, _⟩ => ⟨S8x1024, .f32⟩
  | .hbm, ⟨92, _⟩ => ⟨S8x1024, .f32⟩
  | .hbm, ⟨93, _⟩ => ⟨S8x1024, .f32⟩
  | .hbm, ⟨94, _⟩ => ⟨S_, .f32⟩
  | .hbm, ⟨95, _⟩ => ⟨S_, .f32⟩
  | .hbm, ⟨96, _⟩ => ⟨S8x1024, .i1⟩
  | .hbm, ⟨97, _⟩ => ⟨S8x1024, .f32⟩
  | .hbm, ⟨98, _⟩ => ⟨S8x1024, .f32⟩
  | .hbm, ⟨99, _⟩ => ⟨S8x1024, .f32⟩
  | .hbm, ⟨100, _⟩ => ⟨S8x1024, .f32⟩
  | .hbm, ⟨101, _⟩ => ⟨S8x1024, .f32⟩
  | .hbm, ⟨102, _⟩ => ⟨S64x1024, .f32⟩
  | .hbm, ⟨103, _⟩ => ⟨S_, .f32⟩
  | .hbm, ⟨104, _⟩ => ⟨S1x1024, .f32⟩
  | .hbm, ⟨105, _⟩ => ⟨S8x1024, .f32⟩
  | .hbm, ⟨106, _⟩ => ⟨S8192x1024, .f32⟩
  | .hbm, ⟨107, _⟩ => ⟨S8192x1024, .f32⟩
  | .hbm, ⟨108, _⟩ => ⟨S32x1024, .f32⟩
  | .hbm, ⟨109, _⟩ => ⟨S4x8x1024, .f32⟩
  | .hbm, ⟨110, _⟩ => ⟨S_, .f32⟩
  | .hbm, ⟨111, _⟩ => ⟨S4x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S64x1024, .f32⟩
  | .local _ .vmem, ⟨13, _⟩ => ⟨S8x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S32x1024, .f32⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c : Ref sig .tc := ⟨.hbm, 55, rfl⟩
abbrev main_v45 : Ref sig .tc := ⟨.hbm, 56, rfl⟩
abbrev main_v46 : Ref sig .tc := ⟨.hbm, 57, rfl⟩
abbrev main_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_v47 : Ref sig .tc := ⟨.hbm, 63, rfl⟩
abbrev main_cst_0 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_v48 : Ref sig .tc := ⟨.hbm, 69, rfl⟩
abbrev main_c_1 : Ref sig .tc := ⟨.hbm, 70, rfl⟩
abbrev main_v49 : Ref sig .tc := ⟨.hbm, 71, rfl⟩
abbrev main_v50 : Ref sig .tc := ⟨.hbm, 72, rfl⟩
abbrev main_cst_2 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_v51 : Ref sig .tc := ⟨.hbm, 78, rfl⟩
abbrev main_cst_3 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_v52 : Ref sig .tc := ⟨.hbm, 84, rfl⟩
abbrev main_c_4 : Ref sig .tc := ⟨.hbm, 85, rfl⟩
abbrev main_v53 : Ref sig .tc := ⟨.hbm, 86, rfl⟩
abbrev main_v54 : Ref sig .tc := ⟨.hbm, 87, rfl⟩
abbrev main_cst_5 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_v55 : Ref sig .tc := ⟨.hbm, 93, rfl⟩
abbrev main_cst_6 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_7 : Ref sig .tc := ⟨.hbm, 103, rfl⟩
abbrev main_v60 : Ref sig .tc := ⟨.hbm, 104, rfl⟩
abbrev main_v61 : Ref sig .tc := ⟨.hbm, 105, rfl⟩
abbrev main_v62_0 : Ref sig .tc := ⟨.hbm, 106, rfl⟩
abbrev main_v62_1 : Ref sig .tc := ⟨.hbm, 107, rfl⟩
abbrev main_v62_2 : Ref sig .tc := ⟨.hbm, 108, rfl⟩
abbrev main_v63 : Ref sig .tc := ⟨.hbm, 109, rfl⟩
abbrev main_cst_8 : Ref sig .tc := ⟨.hbm, 110, rfl⟩
abbrev main_v64 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_3 : BitVec 32 := 0#32
  let c32_i32 : BitVec 32 := 32#32
  let v5 : BitVec 32 := Scalar.addi c0_i32_3 c32_i32
  let c1_i32 : BitVec 32 := 1#32
  ⟨c0_i32_3, v5, c1_i32⟩
def k0_mult1 (k0_t1 : Fin k0_t1_loop.trips) : BitVec 32 :=
  let c31_i32 : BitVec 32 := 31#32
  let c0_i32_3 : BitVec 32 := 0#32
  let c1_i32 : BitVec 32 := 1#32
  let arg13 : BitVec 32 := Scf.iv c0_i32_3 c1_i32 k0_t1
  let v13 : BitVec 32 := Scalar.subi c31_i32 arg13
  let c8_i32 : BitVec 32 := 8#32
  let v14 : BitVec 32 := Scalar.muli v13 c8_i32
  v14
def k0_off1 (k0_t1 : Fin k0_t1_loop.trips) : Fin 2 → Nat :=
  let c31_i32 : BitVec 32 := 31#32
  let c0_i32_3 : BitVec 32 := 0#32
  let c1_i32 : BitVec 32 := 1#32
  let arg13 : BitVec 32 := Scf.iv c0_i32_3 c1_i32 k0_t1
  let v13 : BitVec 32 := Scalar.subi c31_i32 arg13
  let c8_i32 : BitVec 32 := 8#32
  let v14 : BitVec 32 := Scalar.muli v13 c8_i32
  let v15 : BitVec 32 := v14
  let v16 : Index := Scalar.indexCast v15
  let c0_9 : Index := 0#32
  ![v16.toNat, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DscanRefIdeal.lean ====
abbrev S8192x1024 : Shape := ⟨2, ![8192, 1024]⟩
abbrev S1x1024 : Shape := ⟨2, ![1, 1024]⟩
abbrev S_ : Shape := ⟨0, ![]⟩
abbrev S8192x1x1024 : Shape := ⟨3, ![8192, 1, 1024]⟩
abbrev S1x1x1024 : Shape := ⟨3, ![1, 1, 1024]⟩
abbrev S8191x1024 : Shape := ⟨2, ![8191, 1024]⟩
abbrev S1024 : Shape := ⟨1, ![1024]⟩
abbrev S4x1024 : Shape := ⟨2, ![4, 1024]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S1x1024, .f32⟩
  | 7 => ⟨S1x1024, .f32⟩
  | 8 => ⟨S1x1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S1x1024, .f32⟩
  | 22 => ⟨S8192x1x1024, .f32⟩
  | 23 => ⟨S8192x1x1024, .f32⟩
  | 24 => ⟨S_, .f32⟩
  | 25 => ⟨S1x1024, .f32⟩
  | 26 => ⟨S_, .f32⟩
  | 27 => ⟨S1x1024, .f32⟩
  | 28 => ⟨S_, .f32⟩
  | 29 => ⟨S8192x1x1024, .f32⟩
  | 30 => ⟨S_, .f32⟩
  | 31 => ⟨S8192x1x1024, .f32⟩
  | 32 => ⟨S_, .i32⟩
  | 33 => ⟨S8192x1x1024, .f32⟩
  | 34 => ⟨S8192x1x1024, .f32⟩
  | 35 => ⟨S1x1024, .f32⟩
  | 36 => ⟨S1x1024, .f32⟩
  | 37 => ⟨S_, .i32⟩
  | 38 => ⟨S1x1024, .f32⟩
  | 39 => ⟨S1x1024, .f32⟩
  | 40 => ⟨S8192x1x1024, .f32⟩
  | 41 => ⟨S8192x1x1024, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S1x1x1024, .f32⟩
  | 51 => ⟨S1x1024, .f32⟩
  | 52 => ⟨S_, .i32⟩
  | 53 => ⟨S_, .i32⟩
  | 54 => ⟨S1x1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1x1024, .f32⟩
  | 66 => ⟨S_, .i32⟩
  | 67 => ⟨S_, .i32⟩
  | 68 => ⟨S8192x1x1024, .f32⟩
  | 69 => ⟨S1x1x1024, .f32⟩
  | 70 => ⟨S_, .i32⟩
  | 71 => ⟨S_, .i32⟩
  | 72 => ⟨S8192x1x1024, .f32⟩
  | 73 => ⟨S_, .i32⟩
  | 74 => ⟨S_, .i32⟩
  | 75 => ⟨S_, .f32⟩
  | 76 => ⟨S8192x1024, .f32⟩
  | 77 => ⟨S_, .f32⟩
  | 78 => ⟨S8192x1024, .f32⟩
  | 79 => ⟨S_, .f32⟩
  | 80 => ⟨S1x1024, .f32⟩
  | 81 => ⟨S8191x1024, .f32⟩
  | 82 => ⟨S8192x1024, .f32⟩
  | 83 => ⟨S_, .f32⟩
  | 84 => ⟨S1x1024, .f32⟩
  | 85 => ⟨S8191x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S1x1024, .f32⟩
  | 111 => ⟨S8192x1024, .f32⟩
  | 112 => ⟨S_, .f32⟩
  | 113 => ⟨S1024, .f32⟩
  | 114 => ⟨S1x1024, .f32⟩
  | 115 => ⟨S1x1024, .f32⟩
  | 116 => ⟨S8192x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S1x1024, .f32⟩
  | 17 => ⟨S4x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_c : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v17_4 : Ref sig .tc := ⟨.hbm, 37, rfl⟩
abbrev main_v17_5 : Ref sig .tc := ⟨.hbm, 38, rfl⟩
abbrev main_v17_6 : Ref sig .tc := ⟨.hbm, 39, rfl⟩
abbrev main_v17_7 : Ref sig .tc := ⟨.hbm, 40, rfl⟩
abbrev main_v17_8 : Ref sig .tc := ⟨.hbm, 41, rfl⟩
abbrev main_while0c_c_24 : Ref sig .tc := ⟨.hbm, 42, rfl⟩
abbrev main_while0c_v77 : Ref sig .tc := ⟨.hbm, 43, rfl⟩
abbrev main_while0b_c_24 : Ref sig .tc := ⟨.hbm, 44, rfl⟩
abbrev main_while0b_v77 : Ref sig .tc := ⟨.hbm, 45, rfl⟩
abbrev main_while0b_c_25 : Ref sig .tc := ⟨.hbm, 46, rfl⟩
abbrev main_while0b_v78 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_v0 : Ref sig .tc := ⟨.hbm, 50, rfl⟩
abbrev main_while0b_v79 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_v0 : Ref sig .tc := ⟨.hbm, 54, rfl⟩
abbrev main_while0b_v80 : Ref sig .tc := ⟨.hbm, 55, rfl⟩
abbrev main_while0b_v81 : Ref sig .tc := ⟨.hbm, 56, rfl⟩
abbrev main_while0b_v82 : Ref sig .tc := ⟨.hbm, 57, rfl⟩
abbrev main_while0b_v83 : Ref sig .tc := ⟨.hbm, 58, rfl⟩
abbrev main_while0b_v84 : Ref sig .tc := ⟨.hbm, 59, rfl⟩
abbrev main_while0b_v85 : Ref sig .tc := ⟨.hbm, 60, rfl⟩
abbrev main_while0b_v86 : Ref sig .tc := ⟨.hbm, 61, rfl⟩
abbrev main_while0b_v87 : Ref sig .tc := ⟨.hbm, 62, rfl⟩
abbrev main_while0b_v88 : Ref sig .tc := ⟨.hbm, 63, rfl⟩
abbrev main_while0b_v89 : Ref sig .tc := ⟨.hbm, 64, rfl⟩
abbrev main_while0b_call2_v0 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_v90 : Ref sig .tc := ⟨.hbm, 68, rfl⟩
abbrev main_while0b_call3_v0 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_v91 : Ref sig .tc := ⟨.hbm, 72, rfl⟩
abbrev main_while0b_c_26 : Ref sig .tc := ⟨.hbm, 73, rfl⟩
abbrev main_while0b_v92 : Ref sig .tc := ⟨.hbm, 74, rfl⟩
abbrev main_cst_4 : Ref sig .tc := ⟨.hbm, 75, rfl⟩
abbrev main_v18 : Ref sig .tc := ⟨.hbm, 76, rfl⟩
abbrev main_cst_5 : Ref sig .tc := ⟨.hbm, 77, rfl⟩
abbrev main_v19 : Ref sig .tc := ⟨.hbm, 78, rfl⟩
abbrev main_cst_6 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_cst_7 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_8 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_9 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_cst_10 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_cst_11 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_12 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_13 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_14 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_cst_15 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩

abbrev nD : Nat := 1
abbrev τ : Topo := Topo.v7x

variable {F : FTy → Type} [FloatOps F]

abbrev main_while0_count : Scf.Loop 32 := ⟨0#32, 8192#32, 1#32⟩
-- ==== Kernel.lean ====
abbrev S8192x2816 : Shape := ⟨2, ![8192, 2816]⟩
abbrev S3x5632 : Shape := ⟨2, ![3, 5632]⟩
abbrev S3x2816 : Shape := ⟨2, ![3, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S48x2816 : Shape := ⟨2, ![48, 2816]⟩
abbrev S256x1408 : Shape := ⟨2, ![256, 1408]⟩
abbrev S3x1408 : Shape := ⟨2, ![3, 1408]⟩
abbrev S48x1408 : Shape := ⟨2, ![48, 1408]⟩
abbrev S8x1408 : Shape := ⟨2, ![8, 1408]⟩
abbrev S248x1408 : Shape := ⟨2, ![248, 1408]⟩
abbrev S1x1408 : Shape := ⟨2, ![1, 1408]⟩
abbrev S32x8x1408 : Shape := ⟨3, ![32, 8, 1408]⟩
abbrev S2x3x8x2816 : Shape := ⟨4, ![2, 3, 8, 2816]⟩
abbrev S2x3x2816 : Shape := ⟨3, ![2, 3, 2816]⟩
abbrev S1x3x2816 : Shape := ⟨3, ![1, 3, 2816]⟩

abbrev nBuf : Space → Nat
  | .hbm => 51
  | .vmem => 22
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S8192x2816, .f32⟩
  | .hbm, ⟨4, _⟩ => ⟨S3x2816, .f32⟩
  | .hbm, ⟨5, _⟩ => ⟨S_, .f32⟩
  | .hbm, ⟨6, _⟩ => ⟨S2x2816, .f32⟩
  | .hbm, ⟨7, _⟩ => ⟨S8194x2816, .f32⟩
  | .hbm, ⟨8, _⟩ => ⟨S1x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S1x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S1x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S3x2816, .f32⟩
  | .hbm, ⟨23, _⟩ => ⟨S_, .f32⟩
  | .hbm, ⟨24, _⟩ => ⟨S2x2816, .f32⟩
  | .hbm, ⟨25, _⟩ => ⟨S8194x2816, .f32⟩
  | .hbm, ⟨26, _⟩ => ⟨S1x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S1x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .bf16⟩
  | .hbm, ⟨41, _⟩ => ⟨S8192x2816, .bf16⟩
  | .hbm, ⟨42, _⟩ => ⟨S48x2816, .f32⟩
  | .hbm, ⟨43, _⟩ => ⟨S2x3x8x2816, .f32⟩
  | .hbm, ⟨44, _⟩ => ⟨S_, .f32⟩
  | .hbm, ⟨45, _⟩ => ⟨S2x3x2816, .f32⟩
  | .hbm, ⟨46, _⟩ => ⟨S1x3x2816, .f32⟩
  | .hbm, ⟨47, _⟩ => ⟨S3x2816, .f32⟩
  | .hbm, ⟨48, _⟩ => ⟨S1x3x2816, .f32⟩
  | .hbm, ⟨49, _⟩ => ⟨S3x2816, .f32⟩
  | .hbm, ⟨50, _⟩ => ⟨S3x5632, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .bf16⟩
  | .local _ .vmem, ⟨15, _⟩ => ⟨S256x1408, .bf16⟩
  | .local _ .vmem, ⟨16, _⟩ => ⟨S256x1408, .bf16⟩
  | .local _ .vmem, ⟨17, _⟩ => ⟨S256x1408, .bf16⟩
  | .local _ .vmem, ⟨18, _⟩ => ⟨S48x1408, .f32⟩
  | .local _ .vmem, ⟨19, _⟩ => ⟨S48x1408, .f32⟩
  | .local _ .vmem, ⟨20, _⟩ => ⟨S8x1408, .f32⟩
  | .local _ .vmem, ⟨21, _⟩ => ⟨S8x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34_0 : Ref sig .tc := ⟨.hbm, 40, rfl⟩
abbrev main_v34_1 : Ref sig .tc := ⟨.hbm, 41, rfl⟩
abbrev main_v34_2 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S48x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x2816 : Shape := ⟨2, ![8192, 2816]⟩
abbrev S3x5632 : Shape := ⟨2, ![3, 5632]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 87
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S8192x2816, .f32⟩
  | .hbm, ⟨4, _⟩ => ⟨S8192x5632, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S_, .f32⟩
  | .hbm, ⟨9, _⟩ => ⟨S2x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S_, .f32⟩
  | .hbm, ⟨51, _⟩ => ⟨S5632, .f32⟩
  | .hbm, ⟨52, _⟩ => ⟨S1x5632, .f32⟩
  | .hbm, ⟨53, _⟩ => ⟨S_, .f32⟩
  | .hbm, ⟨54, _⟩ => ⟨S8194x5632, .f32⟩
  | .hbm, ⟨55, _⟩ => ⟨S_, .f32⟩
  | .hbm, ⟨56, _⟩ => ⟨S3x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S_, .f32⟩
  | .hbm, ⟨64, _⟩ => ⟨S8194x5632, .f32⟩
  | .hbm, ⟨65, _⟩ => ⟨S8194x5632, .f32⟩
  | .hbm, ⟨66, _⟩ => ⟨S_, .f32⟩
  | .hbm, ⟨67, _⟩ => ⟨S3x5632, .f32⟩
  | .hbm, ⟨68, _⟩ => ⟨S3x5632, .f32⟩
  | .hbm, ⟨69, _⟩ => ⟨S8192x5632, .f32⟩
  | .hbm, ⟨70, _⟩ => ⟨S8192x5632, .f32⟩
  | .hbm, ⟨71, _⟩ => ⟨S8192x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S8194x5632, .f32⟩
  | .hbm, ⟨77, _⟩ => ⟨S8194x5632, .f32⟩
  | .hbm, ⟨78, _⟩ => ⟨S_, .f32⟩
  | .hbm, ⟨79, _⟩ => ⟨S3x5632, .f32⟩
  | .hbm, ⟨80, _⟩ => ⟨S3x5632, .f32⟩
  | .hbm, ⟨81, _⟩ => ⟨S2x5632, .f32⟩
  | .hbm, ⟨82, _⟩ => ⟨S8192x5632, .f32⟩
  | .hbm, ⟨83, _⟩ => ⟨S8192x2816, .f32⟩
  | .hbm, ⟨84, _⟩ => ⟨S8192x2816, .f32⟩
  | .hbm, ⟨85, _⟩ => ⟨S8192x2816, .bf16⟩
  | .hbm, ⟨86, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v20_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v20_1 : Ref sig .tc := ⟨.hbm, 37, rfl⟩
abbrev main_v20_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]
-- ==== Dwdown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwup.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwupRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhid.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DhidRefIdeal.lean ====
abbrev S8192x2816 : Shape := ⟨2, ![8192, 2816]⟩
abbrev S1024x2816 : Shape := ⟨2, ![1024, 2816]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x2816, .f32⟩
  | .hbm, ⟨5, _⟩ => ⟨S8192x2816, .f32⟩
  | .hbm, ⟨6, _⟩ => ⟨S1024x2816, .f32⟩
  | .hbm, ⟨7, _⟩ => ⟨S1024x2816, .f32⟩
  | .hbm, ⟨8, _⟩ => ⟨S_, .f32⟩
  | .hbm, ⟨9, _⟩ => ⟨S8192x1024, .f32⟩
  | .hbm, ⟨10, _⟩ => ⟨S8192x2816, .f32⟩
  | .hbm, ⟨11, _⟩ => ⟨S8192x2816, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Up.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Qkv.lean ====
abbrev S8192x1024 : Shape := ⟨2, ![8192, 1024]⟩
abbrev S1024x2304 : Shape := ⟨2, ![1024, 2304]⟩
abbrev S8192x2304 : Shape := ⟨2, ![8192, 2304]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S8192x1024 : Shape := ⟨2, ![8192, 1024]⟩
abbrev S1024x2304 : Shape := ⟨2, ![1024, 2304]⟩
abbrev S8192x2304 : Shape := ⟨2, ![8192, 2304]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x1024, .f32⟩
  | .hbm, ⟨3, _⟩ => ⟨S1024x2304, .f32⟩
  | .hbm, ⟨4, _⟩ => ⟨S8192x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mixout.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixoutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Recin.lean ====
abbrev S8192x1024 : Shape := ⟨2, ![8192, 1024]⟩
abbrev S1024x3456 : Shape := ⟨2, ![1024, 3456]⟩
abbrev S8192x3456 : Shape := ⟨2, ![8192, 3456]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecinRefIdeal.lean ====
abbrev S8192x1024 : Shape := ⟨2, ![8192, 1024]⟩
abbrev S1024x3456 : Shape := ⟨2, ![1024, 3456]⟩
abbrev S8192x3456 : Shape := ⟨2, ![8192, 3456]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x1024, .f32⟩
  | .hbm, ⟨3, _⟩ => ⟨S1024x3456, .f32⟩
  | .hbm, ⟨4, _⟩ => ⟨S8192x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dwqkv.lean ====
abbrev S8192x1024 : Shape := ⟨2, ![8192, 1024]⟩
abbrev S8192x2304 : Shape := ⟨2, ![8192, 2304]⟩
abbrev S1024x2304 : Shape := ⟨2, ![1024, 2304]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1024x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwqkvRefIdeal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S8192x1024, .f32⟩
  | .hbm, ⟨3, _⟩ => ⟨S8192x2304, .f32⟩
  | .hbm, ⟨4, _⟩ => ⟨S_, .f32⟩
  | .hbm, ⟨5, _⟩ => ⟨S1024x2304, .f32⟩
  | .hbm, ⟨6, _⟩ => ⟨S8192x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwout.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwgate.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwgateRefIdeal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x1024, .f32⟩
  | .hbm, ⟨3, _⟩ => ⟨S8192x768, .f32⟩
  | .hbm, ⟨4, _⟩ => ⟨S_, .f32⟩
  | .hbm, ⟨5, _⟩ => ⟨S1024x768, .f32⟩
  | .hbm, ⟨6, _⟩ => ⟨S8192x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwrest.lean ====
abbrev S8192x1024 : Shape := ⟨2, ![8192, 1024]⟩
abbrev S8192x384 : Shape := ⟨2, ![8192, 384]⟩
abbrev S1024x384 : Shape := ⟨2, ![1024, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x384, .bf16⟩
  | .hbm, ⟨2, _⟩ => ⟨S1024x384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwrestRefIdeal.lean ====
abbrev S8192x1024 : Shape := ⟨2, ![8192, 1024]⟩
abbrev S8192x384 : Shape := ⟨2, ![8192, 384]⟩
abbrev S_ : Shape := ⟨0, ![]⟩
abbrev S1024x384 : Shape := ⟨2, ![1024, 384]⟩
abbrev S384x1024 : Shape := ⟨2, ![384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x384, .bf16⟩
  | .hbm, ⟨2, _⟩ => ⟨S8192x1024, .f32⟩
  | .hbm, ⟨3, _⟩ => ⟨S8192x384, .f32⟩
  | .hbm, ⟨4, _⟩ => ⟨S_, .f32⟩
  | .hbm, ⟨5, _⟩ => ⟨S1024x384, .f32⟩
  | .hbm, ⟨6, _⟩ => ⟨S8192x384, .f32⟩
  | .hbm, ⟨7, _⟩ => ⟨S384x1024, .f32⟩
  | .hbm, ⟨8, _⟩ => ⟨S1024x384, .f32⟩
  | .hbm, ⟨9, _⟩ => ⟨S1024x384, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhqkv.lean ====
abbrev S8192x2304 : Shape := ⟨2, ![8192, 2304]⟩
abbrev S1024x2304 : Shape := ⟨2, ![1024, 2304]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .bf16⟩
  | .hbm, ⟨2, _⟩ => ⟨S8192x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhqkvRefIdeal.lean ====
abbrev S8192x2304 : Shape := ⟨2, ![8192, 2304]⟩
abbrev S1024x2304 : Shape := ⟨2, ![1024, 2304]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .bf16⟩
  | .hbm, ⟨2, _⟩ => ⟨S8192x2304, .f32⟩
  | .hbm, ⟨3, _⟩ => ⟨S1024x2304, .f32⟩
  | .hbm, ⟨4, _⟩ => ⟨S_, .f32⟩
  | .hbm, ⟨5, _⟩ => ⟨S8192x1024, .f32⟩
  | .hbm, ⟨6, _⟩ => ⟨S8192x2304, .f32⟩
  | .hbm, ⟨7, _⟩ => ⟨S8192x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dmix.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Drec.lean ====
abbrev S8192x2304 : Shape := ⟨2, ![8192, 2304]⟩
abbrev S8192x768 : Shape := ⟨2, ![8192, 768]⟩
abbrev S8192x384 : Shape := ⟨2, ![8192, 384]⟩
abbrev S1024x3456 : Shape := ⟨2, ![1024, 3456]⟩
abbrev S1024x2304 : Shape := ⟨2, ![1024, 2304]⟩
abbrev S1024x768 : Shape := ⟨2, ![1024, 768]⟩
abbrev S1024x384 : Shape := ⟨2, ![1024, 384]⟩
abbrev S8192x1024 : Shape := ⟨2, ![8192, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x2304, .bf16⟩
  | .hbm, ⟨1, _⟩ => ⟨S8192x768, .bf16⟩
  | .hbm, ⟨2, _⟩ => ⟨S8192x384, .bf16⟩
  | .hbm, ⟨3, _⟩ => ⟨S1024x3456, .bf16⟩
  | .hbm, ⟨4, _⟩ => ⟨S1024x2304, .bf16⟩
  | .hbm, ⟨5, _⟩ => ⟨S1024x768, .bf16⟩
  | .hbm, ⟨6, _⟩ => ⟨S1024x384, .bf16⟩
  | .hbm, ⟨7, _⟩ => ⟨S8192x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x384, .bf16⟩
  | .local _ .vmem, ⟨7, _⟩ => ⟨S1024x384, .bf16⟩
  | .local _ .vmem, ⟨8, _⟩ => ⟨S1024x384, .bf16⟩
  | .local _ .vmem, ⟨9, _⟩ => ⟨S1024x1024, .f32⟩
  | .local _ .vmem, ⟨10, _⟩ => ⟨S1024x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DrecRefIdeal.lean ====
abbrev S8192x2304 : Shape := ⟨2, ![8192, 2304]⟩
abbrev S8192x768 : Shape := ⟨2, ![8192, 768]⟩
abbrev S8192x384 : Shape := ⟨2, ![8192, 384]⟩
abbrev S1024x3456 : Shape := ⟨2, ![1024, 3456]⟩
abbrev S_ : Shape := ⟨0, ![]⟩
abbrev S8192x1024 : Shape := ⟨2, ![8192, 1024]⟩
abbrev S8192x3456 : Shape := ⟨2, ![8192, 3456]⟩

abbrev nBuf : Space → Nat
  | .hbm => 13
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S8192x768, .bf16⟩
  | .hbm, ⟨2, _⟩ => ⟨S8192x384, .bf16⟩
  | .hbm, ⟨3, _⟩ => ⟨S1024x3456, .bf16⟩
  | .hbm, ⟨4, _⟩ => ⟨S8192x2304, .f32⟩
  | .hbm, ⟨5, _⟩ => ⟨S8192x768, .f32⟩
  | .hbm, ⟨6, _⟩ => ⟨S8192x384, .f32⟩
  | .hbm, ⟨7, _⟩ => ⟨S1024x3456, .f32⟩
  | .hbm, ⟨8, _⟩ => ⟨S_, .f32⟩
  | .hbm, ⟨9, _⟩ => ⟨S8192x1024, .f32⟩
  | .hbm, ⟨10, _⟩ => ⟨S8192x3456, .f32⟩
  | .hbm, ⟨11, _⟩ => ⟨S8192x3456, .f32⟩
  | .hbm, ⟨12, _⟩ => ⟨S8192x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.ScanSum.lean ====
/-
  THE MATHEMATICS of the scan's gradient, one lane at a time and in complex numbers: the recurrence from the last row to the first, eight rows
  of it by doubling, and the sums over the rows.
-/
module

public import Mathlib.Data.Complex.BigOperators
public import Mathlib.Data.EReal.Operations
public import Mathlib.Tactic.FinCases
public import Mathlib.Tactic.Ring
public import Mathlib.Data.Fin.VecNotation
public import Mathlib.Algebra.BigOperators.Intervals

@[expose] public section

noncomputable section

namespace Cert.Scan

open ComplexConjugate

/-- The arrays of one scan, by row and lane: the gradient of the states, the states, the inputs, the decay and the factor of the inputs. The
gradient and the decay are complex numbers; the others are pairs of extended real numbers, infinite ones among them. -/
structure Data where
  G : ℕ → Fin 1024 → ℂ
  X : ℕ → Fin 1024 → EReal × EReal
  B : ℕ → Fin 1024 → EReal × EReal
  a : Fin 1024 → ℂ
  f : Fin 1024 → EReal × EReal

variable (D : Data) (j : Fin 1024)

/-- The gradient of the state before the decay, counted from the last row: `lam n` belongs to row `8192 - n`. -/
def lam : ℕ → ℂ
  | 0 => 0
  | n + 1 => D.G (8191 - n) j + conj (D.a j) * lam n

/-- One doubling: each row takes in the row `s` below it, weighted, where there is one. -/
def dbl (s : ℕ) (P : ℂ) (e : Fin 8 → ℂ) (i : Fin 8) : ℂ :=
  e i + (if i.val < 8 - s then P else 0) * e ⟨(i.val + s) % 8, Nat.mod_lt _ (by decide)⟩

/-- Eight rows by three doublings, and the row after them. -/
def scan8 (A : ℂ) (g : Fin 8 → ℂ) (c : ℂ) (i : Fin 8) : ℂ :=
  dbl 4 (A ^ 4) (dbl 2 (A ^ 2) (dbl 1 A g)) i + A ^ (8 - i.val) * c

theorem scan8_last (A : ℂ) (g : Fin 8 → ℂ) (c : ℂ) : scan8 A g c 7 = g 7 + A * c := by
  simp [scan8, dbl]

theorem scan8_step (A : ℂ) (g : Fin 8 → ℂ) (c : ℂ) (i : Fin 7) :
    scan8 A g c i.castSucc = g i.castSucc + A * scan8 A g c i.succ := by
  fin_cases i <;> simp [scan8, dbl] <;> ring

/-- Eight rows of the recurrence at once. -/
theorem scan8_lam (q : ℕ) (hq : q < 1024) (n : ℕ) (hn : n < 8) :
    scan8 (conj (D.a j)) (fun i => D.G (8184 - 8 * q + i.val) j) (lam D j (8 * q)) ⟨7 - n, by omega⟩ = lam D j (8 * q + n + 1) := by
  induction n with
  | zero =>
    refine (scan8_last _ _ _).trans ?_
    rw [lam]
    refine congrArg (· + _) (congrArg (D.G · j) ?_)
    show 8184 - 8 * q + 7 = 8191 - 8 * q
    omega
  | succ n ih =>
    refine (scan8_step _ _ _ (⟨7 - (n + 1), by omega⟩ : Fin 7)).trans ?_
    have e : ((⟨7 - (n + 1), by omega⟩ : Fin 7).succ : Fin 8) = ⟨7 - n, by omega⟩ := Fin.ext (by simp only [Fin.succ_mk]; omega)
    rw [e, ih (by omega)]
    conv_rhs => rw [lam]
    refine congrArg (· + _) (congrArg (D.G · j) ?_)
    show 8184 - 8 * q + (7 - (n + 1)) = 8191 - (8 * q + n + 1)
    omega

/-! ### Complex arithmetic by real and imaginary parts -/

/-- A complex number's real and imaginary parts among the extended real numbers. -/
def Re (z : ℂ) : EReal := ((z.re : ℝ) : EReal)
def Im (z : ℂ) : EReal := ((z.im : ℝ) : EReal)

theorem re_add (z w : ℂ) : Re z + Re w = Re (z + w) := by
  unfold Re; rw [Complex.add_re]; norm_cast
theorem im_add (z w : ℂ) : Im z + Im w = Im (z + w) := by
  unfold Im; rw [Complex.add_im]; norm_cast
theorem re_step (e A s : ℂ) : Re e + Re A * Re s - Im A * Im s = Re (e + A * s) := by
  unfold Re Im; rw [Complex.add_re, Complex.mul_re]; norm_cast; ring
theorem im_step (e A s : ℂ) : Im e + Re A * Im s + Im A * Re s = Im (e + A * s) := by
  unfold Re Im; rw [Complex.add_im, Complex.mul_im]; norm_cast; ring
theorem re_mul (z w : ℂ) : Re z * Re w - Im z * Im w = Re (z * w) := by
  unfold Re Im; rw [Complex.mul_re]; norm_cast
theorem im_mul (z w : ℂ) : Re z * Im w + Im z * Re w = Im (z * w) := by
  unfold Re Im; rw [Complex.mul_im]; norm_cast
theorem re_conj (z w : ℂ) : Re z * Re w + Im z * Im w = Re (z * conj w) := by
  unfold Re Im; rw [Complex.mul_re, Complex.conj_re, Complex.conj_im]; norm_cast; ring
theorem im_conj (z w : ℂ) : Im z * Re w - Re z * Im w = Im (z * conj w) := by
  unfold Re Im; rw [Complex.mul_im, Complex.conj_re, Complex.conj_im]; norm_cast; ring
theorem im_conj' (z w : ℂ) : Re w * Im z + Im w * -Re z = Im (z * conj w) := by
  unfold Re Im; rw [Complex.mul_im, Complex.conj_re, Complex.conj_im]; norm_cast; ring
theorem re_zero : Re 0 = 0 := rfl
theorem im_zero : Im 0 = 0 := rfl

/-- A complex number times the conjugate of a pair. -/
def over (l : ℂ) (x : EReal × EReal) : EReal × EReal := (Re l * x.1 + Im l * x.2, Im l * x.1 - Re l * x.2)

theorem zero_over (x : EReal × EReal) : over 0 x = 0 := by simp [over, re_zero, im_zero]
theorem over_zero (l : ℂ) : over l 0 = 0 := by simp [over]

/-! ### Sums over the rows -/

/-- The eight sums of every eighth row together are the sum over the rows. -/
theorem sum_rows {M : Type} [AddCommMonoid M] (F : ℕ → M) (N : ℕ) : ∑ i ∈ Finset.range 8, ∑ p ∈ Finset.range N, F (8 * p + 7 - i) = ∑ n ∈ Finset.range (8 * N), F n := by
  rw [Finset.sum_comm]
  induction N with
  | zero => rfl
  | succ N ih =>
    rw [Finset.sum_range_succ, ih, show 8 * (N + 1) = 8 * N + 8 by ring, Finset.sum_range_add, ← Finset.sum_range_reflect (fun i => F (8 * N + i)) 8]
    refine congrArg _ (Finset.sum_congr rfl fun i hi => congrArg F ?_)
    have := Finset.mem_range.mp hi
    omega

/-- A sum counted from the last row. -/
theorem sum_back {M : Type} [AddCommMonoid M] (F : ℕ → M) (N : ℕ) : ∑ n ∈ Finset.range N, F (N - 1 - n) = ∑ n ∈ Finset.range N, F n := Finset.sum_range_reflect F N

/-- What the rows so far give the gradient of the decay, in row `i` of eight; and what they give that of the factor. -/
def sumA (i q : ℕ) : EReal × EReal := ∑ p ∈ Finset.range q, over (lam D j (8 * p + 7 - i)) (D.X (8184 - 8 * p + i) j)
def sumB (i q : ℕ) : EReal × EReal := ∑ p ∈ Finset.range q, over (lam D j (8 * p + 8 - i)) (D.B (8184 - 8 * p + i) j)

/-- The gradient of the decay and of the factor. -/
def gradA : EReal × EReal := ∑ t ∈ Finset.range 8192, over (lam D j (8192 - t)) (if t = 0 then 0 else D.X (t - 1) j)
def gradB : EReal × EReal := ∑ t ∈ Finset.range 8192, over (lam D j (8192 - t)) (D.B t j)

theorem sumA_all : ∑ i ∈ Finset.range 8, sumA D j i 1024 = gradA D j := by
  have e : ∀ i ∈ Finset.range 8, sumA D j i 1024 = ∑ p ∈ Finset.range 1024, (fun n => over (lam D j n) (D.X (8191 - n) j)) (8 * p + 7 - i) := fun i hi =>
    Finset.sum_congr rfl fun p hp => by
      have := Finset.mem_range.mp hi; have := Finset.mem_range.mp hp
      show over (lam D j _) (D.X _ j) = over (lam D j _) (D.X _ j)
      rw [show 8184 - 8 * p + i = 8191 - (8 * p + 7 - i) by omega]
  refine (Finset.sum_congr rfl e).trans ((sum_rows (fun n => over (lam D j n) (D.X (8191 - n) j)) 1024).trans ?_)
  refine (Finset.sum_range_succ' (fun n => over (lam D j n) (D.X (8191 - n) j)) 8191).trans
    (Eq.trans ?_ (Finset.sum_range_succ' (fun t => over (lam D j (8192 - t)) (if t = 0 then 0 else D.X (t - 1) j)) 8191).symm)
  refine congrArg₂ (· + ·) ((sum_back (fun n => over (lam D j (n + 1)) (D.X (8191 - (n + 1)) j)) 8191).symm.trans (Finset.sum_congr rfl fun t ht => ?_)) ?_
  · have := Finset.mem_range.mp ht
    rw [if_neg (by omega), show 8191 - 1 - t + 1 = 8192 - (t + 1) by omega, show 8191 - (8192 - (t + 1)) = t + 1 - 1 by omega]
  · rw [if_pos rfl, over_zero]; exact zero_over _

theorem sumB_all : ∑ i ∈ Finset.range 8, sumB D j i 1024 = gradB D j := by
  have e : ∀ i ∈ Finset.range 8, sumB D j i 1024 = ∑ p ∈ Finset.range 1024, (fun n => over (lam D j (n + 1)) (D.B (8191 - n) j)) (8 * p + 7 - i) := fun i hi =>
    Finset.sum_congr rfl fun p hp => by
      have := Finset.mem_range.mp hi; have := Finset.mem_range.mp hp
      show over (lam D j _) (D.B _ j) = over (lam D j _) (D.B _ j)
      rw [show 8184 - 8 * p + i = 8191 - (8 * p + 7 - i) by omega, show 8 * p + 8 - i = 8 * p + 7 - i + 1 by omega]
  refine (Finset.sum_congr rfl e).trans ((sum_rows (fun n => over (lam D j (n + 1)) (D.B (8191 - n) j)) 1024).trans ?_)
  rw [gradB, ← sum_back _ (8 * 1024)]
  refine Finset.sum_congr (by norm_num) fun t ht => ?_
  have := Finset.mem_range.mp ht
  show over (lam D j _) (D.B _ j) = over (lam D j _) (D.B _ j)
  rw [show 8 * 1024 - 1 - t + 1 = 8192 - t by omega, show 8191 - (8 * 1024 - 1 - t) = t by omega]

/-- The gradients of the decay and of the factor, real and imaginary parts in four rows. -/
def four (i : Fin 4) (j : Fin 1024) : EReal := ![(gradA D j).1, (gradA D j).2, (gradB D j).1, (gradB D j).2] i

end Cert.Scan

end
-- ==== Proof.ScanTrip.lean ====
/-
  ONE TRIP of the scan's loop in numbers: eight rows of the recurrence by three doublings and the row after them, from the vectors the trip
  loads.
-/
module

public import proofs.«01_k».proof.Proof.ScanSum
public import proofs.«01_k».proof.Proof.Gen.DscanIdeal.Skeleton
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

noncomputable section

namespace Cert.DscanIdeal.Scan

open Cert.DscanIdeal Cert.DscanIdeal.Gen Idealize.ShloMosaic Idealize.ShloMosaic.TcCoe
open Cert.Scan ComplexConjugate

/-- Two arrays of eight rows are the parts of complex numbers. -/
def Are (re im : FVec Ideal S8x1024 .f32) (z : Fin 8 → Fin 1024 → ℂ) : Prop :=
  ∀ i j, (re (ix2 i j) : EReal) = Re (z i j) ∧ (im (ix2 i j) : EReal) = Im (z i j)

/-- Two arrays of one row are the parts of complex numbers. -/
def AreRow (re im : FVec Ideal S1x1024 .f32) (z : Fin 1024 → ℂ) : Prop :=
  ∀ j, (re (ix2 0 j) : EReal) = Re (z j) ∧ (im (ix2 0 j) : EReal) = Im (z j)

/-- The same of pairs of extended real numbers. -/
def AreOf (re im : FVec Ideal S8x1024 .f32) (z : Fin 8 → Fin 1024 → EReal × EReal) : Prop :=
  ∀ i j, (re (ix2 i j) : EReal) = (z i j).1 ∧ (im (ix2 i j) : EReal) = (z i j).2
def AreRowOf (re im : FVec Ideal S1x1024 .f32) (z : Fin 1024 → EReal × EReal) : Prop :=
  ∀ j, (re (ix2 0 j) : EReal) = (z j).1 ∧ (im (ix2 0 j) : EReal) = (z j).2

/-- The row `s` below, with wrap-around, is the rotation by `8 - s`. -/
theorem rotate_one (x : FVec Ideal S8x1024 .f32) (i : Fin 8) (j : Fin 1024) :
    dynamicRotate 0 7#32 none x rotates_S8x1024_d0 (ix2 i j) = x (ix2 ⟨(i.val + 1) % 8, Nat.mod_lt _ (by decide)⟩ j) := by
  pointwise; fin_cases i <;> rfl
theorem rotate_two (x : FVec Ideal S8x1024 .f32) (i : Fin 8) (j : Fin 1024) :
    dynamicRotate 0 6#32 none x rotates_S8x1024_d0 (ix2 i j) = x (ix2 ⟨(i.val + 2) % 8, Nat.mod_lt _ (by decide)⟩ j) := by
  pointwise; fin_cases i <;> rfl
theorem rotate_four (x : FVec Ideal S8x1024 .f32) (i : Fin 8) (j : Fin 1024) :
    dynamicRotate 0 4#32 none x rotates_S8x1024_d0 (ix2 i j) = x (ix2 ⟨(i.val + 4) % 8, Nat.mod_lt _ (by decide)⟩ j) := by
  pointwise; fin_cases i <;> rfl

/-- One doubling, real and imaginary part. -/
def dblRe (w : BitVec 32) (er ei tr ti : FVec Ideal S8x1024 .f32) : FVec Ideal S8x1024 .f32 :=
  subf (addf er (mulf (shapeCast S8x1024 tr shapeCasts_S8x1024_S8x1024) (dynamicRotate 0 w none er rotates_S8x1024_d0)))
    (mulf (shapeCast S8x1024 ti shapeCasts_S8x1024_S8x1024) (dynamicRotate 0 w none ei rotates_S8x1024_d0))
def dblIm (w : BitVec 32) (er ei tr ti : FVec Ideal S8x1024 .f32) : FVec Ideal S8x1024 .f32 :=
  addf (addf ei (mulf (shapeCast S8x1024 tr shapeCasts_S8x1024_S8x1024) (dynamicRotate 0 w none ei rotates_S8x1024_d0)))
    (mulf (shapeCast S8x1024 ti shapeCasts_S8x1024_S8x1024) (dynamicRotate 0 w none er rotates_S8x1024_d0))

theorem dbl_are (w : BitVec 32) (s : ℕ) (hw : ∀ (x : FVec Ideal S8x1024 .f32) i j, dynamicRotate 0 w none x rotates_S8x1024_d0 (ix2 i j) = x (ix2 ⟨(i.val + s) % 8, Nat.mod_lt _ (by decide)⟩ j))
    {er ei tr ti : FVec Ideal S8x1024 .f32} {e : Fin 8 → Fin 1024 → ℂ} {P : Fin 1024 → ℂ} (he : Are er ei e)
    (ht : Are tr ti fun i j => if i.val < 8 - s then P j else 0) :
    Are (dblRe w er ei tr ti) (dblIm w er ei tr ti) fun i j => dbl s (P j) (fun i => e i j) i := by
  intro i j
  have hc : ∀ x : FVec Ideal S8x1024 .f32, shapeCast S8x1024 x shapeCasts_S8x1024_S8x1024 (ix2 i j) = x (ix2 i j) := fun x => by pointwise
  have e1 : dblRe w er ei tr ti (ix2 i j) = (fun a b c d e : EReal => a + b * c - d * e) (er (ix2 i j)) (shapeCast S8x1024 tr shapeCasts_S8x1024_S8x1024 (ix2 i j)) (dynamicRotate 0 w none er rotates_S8x1024_d0 (ix2 i j)) (shapeCast S8x1024 ti shapeCasts_S8x1024_S8x1024 (ix2 i j)) (dynamicRotate 0 w none ei rotates_S8x1024_d0 (ix2 i j)) := rfl
  have e2 : dblIm w er ei tr ti (ix2 i j) = (fun a b c d e : EReal => a + b * c + d * e) (ei (ix2 i j)) (shapeCast S8x1024 tr shapeCasts_S8x1024_S8x1024 (ix2 i j)) (dynamicRotate 0 w none ei rotates_S8x1024_d0 (ix2 i j)) (shapeCast S8x1024 ti shapeCasts_S8x1024_S8x1024 (ix2 i j)) (dynamicRotate 0 w none er rotates_S8x1024_d0 (ix2 i j)) := rfl
  constructor
  · rw [e1, hc, hc, hw, hw, (he _ _).1, (he _ _).1, (he _ _).2, (ht _ _).1, (ht _ _).2]
    exact re_step _ _ _
  · rw [e2, hc, hc, hw, hw, (he _ _).2, (he _ _).2, (he _ _).1, (ht _ _).1, (ht _ _).2]
    exact im_step _ _ _

variable {gr gi t0 t1 t2 t3 t4 t5 t6 t7 : FVec Ideal S8x1024 .f32} {cr ci : FVec Ideal S1x1024 .f32}

/-- Eight rows of the recurrence as the trip computes them. -/
def rowsRe (gr gi t0 t1 t2 t3 t4 t5 t6 t7 : FVec Ideal S8x1024 .f32) (cr ci : FVec Ideal S1x1024 .f32) : FVec Ideal S8x1024 .f32 :=
  k0_pay27 cr ci (k0_pay19 gr gi t0 t1 t2 t3) (k0_pay21 gr gi t0 t1 t2 t3) (k0_pay22 gr gi t0 t1 t2 t3) (k0_pay23 t4) t5 t6 t7
def rowsIm (gr gi t0 t1 t2 t3 t4 t5 t6 t7 : FVec Ideal S8x1024 .f32) (cr ci : FVec Ideal S1x1024 .f32) : FVec Ideal S8x1024 .f32 :=
  k0_pay28 cr ci (k0_pay20 gr gi t0 t1 t2 t3) (k0_pay21 gr gi t0 t1 t2 t3) (k0_pay22 gr gi t0 t1 t2 t3) (k0_pay23 t4) t5 t6 t7
/-- The row after each of the eight. -/
def nextRe (gr gi t0 t1 t2 t3 t4 t5 t6 t7 : FVec Ideal S8x1024 .f32) (cr ci : FVec Ideal S1x1024 .f32) : FVec Ideal S8x1024 .f32 :=
  k0_pay29 cr ci (k0_pay19 gr gi t0 t1 t2 t3) (k0_pay21 gr gi t0 t1 t2 t3) (k0_pay22 gr gi t0 t1 t2 t3) (k0_pay23 t4) t5 t6 t7
def nextIm (gr gi t0 t1 t2 t3 t4 t5 t6 t7 : FVec Ideal S8x1024 .f32) (cr ci : FVec Ideal S1x1024 .f32) : FVec Ideal S8x1024 .f32 :=
  k0_pay30 cr ci (k0_pay20 gr gi t0 t1 t2 t3) (k0_pay21 gr gi t0 t1 t2 t3) (k0_pay22 gr gi t0 t1 t2 t3) (k0_pay23 t4) t5 t6 t7

/-- Three doublings. -/
theorem dbls_are {g : Fin 8 → Fin 1024 → ℂ} {A : Fin 1024 → ℂ} (hg : Are gr gi g)
    (h1 : Are t0 t1 fun i j => if i.val < 8 - 1 then A j else 0) (h2 : Are t2 t3 fun i j => if i.val < 8 - 2 then A j ^ 2 else 0) (h4 : Are t4 t5 fun i j => if i.val < 8 - 4 then A j ^ 4 else 0) :
    Are (dblRe 4#32 (dblRe 6#32 (dblRe 7#32 gr gi t0 t1) (dblIm 7#32 gr gi t0 t1) t2 t3) (dblIm 6#32 (dblRe 7#32 gr gi t0 t1) (dblIm 7#32 gr gi t0 t1) t2 t3) t4 t5)
      (dblIm 4#32 (dblRe 6#32 (dblRe 7#32 gr gi t0 t1) (dblIm 7#32 gr gi t0 t1) t2 t3) (dblIm 6#32 (dblRe 7#32 gr gi t0 t1) (dblIm 7#32 gr gi t0 t1) t2 t3) t4 t5)
      fun i j => dbl 4 (A j ^ 4) (dbl 2 (A j ^ 2) (dbl 1 (A j) (fun i => g i j))) i :=
  dbl_are 4#32 4 rotate_four (dbl_are 6#32 2 rotate_two (dbl_are 7#32 1 rotate_one hg h1) h2) h4

theorem rows_are {g : Fin 8 → Fin 1024 → ℂ} {A c : Fin 1024 → ℂ} (hg : Are gr gi g)
    (h1 : Are t0 t1 fun i j => if i.val < 8 - 1 then A j else 0) (h2 : Are t2 t3 fun i j => if i.val < 8 - 2 then A j ^ 2 else 0) (h4 : Are t4 t5 fun i j => if i.val < 8 - 4 then A j ^ 4 else 0)
    (h8 : Are t6 t7 fun i j => A j ^ (8 - i.val)) (hc : AreRow cr ci c) :
    Are (rowsRe gr gi t0 t1 t2 t3 t4 t5 t6 t7 cr ci) (rowsIm gr gi t0 t1 t2 t3 t4 t5 t6 t7 cr ci) fun i j => scan8 (A j) (fun i => g i j) (c j) i := by
  intro i j
  have hs : ∀ x : FVec Ideal S8x1024 .f32, shapeCast S8x1024 x shapeCasts_S8x1024_S8x1024 (ix2 i j) = x (ix2 i j) := fun x => by pointwise
  have hb : ∀ x : FVec Ideal S1x1024 .f32, broadcastTo S8x1024 x broadcasts_S1x1024_S8x1024 (ix2 i j) = x (ix2 0 j) := fun x => by pointwise
  obtain ⟨d1, d2⟩ := dbls_are hg h1 h2 h4 i j
  have e1 : rowsRe gr gi t0 t1 t2 t3 t4 t5 t6 t7 cr ci (ix2 i j) = (fun a b c d e : EReal => a + b * c - d * e)
    (dblRe 4#32 (dblRe 6#32 (dblRe 7#32 gr gi t0 t1) (dblIm 7#32 gr gi t0 t1) t2 t3) (dblIm 6#32 (dblRe 7#32 gr gi t0 t1) (dblIm 7#32 gr gi t0 t1) t2 t3) t4 t5 (ix2 i j))
    (shapeCast S8x1024 t6 shapeCasts_S8x1024_S8x1024 (ix2 i j)) (broadcastTo S8x1024 cr broadcasts_S1x1024_S8x1024 (ix2 i j)) (shapeCast S8x1024 t7 shapeCasts_S8x1024_S8x1024 (ix2 i j)) (broadcastTo S8x1024 ci broadcasts_S1x1024_S8x1024 (ix2 i j)) := rfl
  have e2 : rowsIm gr gi t0 t1 t2 t3 t4 t5 t6 t7 cr ci (ix2 i j) = (fun a b c d e : EReal => a + b * c + d * e)
    (dblIm 4#32 (dblRe 6#32 (dblRe 7#32 gr gi t0 t1) (dblIm 7#32 gr gi t0 t1) t2 t3) (dblIm 6#32 (dblRe 7#32 gr gi t0 t1) (dblIm 7#32 gr gi t0 t1) t2 t3) t4 t5 (ix2 i j))
    (shapeCast S8x1024 t6 shapeCasts_S8x1024_S8x1024 (ix2 i j)) (broadcastTo S8x1024 ci broadcasts_S1x1024_S8x1024 (ix2 i j)) (shapeCast S8x1024 t7 shapeCasts_S8x1024_S8x1024 (ix2 i j)) (broadcastTo S8x1024 cr broadcasts_S1x1024_S8x1024 (ix2 i j)) := rfl
  constructor
  · rw [e1, hs, hs, hb, hb, d1, (hc _).1, (hc _).2, (h8 _ _).1, (h8 _ _).2]; exact re_step _ _ _
  · rw [e2, hs, hs, hb, hb, d2, (hc _).1, (hc _).2, (h8 _ _).1, (h8 _ _).2]; exact im_step _ _ _

/-- The row after: within the eight the next one, after the last the carried one. -/
theorem nextRe_at (i : Fin 8) (j : Fin 1024) : nextRe gr gi t0 t1 t2 t3 t4 t5 t6 t7 cr ci (ix2 i j) =
    if i.val = 7 then cr (ix2 0 j) else rowsRe gr gi t0 t1 t2 t3 t4 t5 t6 t7 cr ci (ix2 ⟨(i.val + 1) % 8, Nat.mod_lt _ (by decide)⟩ j) := by
  unfold nextRe k0_pay29
  rw [show k0_pay27 cr ci (k0_pay19 gr gi t0 t1 t2 t3) (k0_pay21 gr gi t0 t1 t2 t3) (k0_pay22 gr gi t0 t1 t2 t3) (k0_pay23 t4) t5 t6 t7 = rowsRe gr gi t0 t1 t2 t3 t4 t5 t6 t7 cr ci from rfl]
  generalize rowsRe gr gi t0 t1 t2 t3 t4 t5 t6 t7 cr ci = x
  fin_cases i <;> pointwise <;> rfl
theorem nextIm_at (i : Fin 8) (j : Fin 1024) : nextIm gr gi t0 t1 t2 t3 t4 t5 t6 t7 cr ci (ix2 i j) =
    if i.val = 7 then ci (ix2 0 j) else rowsIm gr gi t0 t1 t2 t3 t4 t5 t6 t7 cr ci (ix2 ⟨(i.val + 1) % 8, Nat.mod_lt _ (by decide)⟩ j) := by
  unfold nextIm k0_pay30
  rw [show k0_pay28 cr ci (k0_pay20 gr gi t0 t1 t2 t3) (k0_pay21 gr gi t0 t1 t2 t3) (k0_pay22 gr gi t0 t1 t2 t3) (k0_pay23 t4) t5 t6 t7 = rowsIm gr gi t0 t1 t2 t3 t4 t5 t6 t7 cr ci from rfl]
  generalize rowsIm gr gi t0 t1 t2 t3 t4 t5 t6 t7 cr ci = x
  fin_cases i <;> pointwise <;> rfl

variable {D : Data} {q : ℕ}

/-- The eight rows of trip `q`, the row after each, and what the trip leaves for the next. -/
theorem rows_lam (hq : q < 1024) (hg : Are gr gi fun i j => D.G (8184 - 8 * q + i.val) j)
    (h1 : Are t0 t1 fun i j => if i.val < 8 - 1 then conj (D.a j) else 0) (h2 : Are t2 t3 fun i j => if i.val < 8 - 2 then conj (D.a j) ^ 2 else 0) (h4 : Are t4 t5 fun i j => if i.val < 8 - 4 then conj (D.a j) ^ 4 else 0)
    (h8 : Are t6 t7 fun i j => conj (D.a j) ^ (8 - i.val)) (hc : AreRow cr ci fun j => lam D j (8 * q)) :
    Are (rowsRe gr gi t0 t1 t2 t3 t4 t5 t6 t7 cr ci) (rowsIm gr gi t0 t1 t2 t3 t4 t5 t6 t7 cr ci) fun i j => lam D j (8 * q + 8 - i.val) := by
  intro i j
  have e : scan8 (conj (D.a j)) (fun i => D.G (8184 - 8 * q + i.val) j) (lam D j (8 * q)) i = lam D j (8 * q + 8 - i.val) := by
    have h := scan8_lam D j q hq (7 - i.val) (by omega)
    rw [show (⟨7 - (7 - i.val), by omega⟩ : Fin 8) = i from Fin.ext (by simp only; omega)] at h
    rw [h]; congr 1; omega
  have h := rows_are hg h1 h2 h4 h8 hc i j
  simp only [e] at h
  exact h

theorem next_lam (hr : Are (rowsRe gr gi t0 t1 t2 t3 t4 t5 t6 t7 cr ci) (rowsIm gr gi t0 t1 t2 t3 t4 t5 t6 t7 cr ci) fun i j => lam D j (8 * q + 8 - i.val)) (hc : AreRow cr ci fun j => lam D j (8 * q)) :
    Are (nextRe gr gi t0 t1 t2 t3 t4 t5 t6 t7 cr ci) (nextIm gr gi t0 t1 t2 t3 t4 t5 t6 t7 cr ci) fun i j => lam D j (8 * q + 7 - i.val) := by
  intro i j
  rw [nextRe_at, nextIm_at]
  have := i.isLt
  by_cases h : i.val = 7
  · rw [if_pos h, if_pos h]; beta_reduce; rw [h]; exact hc j
  · rw [if_neg h, if_neg h]
    have h' := hr ⟨(i.val + 1) % 8, Nat.mod_lt _ (by decide)⟩ j
    beta_reduce at h' ⊢
    rw [show 8 * q + 8 - (⟨(i.val + 1) % 8, Nat.mod_lt _ (by decide)⟩ : Fin 8).val = 8 * q + 7 - i.val by simp only; omega] at h'
    exact h'

variable {er ei sr si xr xi ur ui vr vi : FVec Ideal S8x1024 .f32} {fr fi : FVec Ideal S1x1024 .f32} {e : Fin 8 → Fin 1024 → ℂ} {x u : Fin 8 → Fin 1024 → EReal × EReal} {f : Fin 1024 → EReal × EReal}

/-- The row carried on is the first of the eight. -/
theorem carry_are (he : Are er ei e) : AreRow (k0_pay5 er) (k0_pay6 ei) (e 0) := by
  intro j
  rw [show k0_pay5 er (ix2 0 j) = er (ix2 0 j) by unfold k0_pay5; pointwise, show k0_pay6 ei (ix2 0 j) = ei (ix2 0 j) by unfold k0_pay6; pointwise]
  exact he 0 j

/-- The sums of the decay take in the row after times the conjugate of the state. -/
theorem decay_are (hs : Are sr si e) (hx : AreOf xr xi x) (hu : AreOf ur ui u) :
    AreOf (k0_pay33 si xi (k0_pay31 ur) (mulf sr xr)) (k0_pay34 sr si xr xi ui) fun i j => u i j + over (e i j) (x i j) := by
  intro i j
  have hc : ∀ x : FVec Ideal S8x1024 .f32, shapeCast S8x1024 x shapeCasts_S8x1024_S8x1024 (ix2 i j) = x (ix2 i j) := fun x => by pointwise
  have e1 : k0_pay33 si xi (k0_pay31 ur) (mulf sr xr) (ix2 i j) = (fun a b c d e : EReal => a + (b * c + d * e)) (shapeCast S8x1024 ur shapeCasts_S8x1024_S8x1024 (ix2 i j)) (sr (ix2 i j)) (xr (ix2 i j)) (si (ix2 i j)) (xi (ix2 i j)) := rfl
  have e2 : k0_pay34 sr si xr xi ui (ix2 i j) = (fun a b c d e : EReal => a + (b * c - d * e)) (shapeCast S8x1024 ui shapeCasts_S8x1024_S8x1024 (ix2 i j)) (si (ix2 i j)) (xr (ix2 i j)) (sr (ix2 i j)) (xi (ix2 i j)) := rfl
  constructor
  · rw [e1, hc, (hu _ _).1, (hs _ _).1, (hs _ _).2, (hx _ _).1, (hx _ _).2]; rfl
  · rw [e2, hc, (hu _ _).2, (hs _ _).1, (hs _ _).2, (hx _ _).1, (hx _ _).2]; rfl

/-- The sums of the factor take in the row times the conjugate of the input. -/
theorem factor_are (hs : Are er ei e) (hx : AreOf xr xi x) (hu : AreOf ur ui u) :
    AreOf (k0_pay35 er ei xr xi ur) (k0_pay36 er ei xr xi ui) fun i j => u i j + over (e i j) (x i j) := by
  intro i j
  have hc : ∀ x : FVec Ideal S8x1024 .f32, shapeCast S8x1024 x shapeCasts_S8x1024_S8x1024 (ix2 i j) = x (ix2 i j) := fun x => by pointwise
  have e1 : k0_pay35 er ei xr xi ur (ix2 i j) = (fun a b c d e : EReal => a + (b * c + d * e)) (shapeCast S8x1024 ur shapeCasts_S8x1024_S8x1024 (ix2 i j)) (er (ix2 i j)) (xr (ix2 i j)) (ei (ix2 i j)) (xi (ix2 i j)) := rfl
  have e2 : k0_pay36 er ei xr xi ui (ix2 i j) = (fun a b c d e : EReal => a + (b * c - d * e)) (shapeCast S8x1024 ui shapeCasts_S8x1024_S8x1024 (ix2 i j)) (ei (ix2 i j)) (xr (ix2 i j)) (er (ix2 i j)) (xi (ix2 i j)) := rfl
  constructor
  · rw [e1, hc, (hu _ _).1, (hs _ _).1, (hs _ _).2, (hx _ _).1, (hx _ _).2]; rfl
  · rw [e2, hc, (hu _ _).2, (hs _ _).1, (hs _ _).2, (hx _ _).1, (hx _ _).2]; rfl

/-- The gradient of the input is the row times the conjugate of the factor. -/
theorem input_are (hs : Are er ei e) (hf : AreRowOf fr fi f) :
    AreOf (k0_pay3 ei (k0_pay39 er fr) (k0_pay40 fi)) (k0_pay4 er ei (k0_pay37 fr) (k0_pay38 fi)) fun i j => over (e i j) (f j) := by
  intro i j
  have hb : ∀ x : FVec Ideal S1x1024 .f32, broadcastTo S8x1024 (shapeCast S1x1024 x shapeCasts_S1x1024_S1x1024) broadcasts_S1x1024_S8x1024 (ix2 i j) = x (ix2 0 j) := fun x => by pointwise
  have e1 : k0_pay3 ei (k0_pay39 er fr) (k0_pay40 fi) (ix2 i j) = (fun a b c d : EReal => a * b + c * d) (broadcastTo S8x1024 (shapeCast S1x1024 fr shapeCasts_S1x1024_S1x1024) broadcasts_S1x1024_S8x1024 (ix2 i j)) (er (ix2 i j)) (broadcastTo S8x1024 (shapeCast S1x1024 fi shapeCasts_S1x1024_S1x1024) broadcasts_S1x1024_S8x1024 (ix2 i j)) (ei (ix2 i j)) := rfl
  have e2 : k0_pay4 er ei (k0_pay37 fr) (k0_pay38 fi) (ix2 i j) = (fun a b c d : EReal => a * b - c * d) (broadcastTo S8x1024 (shapeCast S1x1024 fr shapeCasts_S1x1024_S1x1024) broadcasts_S1x1024_S8x1024 (ix2 i j)) (ei (ix2 i j)) (broadcastTo S8x1024 (shapeCast S1x1024 fi shapeCasts_S1x1024_S1x1024) broadcasts_S1x1024_S8x1024 (ix2 i j)) (er (ix2 i j)) := rfl
  constructor
  · rw [e1, hb, hb, (hs _ _).1, (hs _ _).2, (hf _).1, (hf _).2]; beta_reduce
    rw [mul_comm (f j).1, mul_comm (f j).2]; rfl
  · rw [e2, hb, hb, (hs _ _).1, (hs _ _).2, (hf _).1, (hf _).2]; beta_reduce
    rw [mul_comm (f j).1, mul_comm (f j).2]; rfl

end Cert.DscanIdeal.Scan

end
-- ==== Proof.ScanTables.lean ====
/-
  THE TABLES of the scan's gradient: the powers of the decay's conjugate that the program lays out for the doublings, and the factor's rows.
-/
module

public import proofs.«01_k».proof.Proof.ScanTrip
public import proofs.«01_k».proof.Proof.Gen.DscanIdeal.Frame

@[expose] public section

set_option maxRecDepth 16384

noncomputable section

namespace Cert.DscanIdeal.Scan

open Cert.DscanIdeal Cert.DscanIdeal.Gen Idealize.ShloMosaic Idealize.ShloMosaic.TcCoe Idealize.ShloMosaic.StableHlo
open Cert.Scan ComplexConjugate

/-- The next power, real and imaginary part. -/
def timesRe (xr xi ar ai : FVec Ideal S1x1024 .f32) : FVec Ideal S1x1024 .f32 := subf (mulf xr ar) (mulf xi ai)
def timesIm (xr xi ar ai : FVec Ideal S1x1024 .f32) : FVec Ideal S1x1024 .f32 := addf (mulf xr ai) (mulf xi ar)

theorem times_are {xr xi ar ai : FVec Ideal S1x1024 .f32} {x a : Fin 1024 → ℂ} (hx : AreRow xr xi x) (ha : AreRow ar ai a) {rr ri : FVec Ideal S1x1024 .f32}
    (hr : rr = timesRe xr xi ar ai) (hi : ri = timesIm xr xi ar ai) : AreRow rr ri fun j => x j * a j := by
  subst hr hi
  intro j
  have e1 : timesRe xr xi ar ai (ix2 0 j) = (fun a b c d : EReal => a * b - c * d) (xr (ix2 0 j)) (ar (ix2 0 j)) (xi (ix2 0 j)) (ai (ix2 0 j)) := rfl
  have e2 : timesIm xr xi ar ai (ix2 0 j) = (fun a b c d : EReal => a * b + c * d) (xr (ix2 0 j)) (ai (ix2 0 j)) (xi (ix2 0 j)) (ar (ix2 0 j)) := rfl
  constructor
  · rw [e1, (hx _).1, (hx _).2, (ha _).1, (ha _).2]; exact re_mul _ _
  · rw [e2, (hx _).1, (hx _).2, (ha _).1, (ha _).2]; exact im_mul _ _

/-- A row repeated over the first rows of eight, and zero after them. -/
def masked (w : BitVec 32) (x : FVec Ideal S1x1024 .f32) : FVec Ideal S8x1024 .f32 :=
  select (broadcastInDim S8x1024 ![0, 1] bcast_S8x1_S8x1024_0_1 (cmpi .slt (broadcastInDim S8x1 ![0] bcast_S8_S8x1_0 (iotaInDim S8 32 0)) (broadcastInDim S8x1 ![] bcast_S_S8x1 (constantI S_ 32 w))))
    (broadcastInDim S8x1024 ![0, 1] bcast_S1x1024_S8x1024_0_1 x) (broadcastInDim S8x1024 ![] bcast_S_S8x1024 (id (constant S_ .f32 0x00000000#32)))

theorem masked_seven (x : FVec Ideal S1x1024 .f32) (i : Fin 8) (j : Fin 1024) : (masked 7#32 x (ix2 i j) : EReal) = if i.val < 8 - 1 then x (ix2 0 j) else 0 := by
  unfold masked id; fin_cases i <;> pointwise <;> rfl
theorem masked_six (x : FVec Ideal S1x1024 .f32) (i : Fin 8) (j : Fin 1024) : (masked 6#32 x (ix2 i j) : EReal) = if i.val < 8 - 2 then x (ix2 0 j) else 0 := by
  unfold masked id; fin_cases i <;> pointwise <;> rfl
theorem masked_four (x : FVec Ideal S1x1024 .f32) (i : Fin 8) (j : Fin 1024) : (masked 4#32 x (ix2 i j) : EReal) = if i.val < 8 - 4 then x (ix2 0 j) else 0 := by
  unfold masked id; fin_cases i <;> pointwise <;> rfl

theorem masked_are {w : BitVec 32} {n : ℕ} (hw : ∀ (x : FVec Ideal S1x1024 .f32) (i : Fin 8) (j : Fin 1024), (masked w x (ix2 i j) : EReal) = if i.val < n then x (ix2 0 j) else 0)
    {xr xi : FVec Ideal S1x1024 .f32} {x : Fin 1024 → ℂ} (hx : AreRow xr xi x) {rr ri : FVec Ideal S8x1024 .f32} (hr : rr = masked w xr) (hi : ri = masked w xi) :
    Are rr ri fun i j => if i.val < n then x j else 0 := by
  subst hr hi
  intro i j
  refine ⟨(hw _ _ _).trans ?_, (hw _ _ _).trans ?_⟩ <;> beta_reduce <;> split_ifs
  · exact (hx j).1
  · rfl
  · exact (hx j).2
  · rfl

/-- Eight rows laid below one another. -/
def stack (x0 x1 x2 x3 x4 x5 x6 x7 : FVec Ideal S1x1024 .f32) : FVec Ideal S8x1024 .f32 :=
  concatenate S8x1024 0 [⟨S1x1024, x0⟩, ⟨S1x1024, x1⟩, ⟨S1x1024, x2⟩, ⟨S1x1024, x3⟩, ⟨S1x1024, x4⟩, ⟨S1x1024, x5⟩, ⟨S1x1024, x6⟩, ⟨S1x1024, x7⟩] concatenates_S1x1024_S1x1024_S1x1024_S1x1024_S1x1024_S1x1024_S1x1024_S1x1024_S8x1024_d0

theorem stack_at (x0 x1 x2 x3 x4 x5 x6 x7 : FVec Ideal S1x1024 .f32) (i : Fin 8) (j : Fin 1024) :
    stack x0 x1 x2 x3 x4 x5 x6 x7 (ix2 i j) = (![x0, x1, x2, x3, x4, x5, x6, x7] : Fin 8 → FVec Ideal S1x1024 .f32) i (ix2 0 j) := by
  unfold stack; fin_cases i <;> pointwise <;> rfl

/-- Eight blocks of eight rows below one another. -/
def blocks (x0 x1 x2 x3 x4 x5 x6 x7 : FVec Ideal S8x1024 .f32) : FVec Ideal S64x1024 .f32 :=
  concatenate S64x1024 0 [⟨S8x1024, x0⟩, ⟨S8x1024, x1⟩, ⟨S8x1024, x2⟩, ⟨S8x1024, x3⟩, ⟨S8x1024, x4⟩, ⟨S8x1024, x5⟩, ⟨S8x1024, x6⟩, ⟨S8x1024, x7⟩] concatenates_S8x1024_S8x1024_S8x1024_S8x1024_S8x1024_S8x1024_S8x1024_S8x1024_S64x1024_d0

theorem blocks_at (x0 x1 x2 x3 x4 x5 x6 x7 : FVec Ideal S8x1024 .f32) (g i : Fin 8) (j : Fin 1024) :
    blocks x0 x1 x2 x3 x4 x5 x6 x7 (ix2 ⟨8 * g.val + i.val, by omega⟩ j) = (![x0, x1, x2, x3, x4, x5, x6, x7] : Fin 8 → FVec Ideal S8x1024 .f32) g (ix2 i j) := by
  unfold blocks; pointwise; fin_cases g <;> fin_cases i <;> rfl

variable (m : (ℓ : Loc nD τ sig) → Buf (Elt Ideal) ℓ) (c : Dev nD)

/-- The arguments are the arrays of the scan. -/
structure Holds (D : Data) : Prop where
  g_re : ∀ (r : Fin 8192) (j : Fin 1024), (m ((c.tc : Thread nD τ).loc main_arg0) (ix2 r j) : EReal) = Re (D.G r.val j)
  g_im : ∀ (r : Fin 8192) (j : Fin 1024), (m ((c.tc : Thread nD τ).loc main_arg1) (ix2 r j) : EReal) = Im (D.G r.val j)
  b_re : ∀ (r : Fin 8192) (j : Fin 1024), (m ((c.tc : Thread nD τ).loc main_arg2) (ix2 r j) : EReal) = (D.B r.val j).1
  b_im : ∀ (r : Fin 8192) (j : Fin 1024), (m ((c.tc : Thread nD τ).loc main_arg3) (ix2 r j) : EReal) = (D.B r.val j).2
  x_re : ∀ (r : Fin 8192) (j : Fin 1024), (m ((c.tc : Thread nD τ).loc main_arg4) (ix2 r j) : EReal) = (D.X r.val j).1
  x_im : ∀ (r : Fin 8192) (j : Fin 1024), (m ((c.tc : Thread nD τ).loc main_arg5) (ix2 r j) : EReal) = (D.X r.val j).2
  a_re : ∀ (r : Fin 1) (j : Fin 1024), (m ((c.tc : Thread nD τ).loc main_arg6) (ix2 r j) : EReal) = Re (D.a j)
  a_im : ∀ (r : Fin 1) (j : Fin 1024), (m ((c.tc : Thread nD τ).loc main_arg7) (ix2 r j) : EReal) = Im (D.a j)
  f_re : ∀ (r : Fin 1) (j : Fin 1024), (m ((c.tc : Thread nD τ).loc main_arg8) (ix2 r j) : EReal) = (D.f j).1
  f_im : ∀ (r : Fin 1) (j : Fin 1024), (m ((c.tc : Thread nD τ).loc main_arg9) (ix2 r j) : EReal) = (D.f j).2

/-- What the table of powers holds, and that of the factor. -/
structure Tables (D : Data) (T : FVec Ideal S64x1024 .f32) : Prop where
  one : ∀ (i : Fin 8) (j : Fin 1024), (T (ix2 ⟨i.val, by omega⟩ j) : EReal) = Re (if i.val < 8 - 1 then conj (D.a j) else 0) ∧ (T (ix2 ⟨8 + i.val, by omega⟩ j) : EReal) = Im (if i.val < 8 - 1 then conj (D.a j) else 0)
  two : ∀ (i : Fin 8) (j : Fin 1024), (T (ix2 ⟨16 + i.val, by omega⟩ j) : EReal) = Re (if i.val < 8 - 2 then conj (D.a j) ^ 2 else 0) ∧ (T (ix2 ⟨24 + i.val, by omega⟩ j) : EReal) = Im (if i.val < 8 - 2 then conj (D.a j) ^ 2 else 0)
  four : ∀ (i : Fin 8) (j : Fin 1024), (T (ix2 ⟨32 + i.val, by omega⟩ j) : EReal) = Re (if i.val < 8 - 4 then conj (D.a j) ^ 4 else 0) ∧ (T (ix2 ⟨40 + i.val, by omega⟩ j) : EReal) = Im (if i.val < 8 - 4 then conj (D.a j) ^ 4 else 0)
  pows : ∀ (i : Fin 8) (j : Fin 1024), (T (ix2 ⟨48 + i.val, by omega⟩ j) : EReal) = Re (conj (D.a j) ^ (8 - i.val)) ∧ (T (ix2 ⟨56 + i.val, by omega⟩ j) : EReal) = Im (conj (D.a j) ^ (8 - i.val))

variable {m c} {D : Data}

/-- The buffers before the tables are laid out of their rows and blocks. -/
@[irreducible] def W (m : (ℓ : Loc nD τ sig) → Buf (Elt Ideal) ℓ) (c : Dev nD) : Valuation τ sig (Elt Ideal) :=
  after (List.flatten [hostOps0, hostOps0_1, hostOps0_2, hostOps0_3, hostOps0_4, hostOps0_5, hostOps0_6, hostOps0_7, hostOps0_8, hostOps0_9, hostOps0_10, hostOps0_11]) (fun b => m (c, b))

theorem laid (b : Ref sig .tc) : V m c b = after hostOps0_12 (W m c) (Proc.devRef .tc b) := by
  unfold V V0 W
  rw [← StableHlo.after_append]
  rfl

/-- What one of these buffers holds. -/
abbrev before (m : (ℓ : Loc nD τ sig) → Buf (Elt Ideal) ℓ) (c : Dev nD) (b : Ref sig .tc) : Buf (Elt Ideal) ((c : Thread nD τ).loc b) := W m c (Proc.devRef .tc b)

/-- The decay's conjugate. -/
theorem decay (h : Holds m c D) : AreRow (before m c main_arg6) (before m c main_v0) fun j => conj (D.a j) := by
  have e0 : before m c main_v0 = negf (F := Ideal) (φ := .f32) (m ((c.tc : Thread nD τ).loc main_arg7)) := by unfold before W; after_reads_simp; rfl
  have e6 : before m c main_arg6 = m ((c.tc : Thread nD τ).loc main_arg6) := by unfold before W; after_reads_simp
  intro j
  rw [e0, e6]
  refine ⟨(h.a_re 0 j).trans (by unfold Re; rw [Complex.conj_re]), (congrArg (fun a : EReal => -a) (h.a_im 0 j)).trans ?_⟩
  unfold Im; rw [Complex.conj_im, EReal.coe_neg]

/-- A power of the conjugate times the conjugate. -/
theorem pow_are (h : Holds m c D) {n : ℕ} {xr xi rr ri : FVec Ideal S1x1024 .f32} (hx : AreRow xr xi fun j => conj (D.a j) ^ n)
    (hr : rr = timesRe xr xi (before m c main_arg6) (before m c main_v0)) (hi : ri = timesIm xr xi (before m c main_arg6) (before m c main_v0)) : AreRow rr ri fun j => conj (D.a j) ^ (n + 1) :=
  times_are hx (decay h) hr hi

theorem pow_one (h : Holds m c D) : AreRow (before m c main_arg6) (before m c main_v0) fun j => conj (D.a j) ^ 1 := by simp only [_root_.pow_one]; exact decay h
theorem pow_two (h : Holds m c D) : AreRow (before m c main_v3) (before m c main_v6) fun j => conj (D.a j) ^ 2 :=
  pow_are h (pow_one h) (by unfold timesRe before W; after_reads_simp) (by unfold timesIm before W; after_reads_simp)
theorem pow_three (h : Holds m c D) : AreRow (before m c main_v9) (before m c main_v12) fun j => conj (D.a j) ^ 3 :=
  pow_are h (pow_two h) (by unfold timesRe before W; after_reads_simp) (by unfold timesIm before W; after_reads_simp)
theorem pow_four (h : Holds m c D) : AreRow (before m c main_v15) (before m c main_v18) fun j => conj (D.a j) ^ 4 :=
  pow_are h (pow_three h) (by unfold timesRe before W; after_reads_simp) (by unfold timesIm before W; after_reads_simp)
theorem pow_five (h : Holds m c D) : AreRow (before m c main_v21) (before m c main_v24) fun j => conj (D.a j) ^ 5 :=
  pow_are h (pow_four h) (by unfold timesRe before W; after_reads_simp) (by unfold timesIm before W; after_reads_simp)
theorem pow_six (h : Holds m c D) : AreRow (before m c main_v27) (before m c main_v30) fun j => conj (D.a j) ^ 6 :=
  pow_are h (pow_five h) (by unfold timesRe before W; after_reads_simp) (by unfold timesIm before W; after_reads_simp)
theorem pow_seven (h : Holds m c D) : AreRow (before m c main_v33) (before m c main_v36) fun j => conj (D.a j) ^ 7 :=
  pow_are h (pow_six h) (by unfold timesRe before W; after_reads_simp) (by unfold timesIm before W; after_reads_simp)
theorem pow_eight (h : Holds m c D) : AreRow (before m c main_v39) (before m c main_v42) fun j => conj (D.a j) ^ 8 :=
  pow_are h (pow_seven h) (by unfold timesRe before W; after_reads_simp) (by unfold timesIm before W; after_reads_simp)

/-- The three blocks for the doublings. -/
theorem block_one (h : Holds m c D) : Are (before m c main_v47) (before m c main_v48) fun i j => if i.val < 8 - 1 then conj (D.a j) else 0 :=
  masked_are masked_seven (decay h) (by unfold masked before W; after_reads_simp; simp only [TRef.toBuf, TRef.ofBuf, cast_cast, cast_eq]) (by unfold masked before W; after_reads_simp; simp only [TRef.toBuf, TRef.ofBuf, cast_cast, cast_eq])
theorem block_two (h : Holds m c D) : Are (before m c main_v51) (before m c main_v52) fun i j => if i.val < 8 - 2 then conj (D.a j) ^ 2 else 0 :=
  masked_are masked_six (pow_two h) (by unfold masked before W; after_reads_simp; simp only [TRef.toBuf, TRef.ofBuf, cast_cast, cast_eq]) (by unfold masked before W; after_reads_simp; simp only [TRef.toBuf, TRef.ofBuf, cast_cast, cast_eq])
theorem block_four (h : Holds m c D) : Are (before m c main_v55) (before m c main_v56) fun i j => if i.val < 8 - 4 then conj (D.a j) ^ 4 else 0 :=
  masked_are masked_four (pow_four h) (by unfold masked before W; after_reads_simp; simp only [TRef.toBuf, TRef.ofBuf, cast_cast, cast_eq]) (by unfold masked before W; after_reads_simp; simp only [TRef.toBuf, TRef.ofBuf, cast_cast, cast_eq])

/-- The block of all the powers, the eighth first. -/
theorem block_pows (h : Holds m c D) :
    Are (stack (before m c main_v39) (before m c main_v33) (before m c main_v27) (before m c main_v21) (before m c main_v15) (before m c main_v9) (before m c main_v3) (before m c main_arg6))
      (stack (before m c main_v42) (before m c main_v36) (before m c main_v30) (before m c main_v24) (before m c main_v18) (before m c main_v12) (before m c main_v6) (before m c main_v0)) fun i j => conj (D.a j) ^ (8 - i.val) := by
  intro i j
  rw [stack_at, stack_at]
  fin_cases i
  · exact pow_eight h j
  · exact pow_seven h j
  · exact pow_six h j
  · exact pow_five h j
  · exact pow_four h j
  · exact pow_three h j
  · exact pow_two h j
  · exact pow_one h j

/-- Where blocks are laid below one another, each pair of them is a pair of the whole. -/
theorem blocks_are {x0 x1 x2 x3 x4 x5 x6 x7 : FVec Ideal S8x1024 .f32} {T : FVec Ideal S64x1024 .f32} (e : T = blocks x0 x1 x2 x3 x4 x5 x6 x7)
    (h1 : Are x0 x1 fun i j => if i.val < 8 - 1 then conj (D.a j) else 0) (h2 : Are x2 x3 fun i j => if i.val < 8 - 2 then conj (D.a j) ^ 2 else 0)
    (h4 : Are x4 x5 fun i j => if i.val < 8 - 4 then conj (D.a j) ^ 4 else 0) (h8 : Are x6 x7 fun i j => conj (D.a j) ^ (8 - i.val)) : Tables D T := by
  have b := fun g i j => (congrFun e (ix2 ⟨8 * (g : Fin 8).val + (i : Fin 8).val, by omega⟩ j)).trans (blocks_at _ _ _ _ _ _ _ _ g i j)
  have b0 : ∀ (i : Fin 8) (j : Fin 1024), T (ix2 ⟨i.val, by omega⟩ j) = x0 (ix2 i j) := fun i j => by
    have h := b 0 i j; simpa using h
  exact ⟨fun i j => ⟨(b0 i j).trans (h1 i j).1, (b 1 i j).trans (h1 i j).2⟩,
    fun i j => ⟨(b 2 i j).trans (h2 i j).1, (b 3 i j).trans (h2 i j).2⟩,
    fun i j => ⟨(b 4 i j).trans (h4 i j).1, (b 5 i j).trans (h4 i j).2⟩,
    fun i j => ⟨(b 6 i j).trans (h8 i j).1, (b 7 i j).trans (h8 i j).2⟩⟩

/-- The table of powers. -/
theorem tables (h : Holds m c D) : Tables D (V m c main_v59) :=
  blocks_are (laid main_v59) (block_one h) (block_two h) (block_four h) (block_pows h)

/-- The factor's rows. -/
theorem factor_rows (h : Holds m c D) (j : Fin 1024) : (V m c main_v61 (ix2 0 j) : EReal) = (D.f j).1 ∧ (V m c main_v61 (ix2 1 j) : EReal) = (D.f j).2 := by
  let z : FVec Ideal S1x1024 .f32 := broadcastInDim S1x1024 ![] bcast_S_S1x1024 (constant S_ .f32 0x00000000#32)
  have e : V m c main_v61 = stack (before m c main_arg8) (before m c main_arg9) z z z z z z := laid main_v61
  have e8 : before m c main_arg8 = m ((c.tc : Thread nD τ).loc main_arg8) := by unfold before W; after_reads_simp
  have e9 : before m c main_arg9 = m ((c.tc : Thread nD τ).loc main_arg9) := by unfold before W; after_reads_simp
  rw [e, stack_at, stack_at]
  exact ⟨(congrFun e8 _).trans (h.f_re 0 j), (congrFun e9 _).trans (h.f_im 0 j)⟩

end Cert.DscanIdeal.Scan

end
-- ==== Proof.ScanRun.lean ====
/- One grid point of the scan's gradient, run: what its eight input blocks, the running sums and the carried state it finds
   make of its two output blocks, the sums and the state. -/
module

public import proofs.«01_k».proof.Proof.Gen.DscanIdeal.Frame
public import proofs.«01_k».proof.Proof.Gen.DscanIdeal.Loops

@[expose] public section

noncomputable section

namespace Cert.DscanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears the sums and the carried state: the first grid point. -/
abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val = 0)

/-- A store over the whole of a buffer leaves its value there. -/
theorem View.read_fill {sp : Space} {s : Shape} {e : EltTy} (v : View sig .tc sp s e) (f : v.ty.Contents (Elt F)) (o : Fin s.rank → ℕ) (h) (ho : ∀ a, o a = 0)
    (w : s.Idx → Elt F e) : v.read (Elt F) (v.writes (Elt F) f [⟨Rect.unit (s := s) o s.size h, w⟩]) = w :=
  funext fun y => View.read_writes_cons_hit_of_coords v f (Rect.unit (s := s) o s.size h) w [] y y fun a => by simp [Rect.unit, ho]

section Run

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S64x1024 .f32) (harg7 : arg7.IsWhole)
  (arg8 : Memref sig .tc .vmem S8x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S32x1024 .f32) (harg11 : arg11.IsWhole)
  (arg12 : Memref sig .tc .vmem S8x1024 .f32) (harg12 : arg12.IsWhole)

/-- A trip of the loop does not look at what it finds in the two output blocks. -/
theorem trip_ind (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) (acc : Vec F S1x1024 .f32 × Vec F S1x1024 .f32)
    (f9 g9 : BufTy.Contents (Elt F) arg9.view.ty) (f10 g10 : BufTy.Contents (Elt F) arg10.view.ty) (f11 : BufTy.Contents (Elt F) arg11.view.ty) :
    tripR_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k acc f9 f10 f11
      = tripR_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k acc g9 g10 f11
    ∧ tripL_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k acc f9 f10 f11
      = tripL_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k acc g9 g10 f11 := by
  unfold tripR_k0_t1 tripL_k0_t1 trip_k0_t1
  exact ⟨rfl, rfl⟩

/-- Nor do any number of trips. -/
theorem st_ind (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 g9 : BufTy.Contents (Elt F) arg9.view.ty) (f10 g10 : BufTy.Contents (Elt F) arg10.view.ty)
    (f11 : BufTy.Contents (Elt F) arg11.view.ty) (init : Vec F S1x1024 .f32 × Vec F S1x1024 .f32) :
    ∀ k : ℕ, k ≤ k0_t1_loop.trips →
    st_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 init k
      = st_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 g9 g10 f11 init k
  | 0, _ => rfl
  | k + 1, hk => by
    have e := st_ind X1 X2 X3 X4 X5 X6 X7 X8 f9 g9 f10 g10 f11 init k (by omega)
    have h1 := st_k0_t1_succ (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 init ⟨k, hk⟩
    have h2 := st_k0_t1_succ (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 g9 g10 f11 init ⟨k, hk⟩
    refine h1.trans (Eq.trans ?_ h2.symm)
    clear h1 h2
    simp only [Fin.val_mk]
    rw [e]
    obtain ⟨hR, hL⟩ := trip_ind c i arg1 harg1 arg2 harg2 arg3 harg3 arg4 harg4 arg5 harg5 arg6 harg6 arg7 harg7 arg8 harg8 arg9 harg9 arg10 harg10 arg11 harg11 arg12 harg12 X1 X2 X3 X4 X5 X6 X7 X8 ⟨k, hk⟩
      (st_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 g9 g10 f11 init k).1
      (arg9.view.writes (Elt F) f9 (st_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 g9 g10 f11 init k).2.1)
      (arg9.view.writes (Elt F) g9 (st_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 g9 g10 f11 init k).2.1)
      (arg10.view.writes (Elt F) f10 (st_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 g9 g10 f11 init k).2.2.1)
      (arg10.view.writes (Elt F) g10 (st_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 g9 g10 f11 init k).2.2.1)
      (arg11.view.writes (Elt F) f11 (st_k0_t1 (F := F) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 g9 g10 f11 init k).2.2.2)
    exact congrArg₂ (fun R L => (R, L.1 ++ _, L.2.1 ++ _, L.2.2 ++ _)) hR hL

variable (x1 x2 x3 x4 x5 x6 : Vec F S256x1024 .f32) (x7 : Vec F S64x1024 .f32) (x8 : Vec F S8x1024 .f32) (s : Vec F S32x1024 .f32) (cc : Vec F S8x1024 .f32)

/-- The carried state after the last trip, and the pieces the trips stored, from the sums `s` and the carried state `cc`. -/
def stEnd : (Vec F S1x1024 .f32 × Vec F S1x1024 .f32) × List (View.Piece (Elt F) S256x1024 .f32) × List (View.Piece (Elt F) S256x1024 .f32) × List (View.Piece (Elt F) S32x1024 .f32) :=
  st_k0_t1 (F := F) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) (harg5.unread x5) (harg6.unread x6) (harg7.unread x7) (harg8.unread x8) arg9.view.junk arg10.view.junk (harg11.unread s)
    (View.readAt (Elt F) arg12.view (Rect.unit (s := S8x1024) ![0, 0] S1x1024.size inb_S8x1024_S1x1024_0_0).toLoadRect (harg12.unread cc),
     View.readAt (Elt F) arg12.view (Rect.unit (s := S8x1024) ![1, 0] S1x1024.size inb_S8x1024_S1x1024_1_0).toLoadRect (harg12.unread cc)) k0_t1_loop.trips

/-- The first output block after the point. -/
def out9 : Vec F S256x1024 .f32 := arg9.view.read (Elt F) (arg9.view.writes (Elt F) arg9.view.junk (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).2.1)
/-- The second output block. -/
def out10 : Vec F S256x1024 .f32 := arg10.view.read (Elt F) (arg10.view.writes (Elt F) arg10.view.junk (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).2.2.1)
/-- The running sums. -/
def out11 : Vec F S32x1024 .f32 := arg11.view.read (Elt F) (arg11.view.writes (Elt F) (harg11.unread s) (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).2.2.2)
/-- The carried state. -/
def out12 : Vec F S8x1024 .f32 := arg12.view.read (Elt F) (arg12.view.writes (Elt F) (harg12.unread cc)
  [⟨Rect.unit (s := S8x1024) ![1, 0] S1x1024.size inb_S8x1024_S1x1024_1_0, k0_pay8 (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).1.2⟩,
   ⟨Rect.unit (s := S8x1024) ![0, 0] S1x1024.size inb_S8x1024_S1x1024_0_0, k0_pay7 (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).1.1⟩])

theorem cover9 (y : S256x1024.Idx) : ∃ pc ∈ (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).2.1, y ∈ pc.1.set :=
  View.cover_of_tiledL (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).2.1 ![8, 1024] (by sl_kernel_rfl) y
theorem cover10 (y : S256x1024.Idx) : ∃ pc ∈ (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).2.2.1, y ∈ pc.1.set :=
  View.cover_of_tiledL (stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).2.2.1 ![8, 1024] (by sl_kernel_rfl) y

set_option maxHeartbeats 1000000 in
/-- The body at a point that is not the first. -/
theorem run_B (hc0 : ¬cond0_0 i) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare s ∗ owns (c : Thread nD τ) arg12 fullShare cc
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out9 c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc) ∗ owns (c : Thread nD τ) arg10 fullShare (out10 c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc) ∗ owns (c : Thread nD τ) arg11 fullShare (out11 c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc) ∗ owns (c : Thread nD τ) arg12 fullShare (out12 c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc)) -∗ K ⟨⟩))
      ⊢ wp frame (wpE (defs₀ (F := F)) Variants.none c none) E (cc0_s5_dscan i arg1 harg1 arg2 harg2 arg3 harg3 arg4 harg4 arg5 harg5 arg6 harg6 arg7 harg7 arg8 harg8 arg9 harg9 arg10 harg10 arg11 harg11 arg12 harg12) K := by
  simp only [cc0_s5_dscan_eq_skeleton]; unfold cc0_s5_dscan_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12
  sl_exec (disch := first | sl_exact hc0)
  sl_step
  rw [st_ind c i arg1 harg1 arg2 harg2 arg3 harg3 arg4 harg4 arg5 harg5 arg6 harg6 arg7 harg7 arg8 harg8 arg9 harg9 arg10 harg10 arg11 harg11 arg12 harg12 _ _ _ _ _ _ _ _ f9 arg9.view.junk f10 arg10.view.junk _ _ k0_t1_loop.trips le_rfl]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro; exact View.read_writes_of_cover _ _ _ _ _ (cover9 c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc)
  isplitl [H10]
  · iexists _; isplitr
    swap; · iexact H10
    ipureintro; exact View.read_writes_of_cover _ _ _ _ _ (cover10 c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc)
  isplitl [H11]
  · iexists _; isplitr
    swap; · iexact H11
    ipureintro; rfl
  iexists _; isplitr
  swap; · iexact H12
  ipureintro; rfl

set_option maxHeartbeats 1000000 in
/-- The body at the first point: it clears the sums and the state, then runs as at any other. -/
theorem run_A (hc0 : cond0_0 i) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out9 c i arg1 harg1 arg2 harg2 arg3 harg3 arg4 harg4 arg5 harg5 arg6 harg6 arg7 harg7 arg8 harg8 arg9 harg9 arg10 harg10 arg11 harg11 arg12 harg12 x1 x2 x3 x4 x5 x6 x7 x8 (k0_pay2 (F := F)) (k0_pay1 (F := F))) ∗ owns (c : Thread nD τ) arg10 fullShare (out10 c i arg1 harg1 arg2 harg2 arg3 harg3 arg4 harg4 arg5 harg5 arg6 harg6 arg7 harg7 arg8 harg8 arg9 harg9 arg10 harg10 arg11 harg11 arg12 harg12 x1 x2 x3 x4 x5 x6 x7 x8 (k0_pay2 (F := F)) (k0_pay1 (F := F))) ∗ owns (c : Thread nD τ) arg11 fullShare (out11 c i arg1 harg1 arg2 harg2 arg3 harg3 arg4 harg4 arg5 harg5 arg6 harg6 arg7 harg7 arg8 harg8 arg9 harg9 arg10 harg10 arg11 harg11 arg12 harg12 x1 x2 x3 x4 x5 x6 x7 x8 (k0_pay2 (F := F)) (k0_pay1 (F := F))) ∗ owns (c : Thread nD τ) arg12 fullShare (out12 c i arg1 harg1 arg2 harg2 arg3 harg3 arg4 harg4 arg5 harg5 arg6 harg6 arg7 harg7 arg8 harg8 arg9 harg9 arg10 harg10 arg11 harg11 arg12 harg12 x1 x2 x3 x4 x5 x6 x7 x8 (k0_pay2 (F := F)) (k0_pay1 (F := F)))) -∗ K ⟨⟩))
      ⊢ wp frame (wpE (defs₀ (F := F)) Variants.none c none) E (cc0_s5_dscan i arg1 harg1 arg2 harg2 arg3 harg3 arg4 harg4 arg5 harg5 arg6 harg6 arg7 harg7 arg8 harg8 arg9 harg9 arg10 harg10 arg11 harg11 arg12 harg12) K := by
  simp only [cc0_s5_dscan_eq_skeleton]; unfold cc0_s5_dscan_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc0)
  sl_step
  have e11 : ∀ f : BufTy.Contents (Elt F) arg11.view.ty, arg11.view.writes (Elt F) f run_A.sl.H11_1 = harg11.unread (k0_pay2 (F := F)) := fun f =>
    harg11.eq_unread (View.read_fill _ f ![0, 0] _ (by intro a; fin_cases a <;> rfl) _)
  have e12 : ∀ f : BufTy.Contents (Elt F) arg12.view.ty, arg12.view.writes (Elt F) f run_A.sl.H12_1 = harg12.unread (k0_pay1 (F := F)) := fun f =>
    harg12.eq_unread (View.read_fill _ f ![0, 0] _ (by intro a; fin_cases a <;> rfl) _)
  have cov : ∀ y : S8x1024.Idx, ∃ p ∈ run_A.sl.H12_1 (F := F), y ∈ p.1.set := fun y =>
    View.cover_of_tiledL (run_A.sl.H12_1 (F := F)) S8x1024.size (by sl_kernel_rfl) y
  have e3 : run_A.sl.v3 (F := F) c arg12 = View.readAt (Elt F) arg12.view (Rect.unit (s := S8x1024) ![0, 0] S1x1024.size inb_S8x1024_S1x1024_0_0).toLoadRect (harg12.unread (k0_pay1 (F := F))) := by
    rw [← e12 arg12.view.junk]; exact (View.readAt_writes_of_cover _ _ _ _ fun j => cov _).symm
  have e4 : run_A.sl.v4 (F := F) c arg12 = View.readAt (Elt F) arg12.view (Rect.unit (s := S8x1024) ![1, 0] S1x1024.size inb_S8x1024_S1x1024_1_0).toLoadRect (harg12.unread (k0_pay1 (F := F))) := by
    rw [← e12 arg12.view.junk]; exact (View.readAt_writes_of_cover _ _ _ _ fun j => cov _).symm
  have es : st_k0_t1 (F := F) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) (harg5.unread x5) (harg6.unread x6) (harg7.unread x7) (harg8.unread x8) f9 f10 (arg11.view.writes (Elt F) arg11.view.junk run_A.sl.H11_1)
      (run_A.sl.v3 c arg12, run_A.sl.v4 c arg12) (Scf.trips k0_t1_loop.lb k0_t1_loop.ub k0_t1_loop.st) = stEnd c i arg1 harg1 arg2 harg2 arg3 harg3 arg4 harg4 arg5 harg5 arg6 harg6 arg7 harg7 arg8 harg8 arg9 harg9 arg10 harg10 arg11 harg11 arg12 harg12 x1 x2 x3 x4 x5 x6 x7 x8 (k0_pay2 (F := F)) (k0_pay1 (F := F)) := by
    rw [e11, e3, e4]; exact st_ind c i arg1 harg1 arg2 harg2 arg3 harg3 arg4 harg4 arg5 harg5 arg6 harg6 arg7 harg7 arg8 harg8 arg9 harg9 arg10 harg10 arg11 harg11 arg12 harg12 _ _ _ _ _ _ _ _ _ _ _ _ _ _ _ le_rfl
  rw [es]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro; exact View.read_writes_of_cover _ _ _ _ _ (cover9 c i arg1 harg1 arg2 harg2 arg3 harg3 arg4 harg4 arg5 harg5 arg6 harg6 arg7 harg7 arg8 harg8 arg9 harg9 arg10 harg10 arg11 harg11 arg12 harg12 x1 x2 x3 x4 x5 x6 x7 x8 (k0_pay2 (F := F)) (k0_pay1 (F := F)))
  isplitl [H10]
  · iexists _; isplitr
    swap; · iexact H10
    ipureintro; exact View.read_writes_of_cover _ _ _ _ _ (cover10 c i arg1 harg1 arg2 harg2 arg3 harg3 arg4 harg4 arg5 harg5 arg6 harg6 arg7 harg7 arg8 harg8 arg9 harg9 arg10 harg10 arg11 harg11 arg12 harg12 x1 x2 x3 x4 x5 x6 x7 x8 (k0_pay2 (F := F)) (k0_pay1 (F := F)))
  isplitl [H11]
  · iexists _; isplitr
    swap; · iexact H11
    ipureintro; rw [View.writes_append, e11]; rfl
  iexists _; isplitr
  swap; · iexact H12
  ipureintro; unfold out12; rw [← e12 arg12.view.junk, ← View.writes_append]; rfl

end Run

end Cert.DscanIdeal.Gen
-- ==== Proof.ScanLoop.lean ====
/-
  THE LOOP of one grid point of the scan's gradient, in numbers: what the trips carry, the rows they store and the sums they add to.
-/
module

public import proofs.«01_k».proof.Proof.ScanTables
public import proofs.«01_k».proof.Proof.ScanRun
public import Idealize.ShloMosaic.Lib.WholeRead
public import Idealize.ShloMosaic.Lib.Writes

@[expose] public section

noncomputable section

namespace Cert.DscanIdeal.Scan

open Cert.DscanIdeal Cert.DscanIdeal.Gen Idealize.ShloMosaic Idealize.ShloMosaic.TcCoe
open Cert.Scan ComplexConjugate

/-- Eight rows of a block, as trip `k` loads them. -/
abbrev rows (v : Memref sig .tc .vmem S256x1024 .f32) (X : BufTy.Contents (Elt Ideal) v.view.ty) (k : Fin k0_t1_loop.trips) : FVec Ideal S8x1024 .f32 :=
  v.view.readAt (Elt Ideal) (Rect.unit (s := S256x1024) (k0_off1 k) S8x1024.size (k0_off1_inb k)).toLoadRect X
/-- Eight rows of the table, loaded. -/
abbrev tab (v : Memref sig .tc .vmem S64x1024 .f32) (X : BufTy.Contents (Elt Ideal) v.view.ty) (o : ℕ) (h : ∀ a, (![o, 0] : Fin 2 → ℕ) a + S8x1024.size a ≤ S64x1024.size a) : FVec Ideal S8x1024 .f32 :=
  v.view.readAt (Elt Ideal) (Rect.unit (s := S64x1024) ![o, 0] S8x1024.size h).toLoadRect X
/-- Eight rows of the sums, loaded. -/
abbrev part (v : Memref sig .tc .vmem S32x1024 .f32) (X : BufTy.Contents (Elt Ideal) v.view.ty) (o : ℕ) (h : ∀ a, (![o, 0] : Fin 2 → ℕ) a + S8x1024.size a ≤ S32x1024.size a) : FVec Ideal S8x1024 .f32 :=
  v.view.readAt (Elt Ideal) (Rect.unit (s := S32x1024) ![o, 0] S8x1024.size h).toLoadRect X
/-- One row of an eight-row block, loaded. -/
abbrev row (v : Memref sig .tc .vmem S8x1024 .f32) (X : BufTy.Contents (Elt Ideal) v.view.ty) (o : ℕ) (h : ∀ a, (![o, 0] : Fin 2 → ℕ) a + S1x1024.size a ≤ S8x1024.size a) : FVec Ideal S1x1024 .f32 :=
  v.view.readAt (Elt Ideal) (Rect.unit (s := S8x1024) ![o, 0] S1x1024.size h).toLoadRect X

/-- Where trip `k` finds its rows. -/
theorem off_at (k : Fin k0_t1_loop.trips) : k0_off1 k = ![248 - 8 * k.val, 0] := by
  revert k; decide +kernel

section Trip

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S64x1024 .f32) (harg7 : arg7.IsWhole)
  (arg8 : Memref sig .tc .vmem S8x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S32x1024 .f32) (harg11 : arg11.IsWhole)
  (arg12 : Memref sig .tc .vmem S8x1024 .f32) (harg12 : arg12.IsWhole)

/-- One trip, by the vectors it loads. -/
theorem trip_eq (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (k : Fin k0_t1_loop.trips) (acc : Vec Ideal S1x1024 .f32 × Vec Ideal S1x1024 .f32)
    (f9 : BufTy.Contents (Elt Ideal) arg9.view.ty) (f10 : BufTy.Contents (Elt Ideal) arg10.view.ty) (f11 : BufTy.Contents (Elt Ideal) arg11.view.ty)
    (er ei sr si : FVec Ideal S8x1024 .f32)
    (her : er = rowsRe (rows arg1 X1 k) (rows arg2 X2 k) (tab arg7 X7 0 inb_S64x1024_S8x1024_0_0) (tab arg7 X7 8 inb_S64x1024_S8x1024_8_0) (tab arg7 X7 16 inb_S64x1024_S8x1024_16_0) (tab arg7 X7 24 inb_S64x1024_S8x1024_24_0) (tab arg7 X7 32 inb_S64x1024_S8x1024_32_0) (tab arg7 X7 40 inb_S64x1024_S8x1024_40_0) (tab arg7 X7 48 inb_S64x1024_S8x1024_48_0) (tab arg7 X7 56 inb_S64x1024_S8x1024_56_0) acc.1 acc.2)
    (hei : ei = rowsIm (rows arg1 X1 k) (rows arg2 X2 k) (tab arg7 X7 0 inb_S64x1024_S8x1024_0_0) (tab arg7 X7 8 inb_S64x1024_S8x1024_8_0) (tab arg7 X7 16 inb_S64x1024_S8x1024_16_0) (tab arg7 X7 24 inb_S64x1024_S8x1024_24_0) (tab arg7 X7 32 inb_S64x1024_S8x1024_32_0) (tab arg7 X7 40 inb_S64x1024_S8x1024_40_0) (tab arg7 X7 48 inb_S64x1024_S8x1024_48_0) (tab arg7 X7 56 inb_S64x1024_S8x1024_56_0) acc.1 acc.2)
    (hsr : sr = nextRe (rows arg1 X1 k) (rows arg2 X2 k) (tab arg7 X7 0 inb_S64x1024_S8x1024_0_0) (tab arg7 X7 8 inb_S64x1024_S8x1024_8_0) (tab arg7 X7 16 inb_S64x1024_S8x1024_16_0) (tab arg7 X7 24 inb_S64x1024_S8x1024_24_0) (tab arg7 X7 32 inb_S64x1024_S8x1024_32_0) (tab arg7 X7 40 inb_S64x1024_S8x1024_40_0) (tab arg7 X7 48 inb_S64x1024_S8x1024_48_0) (tab arg7 X7 56 inb_S64x1024_S8x1024_56_0) acc.1 acc.2)
    (hsi : si = nextIm (rows arg1 X1 k) (rows arg2 X2 k) (tab arg7 X7 0 inb_S64x1024_S8x1024_0_0) (tab arg7 X7 8 inb_S64x1024_S8x1024_8_0) (tab arg7 X7 16 inb_S64x1024_S8x1024_16_0) (tab arg7 X7 24 inb_S64x1024_S8x1024_24_0) (tab arg7 X7 32 inb_S64x1024_S8x1024_32_0) (tab arg7 X7 40 inb_S64x1024_S8x1024_40_0) (tab arg7 X7 48 inb_S64x1024_S8x1024_48_0) (tab arg7 X7 56 inb_S64x1024_S8x1024_56_0) acc.1 acc.2) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k acc f9 f10 f11 = (k0_pay5 er, k0_pay6 ei)
    ∧ tripL_k0_t1 (F := Ideal) Variants.none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k acc f9 f10 f11
      = ([⟨Rect.unit (s := S256x1024) (k0_off1 k) S8x1024.size (k0_off1_inb k), k0_pay3 ei (k0_pay39 er (row arg8 X8 0 inb_S8x1024_S1x1024_0_0)) (k0_pay40 (row arg8 X8 1 inb_S8x1024_S1x1024_1_0))⟩],
         [⟨Rect.unit (s := S256x1024) (k0_off1 k) S8x1024.size (k0_off1_inb k), k0_pay4 er ei (k0_pay37 (row arg8 X8 0 inb_S8x1024_S1x1024_0_0)) (k0_pay38 (row arg8 X8 1 inb_S8x1024_S1x1024_1_0))⟩],
         [⟨Rect.unit (s := S32x1024) ![24, 0] S8x1024.size inb_S32x1024_S8x1024_24_0, k0_pay36 er ei (rows arg5 X5 k) (rows arg6 X6 k) (part arg11 f11 24 inb_S32x1024_S8x1024_24_0)⟩,
          ⟨Rect.unit (s := S32x1024) ![16, 0] S8x1024.size inb_S32x1024_S8x1024_16_0, k0_pay35 er ei (rows arg5 X5 k) (rows arg6 X6 k) (part arg11 f11 16 inb_S32x1024_S8x1024_16_0)⟩,
          ⟨Rect.unit (s := S32x1024) ![8, 0] S8x1024.size inb_S32x1024_S8x1024_8_0, k0_pay34 sr si (rows arg3 X3 k) (rows arg4 X4 k) (part arg11 f11 8 inb_S32x1024_S8x1024_8_0)⟩,
          ⟨Rect.unit (s := S32x1024) ![0, 0] S8x1024.size inb_S32x1024_S8x1024_0_0, k0_pay33 si (rows arg4 X4 k) (k0_pay31 (part arg11 f11 0 inb_S32x1024_S8x1024_0_0)) (mulf sr (rows arg3 X3 k))⟩]) := by
  have h5 : trip_k0_t1.sl.r_5 (F := Ideal) arg1 arg2 arg7 X1 X2 X7 k acc = er := her.symm
  have h6 : trip_k0_t1.sl.r_6 (F := Ideal) arg1 arg2 arg7 X1 X2 X7 k acc = ei := hei.symm
  have h7 : trip_k0_t1.sl.r_7 (F := Ideal) arg1 arg2 arg7 X1 X2 X7 k acc = sr := hsr.symm
  have h8 : trip_k0_t1.sl.r_8 (F := Ideal) arg1 arg2 arg7 X1 X2 X7 k acc = si := hsi.symm
  have h12 : trip_k0_t1.sl.r_12 (F := Ideal) arg1 arg2 arg3 arg7 X1 X2 X3 X7 k acc = mulf sr (rows arg3 X3 k) := by rw [← h7]; rfl
  have h15 : trip_k0_t1.sl.r_15 (F := Ideal) arg1 arg2 arg7 arg8 X1 X2 X7 X8 k acc = k0_pay39 er (row arg8 X8 0 inb_S8x1024_S1x1024_0_0) := by rw [← h5]; rfl
  unfold tripR_k0_t1 tripL_k0_t1 trip_k0_t1
  dsimp only
  rw [h5, h6, h7, h8, h12, h15]
  exact ⟨rfl, rfl⟩

end Trip

variable (v : View sig .tc .vmem S32x1024 .f32) (f : v.ty.Contents (Elt Ideal)) (L : List (View.Piece (Elt Ideal) S32x1024 .f32))

/-- A store over rows `o` to `o + 7`. -/
abbrev piece (o : ℕ) (h : ∀ a, (![o, 0] : Fin 2 → ℕ) a + S8x1024.size a ≤ S32x1024.size a) (w : FVec Ideal S8x1024 .f32) : View.Piece (Elt Ideal) S32x1024 .f32 :=
  ⟨Rect.unit (s := S32x1024) ![o, 0] S8x1024.size h, w⟩

theorem piece_hit (o : ℕ) (h) (w : FVec Ideal S8x1024 .f32) (i : Fin 8) (j : Fin 1024) (r : Fin 32) (hr : r.val = o + i.val) :
    v.read (Elt Ideal) (v.writes (Elt Ideal) f (piece o h w :: L)) (ix2 r j) = w (ix2 i j) :=
  View.read_writes_cons_hit_of_coords v f (Rect.unit (s := S32x1024) ![o, 0] S8x1024.size h) w L (ix2 i j) (ix2 r j) fun a => by
    fin_cases a
    · show r.val = o + 1 * i.val; omega
    · show j.val = 0 + 1 * j.val; omega

theorem piece_miss (o : ℕ) (h) (w : FVec Ideal S8x1024 .f32) (j : Fin 1024) (r : Fin 32) (hr : r.val < o ∨ o + 8 ≤ r.val) :
    v.read (Elt Ideal) (v.writes (Elt Ideal) f (piece o h w :: L)) (ix2 r j) = v.read (Elt Ideal) (v.writes (Elt Ideal) f L) (ix2 r j) :=
  View.read_writes_cons_miss_of_axis v f (piece o h w) L (ix2 r j) 0 o 8 rfl rfl rfl hr

/-- Four blocks of eight rows, stored below one another, read back. -/
theorem four_read (h0 h1 h2 h3) (w0 w1 w2 w3 : FVec Ideal S8x1024 .f32) (i : Fin 8) (j : Fin 1024) (y : FVec Ideal S32x1024 .f32)
    (hy : y = v.read (Elt Ideal) (v.writes (Elt Ideal) f (piece 24 h3 w3 :: piece 16 h2 w2 :: piece 8 h1 w1 :: piece 0 h0 w0 :: L))) :
    (y (ix2 ⟨i.val, by omega⟩ j) = w0 (ix2 i j) ∧ y (ix2 ⟨8 + i.val, by omega⟩ j) = w1 (ix2 i j)) ∧ y (ix2 ⟨16 + i.val, by omega⟩ j) = w2 (ix2 i j) ∧ y (ix2 ⟨24 + i.val, by omega⟩ j) = w3 (ix2 i j) := by
  have hi := i.isLt
  refine ⟨⟨?_, ?_⟩, ?_, (congrFun hy _).trans (piece_hit v f _ 24 h3 w3 i j _ rfl)⟩
  · exact (congrFun hy _).trans ((piece_miss v f _ 24 h3 w3 j _ (.inl (by simp only; omega))).trans ((piece_miss v f _ 16 h2 w2 j _ (.inl (by simp only; omega))).trans
      ((piece_miss v f _ 8 h1 w1 j _ (.inl hi)).trans (piece_hit v f _ 0 h0 w0 i j _ (Nat.zero_add _).symm))))
  · exact (congrFun hy _).trans ((piece_miss v f _ 24 h3 w3 j _ (.inl (by simp only; omega))).trans ((piece_miss v f _ 16 h2 w2 j _ (.inl (by simp only; omega))).trans
      (piece_hit v f _ 8 h1 w1 i j _ rfl)))
  · exact (congrFun hy _).trans ((piece_miss v f _ 24 h3 w3 j _ (.inl (by simp only; omega))).trans (piece_hit v f _ 16 h2 w2 i j _ rfl))

variable {D : Data} {v f L}

/-- The parts of the sums after `q` groups of eight rows. -/
structure Sums (D : Data) (q : ℕ) (y : FVec Ideal S32x1024 .f32) : Prop where
  a : ∀ (i : Fin 8) (j : Fin 1024), (y (ix2 ⟨i.val, by omega⟩ j) : EReal) = (sumA D j i.val q).1 ∧ (y (ix2 ⟨8 + i.val, by omega⟩ j) : EReal) = (sumA D j i.val q).2
  b : ∀ (i : Fin 8) (j : Fin 1024), (y (ix2 ⟨16 + i.val, by omega⟩ j) : EReal) = (sumB D j i.val q).1 ∧ (y (ix2 ⟨24 + i.val, by omega⟩ j) : EReal) = (sumB D j i.val q).2

theorem part_at (X : v.ty.Contents (Elt Ideal)) (o : ℕ) (h : ∀ a, (![o, 0] : Fin 2 → ℕ) a + S8x1024.size a ≤ S32x1024.size a) (i : Fin 8) (j : Fin 1024) (r : Fin 32) (hr : r.val = o + i.val) :
    v.readAt (Elt Ideal) (Rect.unit (s := S32x1024) ![o, 0] S8x1024.size h).toLoadRect X (ix2 i j) = v.read (Elt Ideal) X (ix2 r j) :=
  congrArg (v.read (Elt Ideal) X) (show (Rect.unit (s := S32x1024) ![o, 0] S8x1024.size h).emb (ix2 i j) = ix2 r j from funext fun a => Fin.ext (by
    fin_cases a
    · show o + 1 * i.val = r.val; omega
    · show 0 + 1 * j.val = j.val; omega))

/-- One more group of eight rows, added and stored. -/
theorem Sums.next {q : ℕ} {er ei sr si xr xi br bi : FVec Ideal S8x1024 .f32} (hs : Sums D q (v.read (Elt Ideal) (v.writes (Elt Ideal) f L)))
    (he : Are er ei fun i j => lam D j (8 * q + 8 - i.val)) (hn : Are sr si fun i j => lam D j (8 * q + 7 - i.val))
    (hx : AreOf xr xi fun i j => D.X (8184 - 8 * q + i.val) j) (hb : AreOf br bi fun i j => D.B (8184 - 8 * q + i.val) j) (h0 h1 h2 h3)
    {u0 u1 u2 u3 : FVec Ideal S8x1024 .f32}
    (e0 : u0 = v.readAt (Elt Ideal) (Rect.unit (s := S32x1024) ![0, 0] S8x1024.size h0).toLoadRect (v.writes (Elt Ideal) f L))
    (e1 : u1 = v.readAt (Elt Ideal) (Rect.unit (s := S32x1024) ![8, 0] S8x1024.size h1).toLoadRect (v.writes (Elt Ideal) f L))
    (e2 : u2 = v.readAt (Elt Ideal) (Rect.unit (s := S32x1024) ![16, 0] S8x1024.size h2).toLoadRect (v.writes (Elt Ideal) f L))
    (e3 : u3 = v.readAt (Elt Ideal) (Rect.unit (s := S32x1024) ![24, 0] S8x1024.size h3).toLoadRect (v.writes (Elt Ideal) f L)) :
    Sums D (q + 1) (v.read (Elt Ideal) (v.writes (Elt Ideal) f
      (piece 24 h3 (k0_pay36 er ei br bi u3) :: piece 16 h2 (k0_pay35 er ei br bi u2) :: piece 8 h1 (k0_pay34 sr si xr xi u1) :: piece 0 h0 (k0_pay33 si xi (k0_pay31 u0) (mulf sr xr)) :: L))) := by
  have ua : AreOf u0 u1 fun i j => sumA D j i.val q := fun i j =>
    ⟨(congrFun e0 _).trans ((part_at _ 0 h0 i j ⟨i.val, by omega⟩ (Nat.zero_add _).symm).trans (hs.a i j).1), (congrFun e1 _).trans ((part_at _ 8 h1 i j ⟨8 + i.val, by omega⟩ rfl).trans (hs.a i j).2)⟩
  have ub : AreOf u2 u3 fun i j => sumB D j i.val q := fun i j =>
    ⟨(congrFun e2 _).trans ((part_at _ 16 h2 i j ⟨16 + i.val, by omega⟩ rfl).trans (hs.b i j).1), (congrFun e3 _).trans ((part_at _ 24 h3 i j ⟨24 + i.val, by omega⟩ rfl).trans (hs.b i j).2)⟩
  have da := decay_are hn hx ua
  have db := factor_are he hb ub
  have r := fun i j => four_read v f L h0 h1 h2 h3 (k0_pay33 si xi (k0_pay31 u0) (mulf sr xr)) (k0_pay34 sr si xr xi u1) (k0_pay35 er ei br bi u2) (k0_pay36 er ei br bi u3) i j _ rfl
  refine ⟨fun i j => ⟨(r i j).1.1.trans ((da i j).1.trans ?_), (r i j).1.2.trans ((da i j).2.trans ?_)⟩, fun i j => ⟨(r i j).2.1.trans ((db i j).1.trans ?_), (r i j).2.2.trans ((db i j).2.trans ?_)⟩⟩
  all_goals (first | unfold sumA | unfold sumB); rw [Finset.sum_range_succ]

theorem rows_at {v : Memref sig .tc .vmem S256x1024 .f32} (hv : v.IsWhole) (x : FVec Ideal S256x1024 .f32) (k : Fin k0_t1_loop.trips) (i : Fin 8) (j : Fin 1024) (r : Fin 256) (hr : r.val = 248 - 8 * k.val + i.val) :
    rows v (hv.unread x) k (ix2 i j) = x (ix2 r j) :=
  (hv.readAt_unread (Val := Elt Ideal) x (Rect.unit (s := S256x1024) (k0_off1 k) S8x1024.size (k0_off1_inb k)).toLoadRect (ix2 i j)).trans (congrArg x (show (Rect.unit (s := S256x1024) (k0_off1 k) S8x1024.size (k0_off1_inb k)).emb (ix2 i j) = ix2 r j from funext fun a => Fin.ext (by
    fin_cases a
    · show k0_off1 k 0 + 1 * i.val = r.val; rw [off_at]; show 248 - 8 * k.val + 1 * i.val = r.val; omega
    · show k0_off1 k 1 + 1 * j.val = j.val; rw [off_at]; show 0 + 1 * j.val = j.val; omega)))

theorem tab_at {v : Memref sig .tc .vmem S64x1024 .f32} (hv : v.IsWhole) (x : FVec Ideal S64x1024 .f32) (o : ℕ) (h) (i : Fin 8) (j : Fin 1024) (r : Fin 64) (hr : r.val = o + i.val) :
    tab v (hv.unread x) o h (ix2 i j) = x (ix2 r j) :=
  (hv.readAt_unread (Val := Elt Ideal) x (Rect.unit (s := S64x1024) ![o, 0] S8x1024.size h).toLoadRect (ix2 i j)).trans (congrArg x (show (Rect.unit (s := S64x1024) ![o, 0] S8x1024.size h).emb (ix2 i j) = ix2 r j from funext fun a => Fin.ext (by
    fin_cases a
    · show o + 1 * i.val = r.val; omega
    · show 0 + 1 * j.val = j.val; omega)))

theorem row_at {v : Memref sig .tc .vmem S8x1024 .f32} (hv : v.IsWhole) (x : FVec Ideal S8x1024 .f32) (o : Fin 8) (h) (j : Fin 1024) :
    row v (hv.unread x) o.val h (ix2 0 j) = x (ix2 o j) :=
  (hv.readAt_unread (Val := Elt Ideal) x (Rect.unit (s := S8x1024) ![o.val, 0] S1x1024.size h).toLoadRect (ix2 0 j)).trans (congrArg x (show (Rect.unit (s := S8x1024) ![o.val, 0] S1x1024.size h).emb (ix2 0 j) = ix2 o j from funext fun a => Fin.ext (by
    fin_cases a
    · show o.val + 1 * 0 = o.val; omega
    · show 0 + 1 * j.val = j.val; omega)))

/-- Two blocks of 256 rows are the parts of the rows of `Z` that grid point `t` finds. -/
def Tile (re im : FVec Ideal S256x1024 .f32) (Z : ℕ → Fin 1024 → EReal × EReal) (t : ℕ) : Prop :=
  ∀ (r : Fin 256) (j : Fin 1024), (re (ix2 r j) : EReal) = (Z (7936 - 256 * t + r.val) j).1 ∧ (im (ix2 r j) : EReal) = (Z (7936 - 256 * t + r.val) j).2

theorem Tile.rows {v w : Memref sig .tc .vmem S256x1024 .f32} (hv : v.IsWhole) (hw : w.IsWhole) {re im : FVec Ideal S256x1024 .f32} {Z : ℕ → Fin 1024 → EReal × EReal} {t : ℕ} (h : Tile re im Z t) (ht : t < 32)
    (k : Fin k0_t1_loop.trips) (hk : k.val < 32) : AreOf (rows v (hv.unread re) k) (rows w (hw.unread im) k) fun i j => Z (8184 - 8 * (32 * t + k.val) + i.val) j := by
  intro i j
  have hi := i.isLt
  have e : 8184 - 8 * (32 * t + k.val) + i.val = 7936 - 256 * t + (248 - 8 * k.val + i.val) := by omega
  rw [rows_at hv re k i j ⟨248 - 8 * k.val + i.val, by omega⟩ rfl, rows_at hw im k i j ⟨248 - 8 * k.val + i.val, by omega⟩ rfl]
  beta_reduce; rw [e]; exact h _ j

/-- What grid point `t` finds. -/
structure Block (D : Data) (t : ℕ) (x1 x2 x3 x4 x5 x6 : FVec Ideal S256x1024 .f32) (x7 : FVec Ideal S64x1024 .f32) (x8 : FVec Ideal S8x1024 .f32) : Prop where
  g : Tile x1 x2 (fun r j => (Re (D.G r j), Im (D.G r j))) t
  x : Tile x3 x4 D.X t
  b : Tile x5 x6 D.B t
  tables : Tables D x7
  factor : ∀ j : Fin 1024, (x8 (ix2 0 j) : EReal) = (D.f j).1 ∧ (x8 (ix2 1 j) : EReal) = (D.f j).2

/-- The gradient of the input at a place of tile `t`. -/
def outAt (D : Data) (t : ℕ) (y : S256x1024.Idx) : EReal × EReal := over (lam D (y 1 : Fin 1024) (256 * t + 256 - (y 0 : Fin 256).val)) (D.f (y 1 : Fin 1024))

theorem outAt_emb (t : ℕ) (k : Fin k0_t1_loop.trips) (hk : k.val < 32) (i : Fin 8) (j : Fin 1024) :
    outAt D t ((Rect.unit (s := S256x1024) (k0_off1 k) S8x1024.size (k0_off1_inb k)).emb (ix2 i j)) = over (lam D j (8 * (32 * t + k.val) + 8 - i.val)) (D.f j) := by
  have e : (Rect.unit (s := S256x1024) (k0_off1 k) S8x1024.size (k0_off1_inb k)).emb (ix2 i j) = ix2 ⟨248 - 8 * k.val + i.val, by omega⟩ j := funext fun a => Fin.ext (by
    fin_cases a
    · show k0_off1 k 0 + 1 * i.val = 248 - 8 * k.val + i.val; rw [off_at]; show 248 - 8 * k.val + 1 * i.val = _; omega
    · show k0_off1 k 1 + 1 * j.val = j.val; rw [off_at]; show 0 + 1 * j.val = j.val; omega)
  have hi := i.isLt
  rw [e]
  show over (lam D j (256 * t + 256 - (248 - 8 * k.val + i.val))) (D.f j) = _
  congr 2; omega

/-- A piece of eight rows agrees with `Z` when its rows do. -/
theorem at_rows (Z : S256x1024.Idx → EReal) (w : FVec Ideal S8x1024 .f32) (k : Fin k0_t1_loop.trips)
    (h : ∀ i j, (w (ix2 i j) : EReal) = Z ((Rect.unit (s := S256x1024) (k0_off1 k) S8x1024.size (k0_off1_inb k)).emb (ix2 i j))) (x : S8x1024.Idx) :
    (w x : EReal) = Z ((Rect.unit (s := S256x1024) (k0_off1 k) S8x1024.size (k0_off1_inb k)).emb x) := by
  rw [eq_ix2 x]; exact h _ _

/-- What the first `k` trips leave at grid point `t`. -/
structure Inv (D : Data) (t k : ℕ) (v : View sig .tc .vmem S32x1024 .f32) (f : v.ty.Contents (Elt Ideal))
    (S : (Vec Ideal S1x1024 .f32 × Vec Ideal S1x1024 .f32) × List (View.Piece (Elt Ideal) S256x1024 .f32) × List (View.Piece (Elt Ideal) S256x1024 .f32) × List (View.Piece (Elt Ideal) S32x1024 .f32)) : Prop where
  carry : AreRow S.1.1 S.1.2 fun j => lam D j (8 * (32 * t + k))
  sums : Sums D (32 * t + k) (v.read (Elt Ideal) (v.writes (Elt Ideal) f S.2.2.2))
  re : ∀ p ∈ S.2.1, ∀ x : p.1.shape.Idx, (p.2 x : EReal) = (outAt D t (p.1.emb x)).1
  im : ∀ p ∈ S.2.2.1, ∀ x : p.1.shape.Idx, (p.2 x : EReal) = (outAt D t (p.1.emb x)).2

section Loop

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S64x1024 .f32) (harg7 : arg7.IsWhole)
  (arg8 : Memref sig .tc .vmem S8x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S32x1024 .f32) (harg11 : arg11.IsWhole)
  (arg12 : Memref sig .tc .vmem S8x1024 .f32) (harg12 : arg12.IsWhole)

/-- What `k` trips leave. -/
theorem inv {t : ℕ} (ht : t < 32) {x1 : FVec Ideal S256x1024 .f32} {x2 : FVec Ideal S256x1024 .f32} {x3 : FVec Ideal S256x1024 .f32} {x4 : FVec Ideal S256x1024 .f32} {x5 : FVec Ideal S256x1024 .f32} {x6 : FVec Ideal S256x1024 .f32} {x7 : FVec Ideal S64x1024 .f32} {x8 : FVec Ideal S8x1024 .f32} (hB : Block D t x1 x2 x3 x4 x5 x6 x7 x8)
    (G9 : BufTy.Contents (Elt Ideal) arg9.view.ty) (G10 : BufTy.Contents (Elt Ideal) arg10.view.ty) (G11 : BufTy.Contents (Elt Ideal) arg11.view.ty) (init : Vec Ideal S1x1024 .f32 × Vec Ideal S1x1024 .f32)
    (h0 : AreRow init.1 init.2 fun j => lam D j (8 * (32 * t))) (hs : Sums D (32 * t) (arg11.view.read (Elt Ideal) G11)) :
    ∀ k : ℕ, k ≤ 32 → Inv D t k arg11.view G11 (st_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) (harg5.unread x5) (harg6.unread x6) (harg7.unread x7) (harg8.unread x8) G9 G10 G11 init k)
  | 0, _ => ⟨h0, hs, fun p hp => absurd hp List.not_mem_nil, fun p hp => absurd hp List.not_mem_nil⟩
  | k + 1, hk => by
    have ih := inv ht hB G9 G10 G11 init h0 hs k (by omega)
    have hk' : k < k0_t1_loop.trips := Nat.lt_of_lt_of_eq (by omega : k < 32) (by decide +kernel)
    have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) (harg5.unread x5) (harg6.unread x6) (harg7.unread x7) (harg8.unread x8) G9 G10 G11 init ⟨k, hk'⟩
    generalize (st_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) (harg5.unread x5) (harg6.unread x6) (harg7.unread x7) (harg8.unread x8) G9 G10 G11 init k) = S at ih e
    rw [e]; clear e
    obtain ⟨er, her⟩ : ∃ er, er = rowsRe (rows arg1 (harg1.unread x1) ⟨k, hk'⟩) (rows arg2 (harg2.unread x2) ⟨k, hk'⟩) (tab arg7 (harg7.unread x7) 0 inb_S64x1024_S8x1024_0_0) (tab arg7 (harg7.unread x7) 8 inb_S64x1024_S8x1024_8_0) (tab arg7 (harg7.unread x7) 16 inb_S64x1024_S8x1024_16_0) (tab arg7 (harg7.unread x7) 24 inb_S64x1024_S8x1024_24_0) (tab arg7 (harg7.unread x7) 32 inb_S64x1024_S8x1024_32_0) (tab arg7 (harg7.unread x7) 40 inb_S64x1024_S8x1024_40_0) (tab arg7 (harg7.unread x7) 48 inb_S64x1024_S8x1024_48_0) (tab arg7 (harg7.unread x7) 56 inb_S64x1024_S8x1024_56_0) S.1.1 S.1.2 := ⟨_, rfl⟩
    obtain ⟨ei, hei⟩ : ∃ ei, ei = rowsIm (rows arg1 (harg1.unread x1) ⟨k, hk'⟩) (rows arg2 (harg2.unread x2) ⟨k, hk'⟩) (tab arg7 (harg7.unread x7) 0 inb_S64x1024_S8x1024_0_0) (tab arg7 (harg7.unread x7) 8 inb_S64x1024_S8x1024_8_0) (tab arg7 (harg7.unread x7) 16 inb_S64x1024_S8x1024_16_0) (tab arg7 (harg7.unread x7) 24 inb_S64x1024_S8x1024_24_0) (tab arg7 (harg7.unread x7) 32 inb_S64x1024_S8x1024_32_0) (tab arg7 (harg7.unread x7) 40 inb_S64x1024_S8x1024_40_0) (tab arg7 (harg7.unread x7) 48 inb_S64x1024_S8x1024_48_0) (tab arg7 (harg7.unread x7) 56 inb_S64x1024_S8x1024_56_0) S.1.1 S.1.2 := ⟨_, rfl⟩
    obtain ⟨sr, hsr⟩ : ∃ sr, sr = nextRe (rows arg1 (harg1.unread x1) ⟨k, hk'⟩) (rows arg2 (harg2.unread x2) ⟨k, hk'⟩) (tab arg7 (harg7.unread x7) 0 inb_S64x1024_S8x1024_0_0) (tab arg7 (harg7.unread x7) 8 inb_S64x1024_S8x1024_8_0) (tab arg7 (harg7.unread x7) 16 inb_S64x1024_S8x1024_16_0) (tab arg7 (harg7.unread x7) 24 inb_S64x1024_S8x1024_24_0) (tab arg7 (harg7.unread x7) 32 inb_S64x1024_S8x1024_32_0) (tab arg7 (harg7.unread x7) 40 inb_S64x1024_S8x1024_40_0) (tab arg7 (harg7.unread x7) 48 inb_S64x1024_S8x1024_48_0) (tab arg7 (harg7.unread x7) 56 inb_S64x1024_S8x1024_56_0) S.1.1 S.1.2 := ⟨_, rfl⟩
    obtain ⟨si, hsi⟩ : ∃ si, si = nextIm (rows arg1 (harg1.unread x1) ⟨k, hk'⟩) (rows arg2 (harg2.unread x2) ⟨k, hk'⟩) (tab arg7 (harg7.unread x7) 0 inb_S64x1024_S8x1024_0_0) (tab arg7 (harg7.unread x7) 8 inb_S64x1024_S8x1024_8_0) (tab arg7 (harg7.unread x7) 16 inb_S64x1024_S8x1024_16_0) (tab arg7 (harg7.unread x7) 24 inb_S64x1024_S8x1024_24_0) (tab arg7 (harg7.unread x7) 32 inb_S64x1024_S8x1024_32_0) (tab arg7 (harg7.unread x7) 40 inb_S64x1024_S8x1024_40_0) (tab arg7 (harg7.unread x7) 48 inb_S64x1024_S8x1024_48_0) (tab arg7 (harg7.unread x7) 56 inb_S64x1024_S8x1024_56_0) S.1.1 S.1.2 := ⟨_, rfl⟩
    obtain ⟨eR, eL⟩ := trip_eq c i arg1 harg1 arg2 harg2 arg3 harg3 arg4 harg4 arg5 harg5 arg6 harg6 arg7 harg7 arg8 harg8 arg9 harg9 arg10 harg10 arg11 harg11 arg12 harg12 (harg1.unread x1) (harg2.unread x2) (harg3.unread x3) (harg4.unread x4) (harg5.unread x5) (harg6.unread x6) (harg7.unread x7) (harg8.unread x8) ⟨k, hk'⟩ S.1 (arg9.view.writes (Elt Ideal) G9 S.2.1) (arg10.view.writes (Elt Ideal) G10 S.2.2.1) (arg11.view.writes (Elt Ideal) G11 S.2.2.2) er ei sr si her hei hsr hsi
    rw [eR, eL]; clear eR eL
    have hq : 32 * t + k < 1024 := by omega
    have hg := hB.g.rows harg1 harg2 ht ⟨k, hk'⟩ (by show k < 32; omega)
    have hx := hB.x.rows harg3 harg4 ht ⟨k, hk'⟩ (by show k < 32; omega)
    have hb := hB.b.rows harg5 harg6 ht ⟨k, hk'⟩ (by show k < 32; omega)
    have he : Are er ei fun i j => lam D j (8 * (32 * t + k) + 8 - i.val) := by
      rw [her, hei]
      refine rows_lam hq (fun i j => hg i j) ?_ ?_ ?_ ?_ ih.carry <;> intro i j
      · exact ⟨(tab_at harg7 x7 0 _ i j ⟨i.val, by omega⟩ (Nat.zero_add _).symm).trans (hB.tables.one i j).1, (tab_at harg7 x7 8 _ i j ⟨8 + i.val, by omega⟩ rfl).trans (hB.tables.one i j).2⟩
      · exact ⟨(tab_at harg7 x7 16 _ i j ⟨16 + i.val, by omega⟩ rfl).trans (hB.tables.two i j).1, (tab_at harg7 x7 24 _ i j ⟨24 + i.val, by omega⟩ rfl).trans (hB.tables.two i j).2⟩
      · exact ⟨(tab_at harg7 x7 32 _ i j ⟨32 + i.val, by omega⟩ rfl).trans (hB.tables.four i j).1, (tab_at harg7 x7 40 _ i j ⟨40 + i.val, by omega⟩ rfl).trans (hB.tables.four i j).2⟩
      · exact ⟨(tab_at harg7 x7 48 _ i j ⟨48 + i.val, by omega⟩ rfl).trans (hB.tables.pows i j).1, (tab_at harg7 x7 56 _ i j ⟨56 + i.val, by omega⟩ rfl).trans (hB.tables.pows i j).2⟩
    have hn : Are sr si fun i j => lam D j (8 * (32 * t + k) + 7 - i.val) := by
      rw [hsr, hsi]
      refine next_lam ?_ ih.carry
      rw [← her, ← hei]; exact he
    have hf : AreRowOf (row arg8 (harg8.unread x8) 0 inb_S8x1024_S1x1024_0_0) (row arg8 (harg8.unread x8) 1 inb_S8x1024_S1x1024_1_0) D.f := fun j =>
      ⟨(row_at harg8 x8 0 _ j).trans (hB.factor j).1, (row_at harg8 x8 1 _ j).trans (hB.factor j).2⟩
    have ho := input_are he hf
    clear her hei hsr hsi
    refine ⟨?_, ?_, ?_, ?_⟩
    · exact carry_are he
    · exact ih.sums.next he hn hx hb _ _ _ _ rfl rfl rfl rfl
    · intro p hp
      rcases List.mem_append.mp hp with hp | hp
      · rw [List.mem_singleton.mp hp]
        exact at_rows (fun y => (outAt D t y).1) _ ⟨k, hk'⟩ fun i j => (ho i j).1.trans (congrArg Prod.fst (outAt_emb t ⟨k, hk'⟩ (by show k < 32; omega) i j).symm)
      · exact ih.re p hp
    · intro p hp
      rcases List.mem_append.mp hp with hp | hp
      · rw [List.mem_singleton.mp hp]
        exact at_rows (fun y => (outAt D t y).2) _ ⟨k, hk'⟩ fun i j => (ho i j).2.trans (congrArg Prod.snd (outAt_emb t ⟨k, hk'⟩ (by show k < 32; omega) i j).symm)
      · exact ih.im p hp

theorem pay7_at (u : FVec Ideal S1x1024 .f32) (j : Fin 1024) : k0_pay7 u (ix2 0 j) = u (ix2 0 j) := by unfold k0_pay7; pointwise
theorem pay8_at (u : FVec Ideal S1x1024 .f32) (j : Fin 1024) : k0_pay8 u (ix2 0 j) = u (ix2 0 j) := by unfold k0_pay8; pointwise

/-- Two rows stored into an eight-row block, read back. -/
theorem two_read (v : View sig .tc .vmem S8x1024 .f32) (f : v.ty.Contents (Elt Ideal)) (h0 h1) (w0 w1 : FVec Ideal S1x1024 .f32) (j : Fin 1024) (y : FVec Ideal S8x1024 .f32)
    (hy : y = v.read (Elt Ideal) (v.writes (Elt Ideal) f [⟨Rect.unit (s := S8x1024) ![1, 0] S1x1024.size h1, w1⟩, ⟨Rect.unit (s := S8x1024) ![0, 0] S1x1024.size h0, w0⟩])) :
    y (ix2 0 j) = w0 (ix2 0 j) ∧ y (ix2 1 j) = w1 (ix2 0 j) := by
  constructor
  · refine (congrFun hy _).trans ((View.read_writes_cons_miss_of_axis v f _ _ (ix2 0 j) 0 1 1 rfl rfl rfl (.inl Nat.zero_lt_one)).trans ?_)
    exact View.read_writes_cons_hit_of_coords v f (Rect.unit (s := S8x1024) ![0, 0] S1x1024.size h0) w0 [] (ix2 0 j) (ix2 0 j) fun a => by
      fin_cases a
      · rfl
      · show j.val = 0 + 1 * j.val; omega
  · refine (congrFun hy _).trans ?_
    exact View.read_writes_cons_hit_of_coords v f (Rect.unit (s := S8x1024) ![1, 0] S1x1024.size h1) w1 _ (ix2 0 j) (ix2 1 j) fun a => by
      fin_cases a
      · rfl
      · show j.val = 0 + 1 * j.val; omega

theorem trips_eq : k0_t1_loop.trips = 32 := by decide +kernel

/-- The carried state's rows. -/
structure Carry (D : Data) (q : ℕ) (cc : FVec Ideal S8x1024 .f32) : Prop where
  row : ∀ j : Fin 1024, (cc (ix2 0 j) : EReal) = Re (lam D j (8 * q)) ∧ (cc (ix2 1 j) : EReal) = Im (lam D j (8 * q))

/-- What grid point `t` makes of what it finds. -/
theorem point_are {t : ℕ} (ht : t < 32) {x1 : FVec Ideal S256x1024 .f32} {x2 : FVec Ideal S256x1024 .f32} {x3 : FVec Ideal S256x1024 .f32} {x4 : FVec Ideal S256x1024 .f32} {x5 : FVec Ideal S256x1024 .f32} {x6 : FVec Ideal S256x1024 .f32} {x7 : FVec Ideal S64x1024 .f32} {x8 : FVec Ideal S8x1024 .f32} (hB : Block D t x1 x2 x3 x4 x5 x6 x7 x8) {s : FVec Ideal S32x1024 .f32} {cc : FVec Ideal S8x1024 .f32} (hs : Sums D (32 * t) s) (hc : Carry D (32 * t) cc) :
    ((∀ y, (out9 (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc y : EReal) = (outAt D t y).1) ∧ ∀ y, (out10 (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc y : EReal) = (outAt D t y).2)
    ∧ Sums D (32 * (t + 1)) (out11 (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc) ∧ Carry D (32 * (t + 1)) (out12 (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc) := by
  have I : Inv D t k0_t1_loop.trips arg11.view (harg11.unread s) (stEnd (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc) :=
    inv c i arg1 harg1 arg2 harg2 arg3 harg3 arg4 harg4 arg5 harg5 arg6 harg6 arg7 harg7 arg8 harg8 arg9 harg9 arg10 harg10 arg11 harg11 arg12 harg12 ht hB arg9.view.junk arg10.view.junk (harg11.unread s) _ (fun j => ⟨(row_at harg12 cc 0 _ j).trans (hc.row j).1, (row_at harg12 cc 1 _ j).trans (hc.row j).2⟩)
      (by rw [harg11.read_unread]; exact hs) k0_t1_loop.trips (le_of_eq trips_eq)
  refine ⟨⟨fun y => ?_, fun y => ?_⟩, ?_, ⟨fun j => ?_⟩⟩
  · exact View.read_writes_apply_of_pieces (Val := Elt Ideal) arg9.view arg9.view.junk (fun y => ((outAt D t y).1 : EReal)) _ I.re y (cover9 (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc y)
  · exact View.read_writes_apply_of_pieces (Val := Elt Ideal) arg10.view arg10.view.junk (fun y => ((outAt D t y).2 : EReal)) _ I.im y (cover10 (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc y)
  · have h := I.sums
    rw [trips_eq, show 32 * t + 32 = 32 * (t + 1) by omega] at h
    exact h
  · have h := I.carry
    rw [trips_eq, show 32 * t + 32 = 32 * (t + 1) by omega] at h
    have r := two_read arg12.view (harg12.unread cc) inb_S8x1024_S1x1024_0_0 inb_S8x1024_S1x1024_1_0 (k0_pay7 (stEnd (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).1.1) (k0_pay8 (stEnd (F := Ideal) c i arg1 harg1 arg2 harg2 arg3 harg3 arg4 harg4 arg5 harg5 arg6 harg6 arg7 harg7 arg8 harg8 arg9 harg9 arg10 harg10 arg11 harg11 arg12 harg12 x1 x2 x3 x4 x5 x6 x7 x8 s cc).1.2) j _ rfl
    exact ⟨r.1.trans ((pay7_at _ j).trans (h j).1), r.2.trans ((pay8_at _ j).trans (h j).2)⟩

end Loop

end Cert.DscanIdeal.Scan

end
-- ==== Proof.ScanFrame.lean ====
/- The scan's gradient runs at every grid point: the sums and the carried state go from point to point, and the program
   ends with its arguments unchanged. -/
module

public import proofs.«01_k».proof.Proof.ScanRun
public import Idealize.ShloMosaic.Lib.Claim

@[expose] public section

noncomputable section

namespace Cert.DscanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)
abbrev ms0_10 (t : Fin cfg0.N) := win0_10.stage (cfg0.slots t 10)
abbrev hs0_10 (t : Fin cfg0.N) : (ms0_10 t).IsWhole := hstage0_10 ((cfg0.slots t 10).cast nbuf0_10)
/-- The scratch that carries the state from point to point. -/
abbrev scM0_0 : Memref sig .tc .vmem S8x1024 .f32 := Memref.whole cc0_scratch0

theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- The two output blocks, the sums and the carried state. -/
abbrev Out (F : FTy → Type) [FloatOps F] := Vec F S256x1024 .f32 × Vec F S256x1024 .f32 × Vec F S32x1024 .f32 × Vec F S8x1024 .f32

/-- What point `t` leaves, from the sums and the carried state it finds. -/
def point (c : Dev nD) (t : Fin cfg0.N) (s : Vec F S32x1024 .f32) (cc : Vec F S8x1024 .f32) : Out F :=
  (out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) s cc,
   out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) s cc,
   out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) s cc,
   out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) s cc)

/-- What point `n` leaves: the first starts from cleared sums and state, the others from what the point before left. -/
def outs (c : Dev nD) : (n : ℕ) → n < cfg0.N → Out F
  | 0, h => point m c ⟨0, h⟩ (k0_pay2 (F := F)) (k0_pay1 (F := F))
  | n + 1, h => point m c ⟨n + 1, h⟩ (outs c n (Nat.lt_of_succ_lt h)).2.2.1 (outs c n (Nat.lt_of_succ_lt h)).2.2.2

theorem outs_first (c : Dev nD) (t : Fin cfg0.N) (h0 : t.val = 0) :
    outs m c t.val t.isLt = point m c t (k0_pay2 (F := F)) (k0_pay1 (F := F)) := by
  obtain ⟨n, hn⟩ := t; cases n with
  | zero => rfl
  | succ n => exact absurd h0 (Nat.succ_ne_zero n)

theorem outs_next (c : Dev nD) (t : Fin cfg0.N) (h0 : t.val ≠ 0) :
    outs m c t.val t.isLt = point m c t (outs m c (t.val - 1) (Nat.lt_of_le_of_lt (Nat.sub_le _ _) t.isLt)).2.2.1
      (outs m c (t.val - 1) (Nat.lt_of_le_of_lt (Nat.sub_le _ _) t.isLt)).2.2.2 := by
  obtain ⟨n, hn⟩ := t; cases n with
  | zero => exact absurd rfl h0
  | succ n => rfl

/-- What a point finds: before the first the scratch at anything, then at what the point before left. -/
def PhiS (c : Dev nD) : (n : ℕ) → n ≤ cfg0.N → sProp 𝕄
  | 0, _ => Pipeline.ΦA spec0 c
  | n + 1, hn => iprop(owns (c : Thread nD τ) scM0_0 fullShare (outs m c n hn).2.2.2 ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (outs m c n hn).2.2.2 ∗ (∃ r, prngReg c r)) := rfl

theorem PhiS_pos (c : Dev nD) (n : ℕ) (h : n ≤ cfg0.N) (hz : n ≠ 0) :
    PhiS m c n h = iprop(owns (c : Thread nD τ) scM0_0 fullShare (outs m c (n - 1) (by omega)).2.2.2 ∗ (∃ r, prngReg c r)) := by
  cases n with
  | zero => exact absurd rfl hz
  | succ n => rfl

/-- What every point finds and leaves, window by window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outs m c t.val t.isLt).1 := by dsimp only [dats]
theorem after0_9 (c : Dev nD) (t : Fin cfg0.N) : (dats m 0 c).after 9 t = (outs m c t.val t.isLt).2.1 := by dsimp only [dats]
theorem after0_10 (c : Dev nD) (t : Fin cfg0.N) : (dats m 0 c).after 10 t = (outs m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- The sums a point finds are those the point before left. -/
theorem before0_10 (c : Dev nD) (t : Fin cfg0.N) (h0 : t.val ≠ 0) (d) :
    (dats m 0 c).before 10 t d = (outs m c (t.val - 1) (Nat.lt_of_le_of_lt (Nat.sub_le _ _) t.isLt)).2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  by_cases h0 : t.val = 0
  · rw [PhiS_castSucc m c t, PhiS_zero m c _ _ h0, PhiA0_eq, outs_first m c t h0]
    unfold point; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiS_castSucc m c t, PhiS_pos m c _ _ h0, outs_next m c t h0]
    simp only [before0_10 m c t h0]
    unfold point; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ (fun h => h0 ((hcond0_0 t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨HS, Hg⟩
  isplitl [HS]; · iexists _; iexact HS
  iexact Hg

set_option backward.isDefEq.respectTransparency.types false in
set_option maxHeartbeats 800000 in
/-- The launch: every array of the call ends at what the points left, and no semaphore is left counting. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the program ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.DscanIdeal.Gen
-- ==== Proof.ScanGrid.lean ====
/-
  THE THREE RESULTS of the scan's gradient, from its ten arguments: the grid points one after another, the arrays they fill, and the sums
  added up by eights afterwards.
-/
module

public import proofs.«01_k».proof.Proof.ScanLoop
public import proofs.«01_k».proof.Proof.ScanFrame

@[expose] public section

set_option maxRecDepth 16384

noncomputable section

namespace Cert.DscanIdeal.Scan

open Cert.DscanIdeal Cert.DscanIdeal.Gen Idealize.ShloMosaic Idealize.ShloMosaic.TcCoe
open Cert.Scan ComplexConjugate

variable {m : (ℓ : Loc nD τ sig) → Buf (Elt Ideal) ℓ} {c : Dev nD} {D : Data}

theorem in_index (t : Fin cfg0.N) :
    win0_0.index t = ![31 - t.val, 0] ∧ win0_1.index t = ![31 - t.val, 0] ∧ win0_2.index t = ![31 - t.val, 0] ∧ win0_3.index t = ![31 - t.val, 0] ∧
    win0_4.index t = ![31 - t.val, 0] ∧ win0_5.index t = ![31 - t.val, 0] ∧ win0_6.index t = ![0, 0] ∧ win0_7.index t = ![0, 0] := by
  revert t; decide +kernel

theorem out_index (t : Fin cfg0.N) :
    win0_8.index t = ![31 - t.val, 0] ∧ win0_9.index t = ![31 - t.val, 0] ∧ win0_10.index t = ![0, 0] := by
  revert t; decide +kernel

theorem point_lt (t : Fin cfg0.N) : t.val < 32 := Nat.lt_of_lt_of_eq t.isLt N_0

section Blocks

variable (m c) (t : Fin cfg0.N) (r : Fin 256) (j : Fin 1024)

theorem blk0 : (iblk m c 0 t (ix2 r j) : EReal) = V m c main_arg0 (ix2 ⟨7936 - 256 * t.val + r.val, by have := point_lt t; omega⟩ j) := by
  blk_ext [iblk, in_index t]
theorem blk1 : (iblk m c 1 t (ix2 r j) : EReal) = V m c main_arg1 (ix2 ⟨7936 - 256 * t.val + r.val, by have := point_lt t; omega⟩ j) := by
  blk_ext [iblk, in_index t]
theorem blk2 : (iblk m c 2 t (ix2 r j) : EReal) = V m c main_arg4 (ix2 ⟨7936 - 256 * t.val + r.val, by have := point_lt t; omega⟩ j) := by
  blk_ext [iblk, in_index t]
theorem blk3 : (iblk m c 3 t (ix2 r j) : EReal) = V m c main_arg5 (ix2 ⟨7936 - 256 * t.val + r.val, by have := point_lt t; omega⟩ j) := by
  blk_ext [iblk, in_index t]
theorem blk4 : (iblk m c 4 t (ix2 r j) : EReal) = V m c main_arg2 (ix2 ⟨7936 - 256 * t.val + r.val, by have := point_lt t; omega⟩ j) := by
  blk_ext [iblk, in_index t]
theorem blk5 : (iblk m c 5 t (ix2 r j) : EReal) = V m c main_arg3 (ix2 ⟨7936 - 256 * t.val + r.val, by have := point_lt t; omega⟩ j) := by
  blk_ext [iblk, in_index t]

end Blocks

theorem blk6 (t : Fin cfg0.N) : (iblk m c 6 t : FVec Ideal S64x1024 .f32) = V m c main_v59 := by
  funext y
  blk_ext [iblk, in_index t]
theorem blk7 (t : Fin cfg0.N) : (iblk m c 7 t : FVec Ideal S8x1024 .f32) = V m c main_v61 := by
  funext y
  blk_ext [iblk, in_index t]

/-- What a grid point finds. -/
theorem block (h : Holds m c D) (t : Fin cfg0.N) : Block D t.val (iblk m c 0 t) (iblk m c 1 t) (iblk m c 2 t) (iblk m c 3 t) (iblk m c 4 t) (iblk m c 5 t) (iblk m c 6 t) (iblk m c 7 t) := by
  have ht := point_lt t
  refine ⟨fun r j => ?_, fun r j => ?_, fun r j => ?_, ?_, fun j => ?_⟩
  · exact ⟨(blk0 m c t r j).trans ((congrFun (V_main_arg0 m c) _).trans (h.g_re _ j)),
      (blk1 m c t r j).trans ((congrFun (V_main_arg1 m c) _).trans (h.g_im _ j))⟩
  · exact ⟨(blk2 m c t r j).trans ((congrFun (V_main_arg4 m c) _).trans (h.x_re _ j)),
      (blk3 m c t r j).trans ((congrFun (V_main_arg5 m c) _).trans (h.x_im _ j))⟩
  · exact ⟨(blk4 m c t r j).trans ((congrFun (V_main_arg2 m c) _).trans (h.b_re _ j)),
      (blk5 m c t r j).trans ((congrFun (V_main_arg3 m c) _).trans (h.b_im _ j))⟩
  · rw [blk6]; exact tables h
  · rw [blk7]; exact factor_rows h j

/-- What grid point `n` leaves. -/
structure Left (D : Data) (n : ℕ) (o : Out Ideal) : Prop where
  re : ∀ y, (o.1 y : EReal) = (outAt D n y).1
  im : ∀ y, (o.2.1 y : EReal) = (outAt D n y).2
  sums : Sums D (32 * (n + 1)) o.2.2.1
  carry : Carry D (32 * (n + 1)) o.2.2.2

theorem left_point (h : Holds m c D) (t : Fin cfg0.N) {s : FVec Ideal S32x1024 .f32} {cc : FVec Ideal S8x1024 .f32} (hs : Sums D (32 * t.val) s) (hc : Carry D (32 * t.val) cc) :
    Left D t.val (point m c t s cc) := by
  have p := point_are c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _)
    (point_lt t) (block h t) hs hc
  refine ⟨p.1.1, p.1.2, p.2.1, ?_⟩
  unfold point
  dsimp only
  exact p.2.2

theorem zero_sums : Sums D (32 * 0) (k0_pay2 (F := Ideal)) := by
  have e : ∀ y, (k0_pay2 (F := Ideal) y : EReal) = 0 := fun y => Ideal.ofBits_zero_f32
  have a : ∀ i j, sumA D j i 0 = 0 := fun i j => rfl
  have b : ∀ i j, sumB D j i 0 = 0 := fun i j => rfl
  constructor <;> intro i j
  · rw [Nat.mul_zero, a]; exact ⟨e _, e _⟩
  · rw [Nat.mul_zero, b]; exact ⟨e _, e _⟩

theorem zero_carry : Carry D (32 * 0) (k0_pay1 (F := Ideal)) := by
  have e : ∀ y, (k0_pay1 (F := Ideal) y : EReal) = 0 := fun y => Ideal.ofBits_zero_f32
  refine ⟨fun j => ?_⟩
  have z : lam D j (8 * (32 * 0)) = 0 := rfl
  rw [z]
  exact ⟨e _, e _⟩

/-- What every grid point leaves. -/
theorem left_all (h : Holds m c D) : ∀ (n : ℕ) (hn : n < cfg0.N), Left D n (outs m c n hn)
  | 0, hn => left_point h ⟨0, hn⟩ zero_sums zero_carry
  | n + 1, hn => left_point h ⟨n + 1, hn⟩ (left_all h n (Nat.lt_of_succ_lt hn)).sums (left_all h n (Nat.lt_of_succ_lt hn)).carry

/-- The gradient of the input at row `z 0` and column `z 1`. -/
def input (D : Data) (z : S8192x1024.Idx) : EReal × EReal := over (lam D (z 1 : Fin 1024) (8192 - (z 0 : Fin 8192).val)) (D.f (z 1 : Fin 1024))

theorem arr8 (h : Holds m c D) : (dats m 0 c).arrAt 8 (cfgs 0).N = fun z : S8192x1024.Idx => (input D z).1 := by
  refine (dats m 0 c).arrAt_eq_of_covers 8 _ (by decide +kernel) fun t hf y => ?_
  have ht := point_lt t
  have h0 : (y 0).val < 256 := (y 0).isLt
  rw [after0_8]
  refine ((left_all h t.val t.isLt).re y).trans ?_
  blk_simp [out_index t]
  unfold outAt input
  have e0 : ((win0_8.blk t).view.emb y 0 : Fin 8192).val = (31 - t.val) * 256 + (y 0).val := by blk_simp [out_index t]
  have e1 : ((win0_8.blk t).view.emb y 1 : Fin 1024) = y 1 := Fin.ext (by blk_simp [out_index t])
  rw [e0, e1, show 8192 - ((31 - t.val) * 256 + (y 0).val) = 256 * t.val + 256 - (y 0).val by omega]

theorem arr9 (h : Holds m c D) : (dats m 0 c).arrAt 9 (cfgs 0).N = fun z : S8192x1024.Idx => (input D z).2 := by
  refine (dats m 0 c).arrAt_eq_of_covers 9 _ (by decide +kernel) fun t hf y => ?_
  have ht := point_lt t
  have h0 : (y 0).val < 256 := (y 0).isLt
  rw [after0_9]
  refine ((left_all h t.val t.isLt).im y).trans ?_
  blk_simp [out_index t]
  unfold outAt input
  have e0 : ((win0_9.blk t).view.emb y 0 : Fin 8192).val = (31 - t.val) * 256 + (y 0).val := by blk_simp [out_index t]
  have e1 : ((win0_9.blk t).view.emb y 1 : Fin 1024) = y 1 := Fin.ext (by blk_simp [out_index t])
  rw [e0, e1, show 8192 - ((31 - t.val) * 256 + (y 0).val) = 256 * t.val + 256 - (y 0).val by omega]

/-- The sums in the end. -/
theorem arr10 (h : Holds m c D) : Sums D 1024 ((dats m 0 c).arrAt 10 (cfgs 0).N) := by
  obtain ⟨T, hT⟩ : ∃ T : Fin cfg0.N, T.val = 31 := ⟨⟨31, Nat.lt_of_lt_of_eq (by decide) N_0.symm⟩, rfl⟩
  have e : (dats m 0 c).arrAt 10 (cfgs 0).N = (outs m c T.val T.isLt).2.2.1 := by
    refine (dats m 0 c).arrAt_eq_of_covers 10 _ (by decide +kernel) fun t hf y => ?_
    have ht := point_lt t
    have h1 := (flush0_10 t).mp hf
    obtain rfl : t = T := Fin.ext (by omega)
    rw [after0_10]
    generalize (outs m c t.val t.isLt).2.2.1 = S
    refine congrArg S (funext fun a => Fin.ext ?_)
    fin_cases a <;> blk_simp [out_index t]
  have L := (left_all h T.val T.isLt).sums
  rw [e]
  rw [show 32 * (T.val + 1) = 1024 by omega] at L
  exact L

theorem tail10 : Pipeline.withArrays (cfgs 0).spec c (V0 m c) (fun w => (dats m 0 c).arrAt w (cfgs 0).N) (Proc.tc.devRef main_v62_2)
      = (dats m 0 c).arrAt 10 (cfgs 0).N := by
  have e : ∀ w, (dats m 0 c).A w = V0 m c (Proc.devRef .tc (Pipeline.arrRef (cfgs 0).spec w)) := fun w => A_eq m c w
  exact (dats m 0 c).withArrays_arrAt (by decide) (V0 m c) e 10

/-- The sums the call leaves, at row `r` and column `j`. -/
def kept (m : (ℓ : Loc nD τ sig) → Buf (Elt Ideal) ℓ) (c : Dev nD) (r : ℕ) (j : Fin 1024) : EReal := if h : r < 32 then ((dats m 0 c).arrAt 10 (cfgs 0).N : FVec Ideal S32x1024 .f32) (ix2 ⟨r, h⟩ j) else 0

/-- The sums, added up by eights. -/
theorem vectors_at (i : Fin 4) (j : Fin 1024) :
    (Pipeline.afterTail₀ cfgs (dats m) 0 (V0 m) [hostOps1] c main_v64 (ix2 i j) : EReal) = ∑ q : Fin 8, kept m c (8 * i.val + q.val) j := by
  unfold Pipeline.afterTail₀
  simp only [List.flatten_cons, List.flatten_nil, List.append_nil]
  unfold hostOps1
  after_reads_at
  refine Finset.sum_congr rfl fun q _ => ?_
  have hr : 8 * i.val + q.val < 32 := by omega
  refine (congrFun (tail10 (m := m) (c := c)) _).trans (Eq.trans ?_ (dif_pos hr).symm)
  exact congrArg (fun r => (dats m 0 c).arrAt 10 (cfgs 0).N (ix2 r j)) (Fin.ext (congrArg (· + q.val) (Nat.mul_comm i.val 8)))

theorem kept_eq {r : Fin 32} {j : Fin 1024} : kept m c r.val j = (dats m 0 c).arrAt 10 (cfgs 0).N (ix2 r j) := dif_pos r.isLt

theorem eight_a (j : Fin 1024) : ∑ q : Fin 8, (sumA D j q.val 1024).1 = (gradA D j).1 ∧ ∑ q : Fin 8, (sumA D j q.val 1024).2 = (gradA D j).2 := by
  rw [← Prod.fst_sum, ← Prod.snd_sum, ← Finset.sum_range (fun i => sumA D j i 1024), sumA_all]
  exact ⟨rfl, rfl⟩

theorem eight_b (j : Fin 1024) : ∑ q : Fin 8, (sumB D j q.val 1024).1 = (gradB D j).1 ∧ ∑ q : Fin 8, (sumB D j q.val 1024).2 = (gradB D j).2 := by
  rw [← Prod.fst_sum, ← Prod.snd_sum, ← Finset.sum_range (fun i => sumB D j i 1024), sumB_all]
  exact ⟨rfl, rfl⟩

theorem kept_sum (h : Holds m c D) (i : Fin 4) (j : Fin 1024) : ∑ q : Fin 8, kept m c (8 * i.val + q.val) j = four D i j := by
  have S := arr10 h
  have ka : ∀ q : Fin 8, kept m c q.val j = (sumA D j q.val 1024).1 ∧ kept m c (8 + q.val) j = (sumA D j q.val 1024).2 := fun q =>
    ⟨(kept_eq (r := ⟨q.val, by omega⟩)).trans (S.a q j).1, (kept_eq (r := ⟨8 + q.val, by omega⟩)).trans (S.a q j).2⟩
  have kb : ∀ q : Fin 8, kept m c (16 + q.val) j = (sumB D j q.val 1024).1 ∧ kept m c (24 + q.val) j = (sumB D j q.val 1024).2 := fun q =>
    ⟨(kept_eq (r := ⟨16 + q.val, by omega⟩)).trans (S.b q j).1, (kept_eq (r := ⟨24 + q.val, by omega⟩)).trans (S.b q j).2⟩
  have at_row : ∀ (a b : ℕ) (q : Fin 8), 8 * a = b → kept m c (8 * a + q.val) j = kept m c (b + q.val) j := fun a b q e => by rw [e]
  fin_cases i
  · exact (Finset.sum_congr rfl fun q _ => (congrArg (fun r => kept m c r j) (show 8 * 0 + q.val = q.val by omega)).trans (ka q).1).trans (eight_a j).1
  · exact (Finset.sum_congr rfl fun q _ => (at_row 1 8 q rfl).trans (ka q).2).trans (eight_a j).2
  · exact (Finset.sum_congr rfl fun q _ => (at_row 2 16 q rfl).trans (kb q).1).trans (eight_b j).1
  · exact (Finset.sum_congr rfl fun q _ => (at_row 3 24 q rfl).trans (kb q).2).trans (eight_b j).2

/-- The gradients of the two vectors. -/
theorem vectors_eq (h : Holds m c D) (i : Fin 4) (j : Fin 1024) :
    (Pipeline.afterTail₀ cfgs (dats m) 0 (V0 m) [hostOps1] c main_v64 (ix2 i j) : EReal) = four D i j := (vectors_at i j).trans (kept_sum h i j)

end Cert.DscanIdeal.Scan

end
-- ==== Proof.ScanReference.lean ====
/-
  THE REFERENCE, index by index: one trip of its loop a row from the last to the first, and what the operations after it make of the gradients
  the loop has laid down.
-/
module

public import proofs.«01_k».proof.Proof.ScanSum
public import proofs.«01_k».proof.Proof.Gen.DscanRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws
public import Idealize.ShloMosaic.Lib.Scf.Counter
public import Idealize.ShloMosaic.Lib.DynamicIndex

@[expose] public section

set_option maxRecDepth 16384

noncomputable section

namespace Cert.DscanRefIdeal.Scan

open Cert.DscanRefIdeal Cert.DscanRefIdeal.Gen Cert.DscanRefIdeal.Value Idealize.ShloMosaic Idealize.ShloMosaic.TcCoe Idealize.SL.Sem Idealize.ShloMosaic.StableHlo
open Cert.Scan ComplexConjugate

variable (m : (ℓ : Loc nD τ sig) → Buf (Elt Ideal) ℓ) (c : Dev nD)

/-- The arguments are the arrays of the scan. -/
structure Holds (D : Data) : Prop where
  g_re : ∀ (r : Fin 8192) (j : Fin 1024), (m ((c.tc : Thread nD τ).loc main_arg0) (ix2 r j) : EReal) = Re (D.G r.val j)
  g_im : ∀ (r : Fin 8192) (j : Fin 1024), (m ((c.tc : Thread nD τ).loc main_arg1) (ix2 r j) : EReal) = Im (D.G r.val j)
  b_re : ∀ (r : Fin 8192) (j : Fin 1024), (m ((c.tc : Thread nD τ).loc main_arg2) (ix2 r j) : EReal) = (D.B r.val j).1
  b_im : ∀ (r : Fin 8192) (j : Fin 1024), (m ((c.tc : Thread nD τ).loc main_arg3) (ix2 r j) : EReal) = (D.B r.val j).2
  x_re : ∀ (r : Fin 8192) (j : Fin 1024), (m ((c.tc : Thread nD τ).loc main_arg4) (ix2 r j) : EReal) = (D.X r.val j).1
  x_im : ∀ (r : Fin 8192) (j : Fin 1024), (m ((c.tc : Thread nD τ).loc main_arg5) (ix2 r j) : EReal) = (D.X r.val j).2
  a_re : ∀ (r : Fin 1) (j : Fin 1024), (m ((c.tc : Thread nD τ).loc main_arg6) (ix2 r j) : EReal) = Re (D.a j)
  a_im : ∀ (r : Fin 1) (j : Fin 1024), (m ((c.tc : Thread nD τ).loc main_arg7) (ix2 r j) : EReal) = Im (D.a j)
  f_re : ∀ (r : Fin 1) (j : Fin 1024), (m ((c.tc : Thread nD τ).loc main_arg8) (ix2 r j) : EReal) = (D.f j).1
  f_im : ∀ (r : Fin 1) (j : Fin 1024), (m ((c.tc : Thread nD τ).loc main_arg9) (ix2 r j) : EReal) = (D.f j).2

variable {m c} {D : Data}

/-- What the loop's buffers hold after `k` trips. -/
structure Trips (D : Data) (k : ℕ) (V : Valuation τ sig (Elt Ideal)) : Prop where
  g_re : ∀ (r : Fin 8192) (j : Fin 1024), (V (Proc.devRef .tc main_v17_0) (ix3 r 0 j) : EReal) = Re (D.G r.val j)
  g_im : ∀ (r : Fin 8192) (j : Fin 1024), (V (Proc.devRef .tc main_v17_1) (ix3 r 0 j) : EReal) = Im (D.G r.val j)
  a_re : ∀ (j : Fin 1024), (V (Proc.devRef .tc main_v17_2) (ix2 0 j) : EReal) = Re (D.a j)
  a_im : ∀ (j : Fin 1024), (V (Proc.devRef .tc main_v17_3) (ix2 0 j) : EReal) = Im (D.a j)
  ctr : V (Proc.devRef .tc main_v17_4) = fun _ => BitVec.ofNat 32 k
  c_re : ∀ (j : Fin 1024), (V (Proc.devRef .tc main_v17_5) (ix2 0 j) : EReal) = Re (conj (D.a j) * lam D j k)
  c_im : ∀ (j : Fin 1024), (V (Proc.devRef .tc main_v17_6) (ix2 0 j) : EReal) = Im (conj (D.a j) * lam D j k)
  l_re : ∀ (r : Fin 8192) (j : Fin 1024), 8192 - k ≤ r.val → (V (Proc.devRef .tc main_v17_7) (ix3 r 0 j) : EReal) = Re (lam D j (8192 - r.val))
  l_im : ∀ (r : Fin 8192) (j : Fin 1024), 8192 - k ≤ r.val → (V (Proc.devRef .tc main_v17_8) (ix3 r 0 j) : EReal) = Im (lam D j (8192 - r.val))

theorem start (h : Holds m c D) : Trips D 0 (entryContents preI m c) where
  g_re r j := by
    have e : entryContents preI m c (Proc.devRef .tc main_v17_0) = broadcastInDim S8192x1x1024 ![0, 2] bcast_S8192x1024_S8192x1x1024_0_2 (m ((c.tc : Thread nD τ).loc main_arg0)) := rfl
    rw [e]; pointwise; exact h.g_re r j
  g_im r j := by
    have e : entryContents preI m c (Proc.devRef .tc main_v17_1) = broadcastInDim S8192x1x1024 ![0, 2] bcast_S8192x1024_S8192x1x1024_0_2 (m ((c.tc : Thread nD τ).loc main_arg1)) := rfl
    rw [e]; pointwise; exact h.g_im r j
  a_re j := by
    have e : entryContents preI m c (Proc.devRef .tc main_v17_2) = m ((c.tc : Thread nD τ).loc main_arg6) := rfl
    rw [e]; exact h.a_re 0 j
  a_im j := by
    have e : entryContents preI m c (Proc.devRef .tc main_v17_3) = m ((c.tc : Thread nD τ).loc main_arg7) := rfl
    rw [e]; exact h.a_im 0 j
  ctr := ctr_entry m c
  c_re j := by
    have e : entryContents preI m c (Proc.devRef .tc main_v17_5) = broadcastInDim S1x1024 ![] bcast_S_S1x1024 (constant (F := Ideal) S_ .f32 0x00000000#32) := rfl
    rw [e]; pointwise; rw [lam, mul_zero]; rfl
  c_im j := by
    have e : entryContents preI m c (Proc.devRef .tc main_v17_6) = broadcastInDim S1x1024 ![] bcast_S_S1x1024 (constant (F := Ideal) S_ .f32 0x00000000#32) := rfl
    rw [e]; pointwise; rw [lam, mul_zero]; rfl
  l_re r j hr := by have := r.isLt; omega
  l_im r j hr := by have := r.isLt; omega

/-- The row a trip works on. -/
theorem row_at {k : ℕ} (hk : k < 8192) {V : Valuation τ sig (Elt Ideal)} (h : V (Proc.devRef .tc main_v17_4) = fun _ => BitVec.ofNat 32 k) :
    res_main_while0b_v78 V = fun _ => BitVec.ofNat 32 (8191 - k) := by
  unfold res_main_while0b_v78
  rw [h]
  funext z
  show 8192#32 - BitVec.ofNat 32 k - 1#32 = BitVec.ofNat 32 (8191 - k)
  apply BitVec.eq_of_toNat_eq
  simp only [BitVec.toNat_sub, BitVec.toNat_ofNat]
  omega

/-- A row of a stack of rows, read at the place a trip works on. -/
theorem row_read {k : ℕ} (hk : k < 8192) (x : FVec Ideal S8192x1x1024 .f32) (s : Fin 3 → IVec S_ 32) (hs : s = ![fun _ => BitVec.ofNat 32 (8191 - k), constantI S_ 32 0#32, constantI S_ 32 0#32])
    (h : S8192x1x1024.Slices (fun _ => 0) S1x1x1024) (j : Fin 1024) :
    shapeCast S1x1024 (Host.dynamicSlice S1x1x1024 x (fun a => (s a (Shape.Idx.first h_S_)).toInt) h) shapeCasts_S1x1x1024_S1x1024 (ix2 0 j) = x (ix3 ⟨8191 - k, by omega⟩ 0 j) := by
  subst hs
  have hf : S8192x1x1024.Slices ![8191 - k, 0, 0] S1x1x1024 := ⟨rfl, fun a => by fin_cases a <;> simp <;> omega⟩
  rw [Host.dynamicSlice_eq_extractStridedSlice S1x1x1024 x _ ![8191 - k, 0, 0] h hf (fun a => by
    fin_cases a
    · exact toInt_ofNat_of_lt (by omega)
    · rfl
    · rfl)]
  pointwise

variable {k : ℕ} {V : Valuation τ sig (Elt Ideal)}

/-- The gradient of the state of the row a trip works on. -/
theorem Trips.v81 (h : Trips D k V) (hk : k < 8192) (j : Fin 1024) : (res_main_while0b_v81 V (ix2 0 j) : EReal) = Re (lam D j (k + 1)) := by
  unfold res_main_while0b_v81
  rw [row_at hk h.ctr]
  refine (congrArg₂ (fun a b : EReal => a + b) (h.c_re j) ((row_read hk _ _ rfl _ j).trans (h.g_re _ j))).trans ?_
  rw [re_add, lam, add_comm]
theorem Trips.v82 (h : Trips D k V) (hk : k < 8192) (j : Fin 1024) : (res_main_while0b_v82 V (ix2 0 j) : EReal) = Im (lam D j (k + 1)) := by
  unfold res_main_while0b_v82
  rw [row_at hk h.ctr]
  refine (congrArg₂ (fun a b : EReal => a + b) (h.c_im j) ((row_read hk _ _ rfl _ j).trans (h.g_im _ j))).trans ?_
  rw [im_add, lam, add_comm]

/-- A stack of rows with one row laid at the place a trip works on. -/
theorem row_write (hk : k < 8192) (x : FVec Ideal S8192x1x1024 .f32) (u : FVec Ideal S1x1024 .f32) (s : Fin 3 → IVec S_ 32) (hs : s = ![fun _ => BitVec.ofNat 32 (8191 - k), constantI S_ 32 0#32, constantI S_ 32 0#32])
    (h : S8192x1x1024.Slices (fun _ => 0) S1x1x1024) (r : Fin 8192) (j : Fin 1024) :
    Host.dynamicUpdateSlice x (broadcastInDim S1x1x1024 ![1, 2] bcast_S1x1024_S1x1x1024_1_2 u) (fun a => (s a (Shape.Idx.first h_S_)).toInt) h (ix3 r 0 j) =
      if r.val = 8191 - k then u (ix2 0 j) else x (ix3 r 0 j) := by
  subst hs
  have c0 : Host.clampedStart S8192x1x1024 S1x1x1024 h.1 (fun a => ((![fun _ => BitVec.ofNat 32 (8191 - k), constantI S_ 32 0#32, constantI S_ 32 0#32] : Fin 3 → IVec S_ 32) a (Shape.Idx.first h_S_)).toInt) 0 = 8191 - k :=
    Host.clampedStart_of_le _ _ _ _ (toInt_ofNat_of_lt (by omega)) (by simp; omega)
  have c1 : Host.clampedStart S8192x1x1024 S1x1x1024 h.1 (fun a => ((![fun _ => BitVec.ofNat 32 (8191 - k), constantI S_ 32 0#32, constantI S_ 32 0#32] : Fin 3 → IVec S_ 32) a (Shape.Idx.first h_S_)).toInt) 1 = 0 :=
    Host.clampedStart_of_le _ _ _ _ rfl (by simp)
  have c2 : Host.clampedStart S8192x1x1024 S1x1x1024 h.1 (fun a => ((![fun _ => BitVec.ofNat 32 (8191 - k), constantI S_ 32 0#32, constantI S_ 32 0#32] : Fin 3 → IVec S_ 32) a (Shape.Idx.first h_S_)).toInt) 2 = 0 :=
    Host.clampedStart_of_le _ _ _ _ rfl (by simp)
  rw [Host.dynamicUpdateSlice_apply]
  by_cases hr : r.val = 8191 - k
  · rw [if_pos hr, dif_pos (fun a => by
      fin_cases a
      · refine ⟨c0.le.trans hr.ge, ?_⟩; exact Nat.lt_of_lt_of_eq (Nat.lt_of_le_of_lt hr.le (Nat.lt_succ_self _)) (congrArg (· + 1) c0.symm)
      · refine ⟨c1.le.trans (Nat.zero_le _), ?_⟩; show 0 < _ + 1; omega
      · refine ⟨c2.le.trans (Nat.zero_le _), ?_⟩; show j.val < _ + 1024; have := j.isLt; omega)]
    pointwise
    refine congrArg u ?_
    funext a
    fin_cases a
    · rfl
    · refine Fin.ext ?_
      show j.val - Host.clampedStart _ _ _ _ _ = j.val
      rw [show Host.clampedStart _ _ _ _ _ = _ from c2]; rfl
  · rw [if_neg hr, dif_neg fun hin => hr ?_]
    have := hin 0
    rw [c0] at this
    have h1 : 8191 - k ≤ r.val := this.1
    have h2 : r.val < 8191 - k + 1 := this.2
    omega

theorem Trips.step (h : Trips D k V) (hk : k < 8192) : Trips D (k + 1) (STEP V) where
  g_re r j := by rw [STEP_main_v17_0]; exact h.g_re r j
  g_im r j := by rw [STEP_main_v17_1]; exact h.g_im r j
  a_re j := by rw [STEP_main_v17_2]; exact h.a_re j
  a_im j := by rw [STEP_main_v17_3]; exact h.a_im j
  ctr := by
    rw [STEP_main_v17_4]
    unfold step_main_v17_4
    rw [h.ctr]
    funext z
    show BitVec.ofNat 32 k + 1#32 = BitVec.ofNat 32 (k + 1)
    rw [BitVec.ofNat_add]
  c_re j := by
    rw [STEP_main_v17_5]
    unfold step_main_v17_5
    refine (congrArg₂ (fun a b : EReal => a + b) (congrArg₂ (fun a b : EReal => a * b) (h.a_im j) (h.v82 hk j))
      (congrArg₂ (fun a b : EReal => a * b) (h.a_re j) (h.v81 hk j))).trans ?_
    beta_reduce
    rw [add_comm, mul_comm (Re _), mul_comm (Im _), re_conj, mul_comm]
  c_im j := by
    rw [STEP_main_v17_6]
    unfold step_main_v17_6
    refine (congrArg₂ (fun a b : EReal => a + b) (congrArg₂ (fun a b : EReal => a * b) (h.a_re j) (h.v82 hk j))
      (congrArg₂ (fun a b : EReal => a * b) (h.a_im j) (congrArg (fun a : EReal => -a) (h.v81 hk j)))).trans ?_
    beta_reduce
    rw [im_conj', mul_comm]
  l_re r j hr := by
    rw [STEP_main_v17_7]
    unfold step_main_v17_7
    rw [row_at hk h.ctr]
    refine (row_write hk _ _ _ rfl _ r j).trans ?_
    split_ifs with e
    · rw [h.v81 hk j, show 8192 - r.val = k + 1 by omega]
    · exact h.l_re r j (by omega)
  l_im r j hr := by
    rw [STEP_main_v17_8]
    unfold step_main_v17_8
    rw [row_at hk h.ctr]
    refine (row_write hk _ _ _ rfl _ r j).trans ?_
    split_ifs with e
    · rw [h.v82 hk j, show 8192 - r.val = k + 1 by omega]
    · exact h.l_im r j (by omega)

theorem trips (h : Holds m c D) : ∀ k, k ≤ 8192 → Trips D k (STEP^[k] (entryContents preI m c))
  | 0, _ => start h
  | k + 1, hk => by rw [Function.iterate_succ_apply']; exact (trips h k (by omega)).step (by omega)

/-! ### After the loop -/

/-- A stack of single rows as an array. -/
abbrev flat (x : FVec Ideal S8192x1x1024 .f32) : FVec Ideal S8192x1024 .f32 :=
  Host.reduceAdd x (constant S_ .f32 0x00000000#32) reducesTo_S8192x1x1024_S8192x1024_d1 h_S_

theorem flat_at (x : FVec Ideal S8192x1x1024 .f32) (r : Fin 8192) (j : Fin 1024) : (flat x (ix2 r j) : EReal) = x (ix3 r 0 j) := by
  unfold flat
  pointwise
  exact Fin.sum_univ_one _

/-- The sum over the rows. -/
abbrev total (x : FVec Ideal S8192x1024 .f32) : FVec Ideal S1x1024 .f32 :=
  shapeCast _ (Host.reduceAdd x (constant S_ .f32 0x00000000#32) reducesTo_S8192x1024_S1024_d0 h_S_) shapeCasts_S1024_S1x1024

theorem total_at (x : FVec Ideal S8192x1024 .f32) (j : Fin 1024) (F : ℕ → EReal) (h : ∀ r : Fin 8192, x (ix2 r j) = F r.val) :
    (total x (ix2 0 j) : EReal) = ∑ r ∈ Finset.range 8192, F r := by
  refine Eq.trans ?_ (Fin.sum_univ_eq_sum_range F 8192)
  refine Eq.trans ?_ (Finset.sum_congr rfl fun r _ => h r)
  unfold total
  pointwise

/-- The rows one place later, after a row of zeros. -/
abbrev later (x : FVec Ideal S8192x1024 .f32) : FVec Ideal S8192x1024 .f32 :=
  concatenate S8192x1024 0 [⟨S1x1024, (broadcastInDim S1x1024 ![] bcast_S_S1x1024 (constant S_ .f32 0x00000000#32))⟩, ⟨S8191x1024, (extractStridedSlice S8191x1024 ![0, 0] x slices_S8192x1024_S8191x1024_0_0)⟩] concatenates_S1x1024_S8191x1024_S8192x1024_d0

theorem later_at (x : FVec Ideal S8192x1024 .f32) (r : Fin 8192) (j : Fin 1024) (P : EReal × EReal → EReal) (F : ℕ → EReal × EReal) (h0 : P 0 = 0)
    (h : ∀ r : Fin 8192, x (ix2 r j) = P (F r.val)) : (later x (ix2 r j) : EReal) = P (if r.val = 0 then 0 else F (r.val - 1)) := by
  unfold later
  pointwise
  by_cases e : r.val = 0
  · rw [dif_pos (by omega), if_pos e, h0]
  · rw [dif_neg (by omega), if_neg e]; exact h _

/-- Sums of products of parts are the parts of the sum of products with the conjugates. -/
theorem total_re (l k x y : FVec Ideal S8192x1024 .f32) (j : Fin 1024) (L : ℕ → ℂ) (X : ℕ → EReal × EReal) (hl : ∀ r : Fin 8192, l (ix2 r j) = Im (L r.val)) (hk : ∀ r : Fin 8192, k (ix2 r j) = Re (L r.val))
    (hx : ∀ r : Fin 8192, x (ix2 r j) = (X r.val).2) (hy : ∀ r : Fin 8192, y (ix2 r j) = (X r.val).1) :
    (addf (total (mulf l x)) (total (mulf k y)) (ix2 0 j) : EReal) = (∑ r ∈ Finset.range 8192, over (L r) (X r)).1 := by
  refine (congrArg₂ (fun a b : EReal => a + b)
    (total_at (mulf l x) j (fun r => Im (L r) * (X r).2) fun r => congrArg₂ (fun a b : EReal => a * b) (hl r) (hx r))
    (total_at (mulf k y) j (fun r => Re (L r) * (X r).1) fun r => congrArg₂ (fun a b : EReal => a * b) (hk r) (hy r))).trans ?_
  beta_reduce
  rw [add_comm, ← Finset.sum_add_distrib, Prod.fst_sum]
  exact Finset.sum_congr rfl fun r _ => rfl

theorem total_im (l k x y : FVec Ideal S8192x1024 .f32) (j : Fin 1024) (L : ℕ → ℂ) (X : ℕ → EReal × EReal) (hl : ∀ r : Fin 8192, l (ix2 r j) = Im (L r.val)) (hk : ∀ r : Fin 8192, k (ix2 r j) = Re (L r.val))
    (hx : ∀ r : Fin 8192, x (ix2 r j) = (X r.val).1) (hy : ∀ r : Fin 8192, y (ix2 r j) = (X r.val).2) :
    (addf (total (mulf l x)) (total (mulf (Host.negf k) y)) (ix2 0 j) : EReal) = (∑ r ∈ Finset.range 8192, over (L r) (X r)).2 := by
  refine (congrArg₂ (fun a b : EReal => a + b)
    (total_at (mulf l x) j (fun r => Im (L r) * (X r).1) fun r => congrArg₂ (fun a b : EReal => a * b) (hl r) (hx r))
    (total_at (mulf (Host.negf k) y) j (fun r => -Re (L r) * (X r).2) fun r => congrArg₂ (fun a b : EReal => -a * b) (hk r) (hy r))).trans ?_
  beta_reduce
  rw [← Finset.sum_add_distrib, Prod.snd_sum]
  refine Finset.sum_congr rfl fun r _ => ?_
  rw [neg_mul]
  exact (sub_eq_add_neg _ _).symm

/-- Four rows one under the other. -/
theorem four_rows (p q r s : FVec Ideal S1x1024 .f32) (i : Fin 4) (j : Fin 1024) :
    (concatenate S4x1024 0 [⟨S1x1024, p⟩, ⟨S1x1024, q⟩, ⟨S1x1024, r⟩, ⟨S1x1024, s⟩] concatenates_S1x1024_S1x1024_S1x1024_S1x1024_S4x1024_d0 (ix2 i j) : EReal) = ![p, q, r, s] i (ix2 0 j) := by
  fin_cases i <;> pointwise <;> rfl

/-- A row repeated over the rows. -/
theorem wide_at (x : FVec Ideal S1x1024 .f32) (r : Fin 8192) (j : Fin 1024) :
    (broadcastInDim S8192x1024 ![0, 1] bcast_S1x1024_S8192x1024_0_1 x (ix2 r j) : EReal) = x (ix2 0 j) := by
  pointwise

section After

variable (V : Valuation τ sig (Elt Ideal)) (T : Trips D 8192 V)
include T

theorem Trips.last_re (r : Fin 8192) (j : Fin 1024) : (flat (V (Proc.devRef .tc main_v17_7)) (ix2 r j) : EReal) = Re (lam D j (8192 - r.val)) :=
  (flat_at _ r j).trans (T.l_re r j (Nat.zero_le _))
theorem Trips.last_im (r : Fin 8192) (j : Fin 1024) : (flat (V (Proc.devRef .tc main_v17_8)) (ix2 r j) : EReal) = Im (lam D j (8192 - r.val)) :=
  (flat_at _ r j).trans (T.l_im r j (Nat.zero_le _))

variable (h : Holds m c D)
include h

/-- The gradient of the scan's input. -/
theorem Trips.input_re (e8 : V (Proc.devRef .tc main_arg8) = m ((c.tc : Thread nD τ).loc main_arg8)) (e9 : V (Proc.devRef .tc main_arg9) = m ((c.tc : Thread nD τ).loc main_arg9))
    (r : Fin 8192) (j : Fin 1024) : (out_main_v71 V (ix2 r j) : EReal) = (over (lam D j (8192 - r.val)) (D.f j)).1 := by
  unfold out_main_v71
  rw [e8, e9]
  refine (congrArg₂ (fun a b : EReal => a + b)
    (congrArg₂ (fun a b : EReal => a * b) ((wide_at _ r j).trans (h.f_im 0 j)) (T.last_im V r j))
    (congrArg₂ (fun a b : EReal => a * b) ((wide_at _ r j).trans (h.f_re 0 j)) (T.last_re V r j))).trans ?_
  beta_reduce
  rw [add_comm, mul_comm (D.f j).1, mul_comm (D.f j).2]
  rfl

theorem Trips.input_im (e8 : V (Proc.devRef .tc main_arg8) = m ((c.tc : Thread nD τ).loc main_arg8)) (e9 : V (Proc.devRef .tc main_arg9) = m ((c.tc : Thread nD τ).loc main_arg9))
    (r : Fin 8192) (j : Fin 1024) : (out_main_v64 V (ix2 r j) : EReal) = (over (lam D j (8192 - r.val)) (D.f j)).2 := by
  unfold out_main_v64
  rw [e8, e9]
  refine (congrArg₂ (fun a b : EReal => a + b)
    (congrArg₂ (fun a b : EReal => a * b) ((wide_at _ r j).trans (h.f_re 0 j)) (T.last_im V r j))
    (congrArg₂ (fun a b : EReal => a * b) ((wide_at _ r j).trans (h.f_im 0 j)) (congrArg (fun a : EReal => -a) (T.last_re V r j)))).trans ?_
  beta_reduce
  rw [mul_neg, mul_comm (D.f j).1, mul_comm (D.f j).2]
  exact (sub_eq_add_neg _ _).symm

theorem Trips.vectors (e2 : V (Proc.devRef .tc main_arg2) = m ((c.tc : Thread nD τ).loc main_arg2)) (e3 : V (Proc.devRef .tc main_arg3) = m ((c.tc : Thread nD τ).loc main_arg3))
    (e4 : V (Proc.devRef .tc main_arg4) = m ((c.tc : Thread nD τ).loc main_arg4)) (e5 : V (Proc.devRef .tc main_arg5) = m ((c.tc : Thread nD τ).loc main_arg5))
    (i : Fin 4) (j : Fin 1024) : (out_main_v76 V (ix2 i j) : EReal) = four D i j := by
  have xre := fun r : Fin 8192 => later_at (m ((c.tc : Thread nD τ).loc main_arg4)) r j Prod.fst (fun r => D.X r j) rfl (fun r => h.x_re r j)
  have xim := fun r : Fin 8192 => later_at (m ((c.tc : Thread nD τ).loc main_arg5)) r j Prod.snd (fun r => D.X r j) rfl (fun r => h.x_im r j)
  have lre := fun r => T.last_re V r j
  have lim := fun r => T.last_im V r j
  have r0 := total_re _ _ _ _ j (fun t => lam D j (8192 - t)) (fun t => if t = 0 then 0 else D.X (t - 1) j) lim lre xim xre
  have r1 := total_im _ _ _ _ j (fun t => lam D j (8192 - t)) (fun t => if t = 0 then 0 else D.X (t - 1) j) lim lre xre xim
  have r2 := total_re _ _ _ _ j (fun t => lam D j (8192 - t)) (fun t => D.B t j) lim lre (fun r => h.b_im r j) (fun r => h.b_re r j)
  have r3 := total_im _ _ _ _ j (fun t => lam D j (8192 - t)) (fun t => D.B t j) lim lre (fun r => h.b_re r j) (fun r => h.b_im r j)
  unfold out_main_v76
  rw [e2, e3, e4, e5]
  refine (four_rows _ _ _ _ i j).trans ?_
  fin_cases i
  · exact r0
  · exact r1
  · exact r2
  · exact r3

end After

variable (h : Holds m c D)
include h

/-- The reference's three results. -/
theorem result_re (r : Fin 8192) (j : Fin 1024) : (out_main_v71 (STEP^[8192] (entryContents preI m c)) (ix2 r j) : EReal) = (over (lam D j (8192 - r.val)) (D.f j)).1 :=
  (trips h 8192 le_rfl).input_re _ h (iter_main_arg8 m c 8192) (iter_main_arg9 m c 8192) r j
theorem result_im (r : Fin 8192) (j : Fin 1024) : (out_main_v64 (STEP^[8192] (entryContents preI m c)) (ix2 r j) : EReal) = (over (lam D j (8192 - r.val)) (D.f j)).2 :=
  (trips h 8192 le_rfl).input_im _ h (iter_main_arg8 m c 8192) (iter_main_arg9 m c 8192) r j
theorem result_four (i : Fin 4) (j : Fin 1024) : (out_main_v76 (STEP^[8192] (entryContents preI m c)) (ix2 i j) : EReal) = four D i j :=
  (trips h 8192 le_rfl).vectors _ h (iter_main_arg2 m c 8192) (iter_main_arg3 m c 8192) (iter_main_arg4 m c 8192) (iter_main_arg5 m c 8192) i j

end Cert.DscanRefIdeal.Scan

end
-- ==== Proof.ActTile.lean ====
/-
  ONE TILE of the feed-forward activation's backward kernel, over the extended reals: what each of its stored values is at one place of the tile.
  A tile holds 256 rows and 1408 columns; beside it the kernel keeps the first 8 rows of the tile that follows.
-/
module

public import proofs.«01_k».proof.Proof.Gen.KernelIdeal.Skeleton
public import Idealize.ShloMosaic.Lib.Pointwise
public import Idealize.ShloMosaic.Lib.IdealHost
public import Idealize.ShloMosaic.PureOps.Ideal.Laws

@[expose] public section

set_option maxRecDepth 16384

noncomputable section

namespace Cert.KernelIdeal.Act

open Idealize.ShloMosaic Idealize.ShloMosaic.TcCoe Idealize.SL.Sem
open Cert.KernelIdeal Cert.KernelIdeal.Gen

/-- The logistic function, as the kernel spells it. -/
def logi (a : EReal) : EReal := Ideal.div 1 (1 + Ideal.exp (0 - a))

/-- The gradient that reaches the gate's first half: the incoming gradient `d`, times the other half `b`, times the derivative of `a · logi a`. -/
def gateA (a b d : EReal) : EReal := d * b * (logi a * (1 + a * (1 - logi a)))

/-- The gradient that reaches the gate's second half: the incoming gradient times `a · logi a`. -/
def gateB (a d : EReal) : EReal := d * (a * logi a)

theorem pay6_apply (x2 x3 x6 : Vec Ideal S256x1408 .f32) (y : S256x1408.Idx) :
    k0_pay6 x2 x3 x6 y = gateA (x2 y) (x3 y) (x6 y) := by
  unfold k0_pay6 k0_pay5 gateA logi
  pointwise

theorem pay7_apply (x2 x6 : Vec Ideal S256x1408 .f32) (y : S256x1408.Idx) :
    k0_pay7 x2 x6 y = gateB (x2 y) (x6 y) := by
  unfold k0_pay7 k0_pay5 gateB logi
  pointwise

/-- The kernel's select by a signed comparison of two small row numbers. -/
theorem sel_sge (n : ℕ) (hn : n < 8) (k : BitVec 32) (k' : ℕ) (e : k.toNat = k') (hk : k' < 8) (a b : EReal) :
    Scalar.select (IntOp.cmpi .sge (BitVec.ofNat 32 n) k) a b = if k' ≤ n then a else b := by
  subst e
  have key : ∀ n' k' : Fin 8, (IntOp.cmpi .sge (BitVec.ofNat 32 n'.val) (BitVec.ofNat 32 k'.val) = 1) ↔ k'.val ≤ n'.val := by
    decide +kernel
  have := key ⟨n, hn⟩ ⟨k.toNat, hk⟩
  simp only [BitVec.ofNat_toNat, BitVec.setWidth_eq] at this
  unfold Scalar.select
  exact if_congr this rfl rfl

/-- A tile moved up by one row, its last row taken from the rows that follow: `g` names the column's values by row, 256 on being the rows that follow. -/
theorem up_one (v32 : Vec Ideal S8x1408 .f32) (v22 : Vec Ideal S256x1408 .f32) (g : ℕ → EReal) (y : S256x1408.Idx)
    (h22 : ∀ r : Fin 256, v22 (ix2 r (y 1)) = g r.val) (h32 : ∀ q : Fin 8, v32 (ix2 q (y 1)) = g (256 + q.val)) :
    k0_pay10 v32 (dynamicRotate 0 255#32 none v22 rotates_S256x1408_d0) k0_pay9 y = g ((y 0).val + 1) := by
  unfold k0_pay10 k0_pay9
  pointwise
  have hy : (y 0).val < 256 := (y 0).isLt
  split
  · rw [h22]; congr 1; dsimp only; omega
  · refine (sel_sge _ (by omega) 7#32 7 rfl (by decide) _ _).trans ?_
    split
    · rw [h32]; congr 1; dsimp only; omega
    · rw [h22]; congr 1; dsimp only; omega

theorem up_two (v32 : Vec Ideal S8x1408 .f32) (v22 : Vec Ideal S256x1408 .f32) (g : ℕ → EReal) (y : S256x1408.Idx)
    (h22 : ∀ r : Fin 256, v22 (ix2 r (y 1)) = g r.val) (h32 : ∀ q : Fin 8, v32 (ix2 q (y 1)) = g (256 + q.val)) :
    k0_pay11 v22 v32 y = g ((y 0).val + 2) := by
  unfold k0_pay11
  pointwise
  have hy : (y 0).val < 256 := (y 0).isLt
  split
  · rw [h22]; congr 1; dsimp only; omega
  · refine (sel_sge _ (by omega) 6#32 6 rfl (by decide) _ _).trans ?_
    split
    · rw [h32]; congr 1; dsimp only; omega
    · rw [h22]; congr 1; dsimp only; omega

theorem up_one' (v32 : Vec Ideal S8x1408 .f32) (v22 : Vec Ideal S256x1408 .f32) (g : ℕ → EReal) (y : S256x1408.Idx)
    (h22 : ∀ r : Fin 256, v22 (ix2 r (y 1)) = g r.val) (h32 : ∀ q : Fin 8, v32 (ix2 q (y 1)) = g (256 + q.val)) :
    k0_pay17 v22 v32 y = g ((y 0).val + 1) :=
  up_one v32 v22 g y h22 h32

theorem up_two' (v32 : Vec Ideal S8x1408 .f32) (v22 : Vec Ideal S256x1408 .f32) (g : ℕ → EReal) (y : S256x1408.Idx)
    (h22 : ∀ r : Fin 256, v22 (ix2 r (y 1)) = g r.val) (h32 : ∀ q : Fin 8, v32 (ix2 q (y 1)) = g (256 + q.val)) :
    k0_pay18 v22 v32 y = g ((y 0).val + 2) :=
  up_two v32 v22 g y h22 h32

/-- The gradient of the convolution's input at one place: three weights times three rows of the gradient. -/
theorem pay12_apply (v22 v34 : Vec Ideal S256x1408 .f32) (v32 v36) (v51 v54 v58 : Vec Ideal S1x1408 .f32) (y : S256x1408.Idx) :
    k0_pay12 v22 v32 v34 v36 v51 v54 v58 y
      = v51 (ix2 0 (y 1)) * v22 y + v54 (ix2 0 (y 1)) * k0_pay10 v32 v34 v36 y + v58 (ix2 0 (y 1)) * k0_pay11 v22 v32 y := by
  unfold k0_pay12
  pointwise

theorem pay20_apply (v31 v99 v108 : Vec Ideal S256x1408 .f32) (v109 v112 v116 : Vec Ideal S1x1408 .f32) (y : S256x1408.Idx) :
    k0_pay20 v31 v99 v108 (k0_pay19 v109) v112 v116 y
      = v109 (ix2 0 (y 1)) * v31 y + v112 (ix2 0 (y 1)) * v99 y + v116 (ix2 0 (y 1)) * v108 y := by
  unfold k0_pay20 k0_pay19
  pointwise

/-- The first 8 rows of a tile, kept for the tile before it. -/
theorem pay13_apply (v : Vec Ideal S256x1408 .f32) (y : S8x1408.Idx) :
    k0_pay13 (F := Ideal) v y = v (ix2 ⟨(y 0).val, by have : (y 0).val < 8 := (y 0).isLt; omega⟩ (y 1)) := by
  unfold k0_pay13
  pointwise

theorem pay21_apply (v : Vec Ideal S256x1408 .f32) (y : S8x1408.Idx) :
    k0_pay21 (F := Ideal) v y = v (ix2 ⟨(y 0).val, by have : (y 0).val < 8 := (y 0).isLt; omega⟩ (y 1)) := by
  unfold k0_pay21
  pointwise

/-- A tile's share of a weight's gradient: over the 32 rows of a tile that are `q` modulo 8, gradient times input, added to what was there. -/
def fold (u v : Vec Ideal S256x1408 .f32) (y : S8x1408.Idx) : EReal :=
  ∑ x : Fin 32, u (ix2 ⟨x.val * 8 + (y 0).val, by have : (y 0).val < 8 := (y 0).isLt; omega⟩ (y 1))
    * v (ix2 ⟨x.val * 8 + (y 0).val, by have : (y 0).val < 8 := (y 0).isLt; omega⟩ (y 1))

theorem pay14_apply (u v : Vec Ideal S256x1408 .f32) (p : Vec Ideal S8x1408 .f32) (y : S8x1408.Idx) :
    k0_pay14 u v p y = p y + fold u v y := by
  unfold k0_pay14 fold; pointwise
theorem pay15_apply (u v : Vec Ideal S256x1408 .f32) (p : Vec Ideal S8x1408 .f32) (y : S8x1408.Idx) :
    k0_pay15 u v p y = p y + fold u v y := by
  unfold k0_pay15 fold; pointwise
theorem pay16_apply (u v : Vec Ideal S256x1408 .f32) (p : Vec Ideal S8x1408 .f32) (y : S8x1408.Idx) :
    k0_pay16 u v p y = p y + fold u v y := by
  unfold k0_pay16 fold; pointwise
theorem pay22_apply (u v : Vec Ideal S256x1408 .f32) (p : Vec Ideal S8x1408 .f32) (y : S8x1408.Idx) :
    k0_pay22 u v p y = p y + fold u v y := by
  unfold k0_pay22 fold; pointwise
theorem pay23_apply (u v : Vec Ideal S256x1408 .f32) (p : Vec Ideal S8x1408 .f32) (y : S8x1408.Idx) :
    k0_pay23 u v p y = p y + fold u v y := by
  unfold k0_pay23 fold; pointwise
theorem pay1_apply (u v : Vec Ideal S256x1408 .f32) (p : Vec Ideal S8x1408 .f32) (y : S8x1408.Idx) :
    k0_pay1 (k0_pay24 p) (k0_pay25 u v) y = p y + fold u v y := by
  unfold k0_pay1 k0_pay24 k0_pay25 fold; pointwise

theorem pay2_apply (y : S48x1408.Idx) : k0_pay2 (F := Ideal) y = 0 := by unfold k0_pay2; pointwise
theorem pay3_apply (y : S8x1408.Idx) : k0_pay3 (F := Ideal) y = 0 := by unfold k0_pay3; pointwise
theorem pay4_apply (y : S8x1408.Idx) : k0_pay4 (F := Ideal) y = 0 := by unfold k0_pay4; pointwise

end Cert.KernelIdeal.Act

end
-- ==== Proof.ActPoints.lean ====
/-
  ONE GRID POINT of the feed-forward activation's backward kernel. Point `t` works on the columns from `1408 · (t / 32)` on and on the rows from
  `256 · (31 - t mod 32)` on: the tiles of a column are walked from the last rows to the first.
-/
module

public import proofs.«01_k».proof.Proof.Gen.KernelIdeal.Frame
public import proofs.«01_k».proof.Proof.ActTile
public import Idealize.ShloMosaic.Lib.Pipeline.ValueKit
public import Idealize.ShloMosaic.Lib.Pipeline.ReadBack

@[expose] public section

set_option maxRecDepth 16384

noncomputable section

namespace Cert.KernelIdeal.Act

open Idealize.ShloMosaic Idealize.ShloMosaic.TcCoe Idealize.SL.Sem
open Cert.KernelIdeal Cert.KernelIdeal.Gen
open Idealize.ShloMosaic.Pipeline (Dat)

/-- An array of 8192 rows and 2816 columns, zero outside of them. -/
def ext (X : S8192x2816.Idx → EReal) (r f : ℕ) : EReal :=
  if h : r < 8192 ∧ f < 2816 then X (ix2 ⟨r, h.1⟩ ⟨f, h.2⟩) else 0

/-- The three rows of weights, zero outside. -/
def extW (X : S3x5632.Idx → EReal) (k f : ℕ) : EReal :=
  if h : k < 3 ∧ f < 5632 then X (ix2 ⟨k, h.1⟩ ⟨f, h.2⟩) else 0

theorem ext_row (X : S8192x2816.Idx → EReal) (r f : ℕ) (h : 8192 ≤ r) : ext X r f = 0 := by
  unfold ext; rw [dif_neg (by omega)]

/-- The gradient of the convolution's output in the first half of its columns, from the convolved halves `A`, `B` and the incoming gradient `D`. -/
def dyA (A B D : S8192x2816.Idx → EReal) (r f : ℕ) : EReal := gateA (ext A r f) (ext B r f) (ext D r f)
/-- The same in the second half. -/
def dyB (A D : S8192x2816.Idx → EReal) (r f : ℕ) : EReal := gateB (ext A r f) (ext D r f)

theorem dyA_row (A B D : S8192x2816.Idx → EReal) (r f : ℕ) (h : 8192 ≤ r) : dyA A B D r f = 0 := by
  unfold dyA gateA; rw [ext_row D r f h, zero_mul, zero_mul]
theorem dyB_row (A D : S8192x2816.Idx → EReal) (r f : ℕ) (h : 8192 ≤ r) : dyB A D r f = 0 := by
  unfold dyB gateB; rw [ext_row D r f h, zero_mul]

/-- Three rows of a gradient from row `r` on, weighted: the gradient of a three-tap causal convolution's input. -/
def taps (w g : ℕ → EReal) (r : ℕ) : EReal := w 2 * g r + w 1 * g (r + 1) + w 0 * g (r + 2)

/-- One tile's share of a weight's gradient, at row `s` of the 48 that are kept (8 for each of three weights and two halves). -/
def share (gA gB uA uB : ℕ → EReal) (R s : ℕ) : EReal :=
  ∑ x : Fin 32, (if s < 24 then gA else gB) (R + (x.val * 8 + s % 8) + (2 - s % 24 / 8)) * (if s < 24 then uA else uB) (R + (x.val * 8 + s % 8))

variable (m : (ℓ : Loc nD τ sig) → Buf (Elt Ideal) ℓ)

theorem main_index (t : Fin cfg0.N) :
    win0_0.index t = ![31 - t.val % 32, t.val / 32] ∧ win0_1.index t = ![31 - t.val % 32, t.val / 32] ∧
    win0_2.index t = ![31 - t.val % 32, t.val / 32] ∧ win0_3.index t = ![31 - t.val % 32, t.val / 32] ∧
    win0_6.index t = ![31 - t.val % 32, t.val / 32] ∧ win0_4.index t = ![0, t.val / 32] ∧ win0_5.index t = ![0, t.val / 32 + 2] := by
  revert t; decide +kernel

theorem blk0 (c : Dev nD) (t : Fin cfg0.N) (y : S256x1408.Idx) :
    (iblk m c 0 t y : EReal) = ext (V m c main_arg0) (256 * (31 - t.val % 32) + (y 0).val) (1408 * (t.val / 32) + (y 1).val) := by
  have h0 : (y 0).val < 256 := (y 0).isLt
  have h1 : (y 1).val < 1408 := (y 1).isLt
  have ht : t.val < 64 := t.isLt
  unfold ext; rw [dif_pos (by omega)]
  blk_ext [iblk, main_index t]

theorem blk1 (c : Dev nD) (t : Fin cfg0.N) (y : S256x1408.Idx) :
    (iblk m c 1 t y : EReal) = ext (V m c main_arg1) (256 * (31 - t.val % 32) + (y 0).val) (1408 * (t.val / 32) + (y 1).val) := by
  have h0 : (y 0).val < 256 := (y 0).isLt
  have h1 : (y 1).val < 1408 := (y 1).isLt
  have ht : t.val < 64 := t.isLt
  unfold ext; rw [dif_pos (by omega)]
  blk_ext [iblk, main_index t]

theorem blk2 (c : Dev nD) (t : Fin cfg0.N) (y : S256x1408.Idx) :
    (iblk m c 2 t y : EReal) = ext (V m c main_v16) (256 * (31 - t.val % 32) + (y 0).val) (1408 * (t.val / 32) + (y 1).val) := by
  have h0 : (y 0).val < 256 := (y 0).isLt
  have h1 : (y 1).val < 1408 := (y 1).isLt
  have ht : t.val < 64 := t.isLt
  unfold ext; rw [dif_pos (by omega)]
  blk_ext [iblk, main_index t]

theorem blk3 (c : Dev nD) (t : Fin cfg0.N) (y : S256x1408.Idx) :
    (iblk m c 3 t y : EReal) = ext (V m c main_v33) (256 * (31 - t.val % 32) + (y 0).val) (1408 * (t.val / 32) + (y 1).val) := by
  have h0 : (y 0).val < 256 := (y 0).isLt
  have h1 : (y 1).val < 1408 := (y 1).isLt
  have ht : t.val < 64 := t.isLt
  unfold ext; rw [dif_pos (by omega)]
  blk_ext [iblk, main_index t]

theorem blk6 (c : Dev nD) (t : Fin cfg0.N) (y : S256x1408.Idx) :
    (iblk m c 6 t y : EReal) = ext (V m c main_arg3) (256 * (31 - t.val % 32) + (y 0).val) (1408 * (t.val / 32) + (y 1).val) := by
  have h0 : (y 0).val < 256 := (y 0).isLt
  have h1 : (y 1).val < 1408 := (y 1).isLt
  have ht : t.val < 64 := t.isLt
  unfold ext; rw [dif_pos (by omega)]
  blk_ext [iblk, main_index t]

theorem blk4 (c : Dev nD) (t : Fin cfg0.N) (k : Fin 3) (q : Fin 1408) :
    (iblk m c 4 t (ix2 k q) : EReal) = extW (V m c main_arg2) k.val (1408 * (t.val / 32) + q.val) := by
  have ht : t.val < 64 := t.isLt
  unfold extW; rw [dif_pos (by omega)]
  blk_ext [iblk, main_index t]

theorem blk5 (c : Dev nD) (t : Fin cfg0.N) (k : Fin 3) (q : Fin 1408) :
    (iblk m c 5 t (ix2 k q) : EReal) = extW (V m c main_arg2) k.val (2816 + (1408 * (t.val / 32) + q.val)) := by
  have ht : t.val < 64 := t.isLt
  unfold extW; rw [dif_pos (by omega)]
  blk_ext [iblk, main_index t]

/-- The two gradients and the weights of device `c`, by row and column. -/
def gA (c : Dev nD) (f r : ℕ) : EReal := dyA (V m c main_v16) (V m c main_v33) (V m c main_arg3) r f
def gB (c : Dev nD) (f r : ℕ) : EReal := dyB (V m c main_v16) (V m c main_arg3) r f
def wt (c : Dev nD) (f k : ℕ) : EReal := extW (V m c main_arg2) k f
def uA (c : Dev nD) (f r : ℕ) : EReal := ext (V m c main_arg0) r f
def uB (c : Dev nD) (f r : ℕ) : EReal := ext (V m c main_arg1) r f

/-- Point `t`'s first row and first column. -/
abbrev row0 (t : ℕ) : ℕ := 256 * (31 - t % 32)
abbrev col0 (t : ℕ) : ℕ := 1408 * (t / 32)

theorem tileA (c : Dev nD) (t : Fin cfg0.N) (y : S256x1408.Idx) :
    k0_pay6 (iblk m c 2 t) (iblk m c 3 t) (iblk m c 6 t) y = gA m c (col0 t.val + (y 1).val) (row0 t.val + (y 0).val) := by
  rw [pay6_apply, blk2, blk3, blk6]; rfl

theorem tileB (c : Dev nD) (t : Fin cfg0.N) (y : S256x1408.Idx) :
    k0_pay7 (iblk m c 2 t) (iblk m c 6 t) y = gB m c (col0 t.val + (y 1).val) (row0 t.val + (y 0).val) := by
  rw [pay7_apply, blk2, blk6]; rfl

/-- What a point leaves for the tile before it: the first 8 rows of its own gradients. -/
theorem carryA (c : Dev nD) (t : Fin cfg0.N) (y : S8x1408.Idx) :
    (outsAt0 m c t.val t.isLt).2.2.2.1 y = gA m c (col0 t.val + (y 1).val) (row0 t.val + (y 0).val) := by
  by_cases h0 : t.val % 32 = 0
  · rw [outsAt0_A m c t h0]; frame_out
    rw [pay13_apply, tileA]; rfl
  · rw [outsAt0_B m c t h0]; frame_out
    rw [pay13_apply, tileA]; rfl

theorem carryB (c : Dev nD) (t : Fin cfg0.N) (y : S8x1408.Idx) :
    (outsAt0 m c t.val t.isLt).2.2.2.2 y = gB m c (col0 t.val + (y 1).val) (row0 t.val + (y 0).val) := by
  by_cases h0 : t.val % 32 = 0
  · rw [outsAt0_A m c t h0]; frame_out
    rw [pay21_apply, tileB]; rfl
  · rw [outsAt0_B m c t h0]; frame_out
    rw [pay21_apply, tileB]; rfl

/-- The rows a point finds kept, given as `ca` and `cb`: those that follow its own tile. -/
def Follows (c : Dev nD) (t : Fin cfg0.N) (ca cb : Vec Ideal S8x1408 .f32) : Prop :=
  (∀ y, ca y = gA m c (col0 t.val + (y 1).val) (row0 t.val + (256 + (y 0).val))) ∧
  (∀ y, cb y = gB m c (col0 t.val + (y 1).val) (row0 t.val + (256 + (y 0).val)))

theorem follows_A (c : Dev nD) (t : Fin cfg0.N) (h0 : t.val % 32 = 0) : Follows m c t (k0_pay3 (F := Ideal)) (k0_pay4 (F := Ideal)) := by
  constructor <;> intro y
  · rw [pay3_apply]; unfold gA; rw [dyA_row]; show 8192 ≤ 256 * (31 - t.val % 32) + (256 + (y 0).val); omega
  · rw [pay4_apply]; unfold gB; rw [dyB_row]; show 8192 ≤ 256 * (31 - t.val % 32) + (256 + (y 0).val); omega

theorem follows_B (c : Dev nD) (t : Fin cfg0.N) (h0 : ¬ t.val % 32 = 0) (h : t.val - 1 < cfg0.N) :
    Follows m c t (outsAt0 m c (t.val - 1) h).2.2.2.1 (outsAt0 m c (t.val - 1) h).2.2.2.2 := by
  have e1 : col0 (t.val - 1) = col0 t.val := by show 1408 * _ = 1408 * _; congr 1; omega
  have e2 : ∀ k, row0 (t.val - 1) + k = row0 t.val + (256 + k) := fun k => by show 256 * _ + k = 256 * _ + (256 + k); omega
  constructor <;> intro y
  · rw [carryA m c ⟨t.val - 1, h⟩ y, e1, e2]
  · rw [carryB m c ⟨t.val - 1, h⟩ y, e1, e2]

/-- A row of weights, loaded from a window of three. -/
theorem ldW (X : Vec Ideal S3x1408 .f32) (q : Fin 1408) :
    View.ld X (Rect.unit ![2, 0] ![1, 1408] inb_S3x1408_S1x1408_2_0) (ix2 0 q) = X (ix2 2 q) ∧
    View.ld X (Rect.unit ![1, 0] ![1, 1408] inb_S3x1408_S1x1408_1_0) (ix2 0 q) = X (ix2 1 q) ∧
    View.ld X (Rect.unit ![0, 0] ![1, 1408] inb_S3x1408_S1x1408_0_0) (ix2 0 q) = X (ix2 0 q) := by
  refine ⟨?_, ?_, ?_⟩ <;> refine View.ld_unit_apply_of X _ _ _ _ _ fun a => ?_ <;> fin_cases a <;> simp [ix2]

section Tile

variable (c : Dev nD) (t : Fin cfg0.N) (ca cb : Vec Ideal S8x1408 .f32) (hc : Follows m c t ca cb)
include hc

theorem upA1 (y : S256x1408.Idx) :
    k0_pay10 ca (k0_pay8 (iblk m c 2 t) (iblk m c 3 t) (iblk m c 6 t)) k0_pay9 y
      = gA m c (col0 t.val + (y 1).val) (row0 t.val + ((y 0).val + 1)) :=
  up_one ca _ (fun r => gA m c (col0 t.val + (y 1).val) (row0 t.val + r)) y (fun r => tileA m c t _) (fun q => hc.1 _)

theorem upA2 (y : S256x1408.Idx) :
    k0_pay11 (k0_pay6 (iblk m c 2 t) (iblk m c 3 t) (iblk m c 6 t)) ca y
      = gA m c (col0 t.val + (y 1).val) (row0 t.val + ((y 0).val + 2)) :=
  up_two ca _ (fun r => gA m c (col0 t.val + (y 1).val) (row0 t.val + r)) y (fun r => tileA m c t _) (fun q => hc.1 _)

theorem upB1 (y : S256x1408.Idx) :
    k0_pay17 (k0_pay7 (iblk m c 2 t) (iblk m c 6 t)) cb y
      = gB m c (col0 t.val + (y 1).val) (row0 t.val + ((y 0).val + 1)) :=
  up_one' cb _ (fun r => gB m c (col0 t.val + (y 1).val) (row0 t.val + r)) y (fun r => tileB m c t _) (fun q => hc.2 _)

theorem upB2 (y : S256x1408.Idx) :
    k0_pay18 (k0_pay7 (iblk m c 2 t) (iblk m c 6 t)) cb y
      = gB m c (col0 t.val + (y 1).val) (row0 t.val + ((y 0).val + 2)) :=
  up_two' cb _ (fun r => gB m c (col0 t.val + (y 1).val) (row0 t.val + r)) y (fun r => tileB m c t _) (fun q => hc.2 _)

/-- What the point stores into the first result. -/
theorem duaAt (y : S256x1408.Idx) :
    k0_pay12 (k0_pay6 (iblk m c 2 t) (iblk m c 3 t) (iblk m c 6 t)) ca (k0_pay8 (iblk m c 2 t) (iblk m c 3 t) (iblk m c 6 t)) k0_pay9
      (View.ld (iblk m c 4 t) (Rect.unit ![2, 0] ![1, 1408] inb_S3x1408_S1x1408_2_0))
      (View.ld (iblk m c 4 t) (Rect.unit ![1, 0] ![1, 1408] inb_S3x1408_S1x1408_1_0))
      (View.ld (iblk m c 4 t) (Rect.unit ![0, 0] ![1, 1408] inb_S3x1408_S1x1408_0_0)) y
      = taps (wt m c (col0 t.val + (y 1).val)) (gA m c (col0 t.val + (y 1).val)) (row0 t.val + (y 0).val) := by
  rw [pay12_apply, upA1 m c t ca cb hc, upA2 m c t ca cb hc, tileA]
  obtain ⟨e2, e1, e0⟩ := ldW (iblk m c 4 t) (y 1)
  exact congrArg₂ (· + ·) (congrArg₂ (· + ·) (congrArg (· * _) (e2.trans (blk4 m c t 2 (y 1)))) (congrArg (· * _) (e1.trans (blk4 m c t 1 (y 1)))))
    (congrArg (· * _) (e0.trans (blk4 m c t 0 (y 1))))

/-- What the point stores into the second result. -/
theorem dubAt (y : S256x1408.Idx) :
    k0_pay20 (k0_pay7 (iblk m c 2 t) (iblk m c 6 t)) (k0_pay17 (k0_pay7 (iblk m c 2 t) (iblk m c 6 t)) cb) (k0_pay18 (k0_pay7 (iblk m c 2 t) (iblk m c 6 t)) cb)
      (k0_pay19 (View.ld (iblk m c 5 t) (Rect.unit ![2, 0] ![1, 1408] inb_S3x1408_S1x1408_2_0)))
      (View.ld (iblk m c 5 t) (Rect.unit ![1, 0] ![1, 1408] inb_S3x1408_S1x1408_1_0))
      (View.ld (iblk m c 5 t) (Rect.unit ![0, 0] ![1, 1408] inb_S3x1408_S1x1408_0_0)) y
      = taps (wt m c (2816 + (col0 t.val + (y 1).val))) (gB m c (col0 t.val + (y 1).val)) (row0 t.val + (y 0).val) := by
  rw [pay20_apply, upB1 m c t ca cb hc, upB2 m c t ca cb hc, tileB]
  obtain ⟨e2, e1, e0⟩ := ldW (iblk m c 5 t) (y 1)
  exact congrArg₂ (· + ·) (congrArg₂ (· + ·) (congrArg (· * _) (e2.trans (blk5 m c t 2 (y 1)))) (congrArg (· * _) (e1.trans (blk5 m c t 1 (y 1)))))
    (congrArg (· * _) (e0.trans (blk5 m c t 0 (y 1))))

/-- What the point adds, at row `s` of the 48 kept and column `q` of its tile. -/
def shareAt (s q : ℕ) : EReal :=
  share (gA m c (col0 t.val + q)) (gB m c (col0 t.val + q)) (uA m c (col0 t.val + q)) (uB m c (col0 t.val + q)) (row0 t.val) s

omit hc in
theorem foldA (k : ℕ) (hk : k < 3) (u : Vec Ideal S256x1408 .f32)
    (hu : ∀ y, u y = gA m c (col0 t.val + (y 1).val) (row0 t.val + ((y 0).val + k))) (y : S8x1408.Idx) :
    fold u (iblk m c 0 t) y = shareAt m c t (8 * (2 - k) + (y 0).val) (y 1).val := by
  have h0 : (y 0).val < 8 := (y 0).isLt
  unfold fold shareAt share
  refine Finset.sum_congr rfl fun x _ => ?_
  rw [hu, blk0, if_pos (by omega), if_pos (by omega)]
  have e1 : (8 * (2 - k) + (y 0).val) % 8 = (y 0).val := by omega
  have e2 : 2 - (8 * (2 - k) + (y 0).val) % 24 / 8 = k := by omega
  rw [e1, e2, Nat.add_assoc]; rfl

omit hc in
theorem foldB (k : ℕ) (hk : k < 3) (u : Vec Ideal S256x1408 .f32)
    (hu : ∀ y, u y = gB m c (col0 t.val + (y 1).val) (row0 t.val + ((y 0).val + k))) (y : S8x1408.Idx) :
    fold u (iblk m c 1 t) y = shareAt m c t (24 + 8 * (2 - k) + (y 0).val) (y 1).val := by
  have h0 : (y 0).val < 8 := (y 0).isLt
  unfold fold shareAt share
  refine Finset.sum_congr rfl fun x _ => ?_
  rw [hu, blk1, if_neg (by omega), if_neg (by omega)]
  have e1 : (24 + 8 * (2 - k) + (y 0).val) % 8 = (y 0).val := by omega
  have e2 : 2 - (24 + 8 * (2 - k) + (y 0).val) % 24 / 8 = k := by omega
  rw [e1, e2, Nat.add_assoc]; rfl

/-- The 48 kept rows after the point, from those before it: the six stores of the point, each 8 rows of the same sum. -/
theorem sumsAt (p : Vec Ideal S48x1408 .f32) (rest : List (View.Piece (Elt Ideal) S48x1408 .f32)) (y : S48x1408.Idx) :
    View.canon ([⟨Rect.unit ![24, 0] ![8, 1408] inb_S48x1408_S8x1408_24_0,
          k0_pay1 (k0_pay24 (View.ld p (Rect.unit ![24, 0] ![8, 1408] inb_S48x1408_S8x1408_24_0)))
            (k0_pay25 (k0_pay18 (k0_pay7 (iblk m c 2 t) (iblk m c 6 t)) cb) (iblk m c 1 t))⟩,
        ⟨Rect.unit ![32, 0] ![8, 1408] inb_S48x1408_S8x1408_32_0,
          k0_pay23 (k0_pay17 (k0_pay7 (iblk m c 2 t) (iblk m c 6 t)) cb) (iblk m c 1 t)
            (View.ld p (Rect.unit ![32, 0] ![8, 1408] inb_S48x1408_S8x1408_32_0))⟩,
        ⟨Rect.unit ![40, 0] ![8, 1408] inb_S48x1408_S8x1408_40_0,
          k0_pay22 (k0_pay7 (iblk m c 2 t) (iblk m c 6 t)) (iblk m c 1 t)
            (View.ld p (Rect.unit ![40, 0] ![8, 1408] inb_S48x1408_S8x1408_40_0))⟩,
        ⟨Rect.unit ![0, 0] ![8, 1408] inb_S48x1408_S8x1408_0_0,
          k0_pay16 (k0_pay11 (k0_pay6 (iblk m c 2 t) (iblk m c 3 t) (iblk m c 6 t)) ca) (iblk m c 0 t)
            (View.ld p (Rect.unit ![0, 0] ![8, 1408] inb_S48x1408_S8x1408_0_0))⟩,
        ⟨Rect.unit ![8, 0] ![8, 1408] inb_S48x1408_S8x1408_8_0,
          k0_pay15 (k0_pay10 ca (k0_pay8 (iblk m c 2 t) (iblk m c 3 t) (iblk m c 6 t)) k0_pay9) (iblk m c 0 t)
            (View.ld p (Rect.unit ![8, 0] ![8, 1408] inb_S48x1408_S8x1408_8_0))⟩,
        ⟨Rect.unit ![16, 0] ![8, 1408] inb_S48x1408_S8x1408_16_0,
          k0_pay14 (k0_pay6 (iblk m c 2 t) (iblk m c 3 t) (iblk m c 6 t)) (iblk m c 0 t)
            (View.ld p (Rect.unit ![16, 0] ![8, 1408] inb_S48x1408_S8x1408_16_0))⟩] ++ rest) y
      = p y + shareAt m c t (y 0).val (y 1).val := by
  have at8 : ∀ (o : ℕ) (inb : ∀ a, ![o, 0] a + ![8, 1408] a ≤ S48x1408.size a) (x : S8x1408.Idx),
      (View.ld p (Rect.unit ![o, 0] ![8, 1408] inb) x : EReal) + shareAt m c t (o + (x 0).val) (x 1).val
        = (fun y : S48x1408.Idx => (p y : EReal) + shareAt m c t (y 0).val (y 1).val) ((Rect.unit (s := S48x1408) ![o, 0] ![8, 1408] inb).emb x) := by
    intro o inb x
    refine congrArg (View.ld p (Rect.unit ![o, 0] ![8, 1408] inb) x + ·) (congrArg₂ (shareAt m c t) ?_ ?_)
    · exact (Rect.idx_unit_val (s := S48x1408) ![o, 0] ![8, 1408] inb x 0).symm
    · exact ((Rect.idx_unit_val (s := S48x1408) ![o, 0] ![8, 1408] inb x 1).trans (Nat.zero_add _)).symm
  refine View.canon_append_of_piecesOf (fun y : S48x1408.Idx => (p y : EReal) + shareAt m c t (y 0).val (y 1).val) rest _
    ?_ y (View.cover_of_tiled _ ![8, 1408] rfl y)
  refine ⟨fun x => ?_, fun x => ?_, fun x => ?_, fun x => ?_, fun x => ?_, fun x => ?_, trivial⟩
  · exact (pay1_apply _ _ _ x).trans ((congrArg _ (foldB m c t 2 (by omega) _ (upB2 m c t ca cb hc) x)).trans (at8 24 _ x))
  · exact (pay23_apply _ _ _ x).trans ((congrArg _ (foldB m c t 1 (by omega) _ (upB1 m c t ca cb hc) x)).trans (at8 32 _ x))
  · exact (pay22_apply _ _ _ x).trans ((congrArg _ (foldB m c t 0 (by omega) _ (tileB m c t) x)).trans (at8 40 _ x))
  · exact (pay16_apply _ _ _ x).trans ((congrArg _ (foldA m c t 2 (by omega) _ (upA2 m c t ca cb hc) x)).trans (at8 0 _ x))
  · exact (pay15_apply _ _ _ x).trans ((congrArg _ (foldA m c t 1 (by omega) _ (upA1 m c t ca cb hc) x)).trans (at8 8 _ x))
  · exact (pay14_apply _ _ _ x).trans ((congrArg _ (foldA m c t 0 (by omega) _ (tileA m c t) x)).trans (at8 16 _ x))

end Tile

/-- The first result's tile after point `t`. -/
theorem outA (c : Dev nD) (t : Fin cfg0.N) (y : S256x1408.Idx) :
    (outsAt0 m c t.val t.isLt).1 y
      = taps (wt m c (col0 t.val + (y 1).val)) (gA m c (col0 t.val + (y 1).val)) (row0 t.val + (y 0).val) := by
  by_cases h0 : t.val % 32 = 0
  · rw [outsAt0_A m c t h0]; frame_open
    simp (disch := decide) only [↓ View.readCov_skip, ↓ View.readCov_cons_toLoadRect, ↓ View.readCov_fill]
    frame_out
    exact duaAt m c t _ _ (follows_A m c t h0) y
  · rw [outsAt0_B m c t h0]; frame_open
    simp (disch := decide) only [↓ View.readCov_skip, ↓ View.readCov_cons_toLoadRect, ↓ View.readCov_fill]
    frame_out
    simp only [read_unread_whole]
    exact duaAt m c t _ _ (follows_B m c t h0 _) y

/-- The second result's tile after point `t`. -/
theorem outB (c : Dev nD) (t : Fin cfg0.N) (y : S256x1408.Idx) :
    (outsAt0 m c t.val t.isLt).2.1 y
      = taps (wt m c (2816 + (col0 t.val + (y 1).val))) (gB m c (col0 t.val + (y 1).val)) (row0 t.val + (y 0).val) := by
  by_cases h0 : t.val % 32 = 0
  · rw [outsAt0_A m c t h0]; frame_open
    simp (disch := decide) only [↓ View.readCov_skip, ↓ View.readCov_cons_toLoadRect, ↓ View.readCov_fill]
    frame_out
    exact dubAt m c t _ _ (follows_A m c t h0) y
  · rw [outsAt0_B m c t h0]; frame_open
    simp (disch := decide) only [↓ View.readCov_skip, ↓ View.readCov_cons_toLoadRect, ↓ View.readCov_fill]
    frame_out
    simp only [read_unread_whole]
    exact dubAt m c t _ _ (follows_B m c t h0 _) y

/-- The kept sums after the first point of a column, and after a later one. -/
theorem sums_A (c : Dev nD) (t : Fin cfg0.N) (h0 : t.val % 32 = 0) (y : S48x1408.Idx) :
    (outsAt0 m c t.val t.isLt).2.2.1 y = 0 + shareAt m c t (y 0).val (y 1).val := by
  rw [outsAt0_A m c t h0]; frame_open
  simp (disch := decide) only [↓ View.readCov_skip, ↓ View.readCov_cons_toLoadRect, ↓ View.readCov_fill]
  frame_out
  have e := sumsAt m c t _ _ (follows_A m c t h0) (k0_pay2 (F := Ideal))
    [(⟨Rect.unit ![0, 0] ![48, 1408] inb_S48x1408_S48x1408_0_0, k0_pay2 (F := Ideal)⟩ : View.Piece (Elt Ideal) S48x1408 .f32)] y
  simp only [List.cons_append, List.nil_append] at e
  exact e.trans (congrArg (· + _) (pay2_apply y))

theorem sums_B (c : Dev nD) (t : Fin cfg0.N) (h0 : ¬ t.val % 32 = 0) (h : t.val - 1 < cfg0.N) (y : S48x1408.Idx) :
    (outsAt0 m c t.val t.isLt).2.2.1 y = (outsAt0 m c (t.val - 1) h).2.2.1 y + shareAt m c t (y 0).val (y 1).val := by
  rw [outsAt0_B m c t h0]; frame_open
  simp (disch := decide) only [↓ View.readCov_skip, ↓ View.readCov_cons_toLoadRect, ↓ View.readCov_fill]
  frame_out
  simp only [read_unread_whole]
  have e := sumsAt m c t _ _ (follows_B m c t h0 h) (outsAt0 m c (t.val - 1) h).2.2.1 [] y
  rw [List.append_nil] at e
  exact e

end Cert.KernelIdeal.Act

end
-- ==== Proof.ActArray.lean ====
/-
  THE THREE RESULTS of the feed-forward activation's backward program, from its four arguments. The convolved halves that the kernel reads
  are computed beforehand, and the kept sums are added up by eights afterwards.
-/
module

public import proofs.«01_k».proof.Proof.ActPoints
public import Idealize.ShloMosaic.Lib.Claim
public import Idealize.ShloMosaic.Lib.StableHlo.ReadAt

@[expose] public section

set_option maxRecDepth 16384

noncomputable section

namespace Cert.KernelIdeal.Act

open Idealize.ShloMosaic Idealize.ShloMosaic.TcCoe Idealize.SL.Sem
open Cert.KernelIdeal Cert.KernelIdeal.Gen
open Idealize.ShloMosaic.Pipeline (Dat)

/-- A three-tap causal convolution at row `r`: rows before the first count as zero. -/
def conv (w u : ℕ → EReal) (r : ℕ) : EReal :=
  w 0 * (if r < 2 then 0 else u (r - 2)) + w 1 * (if r + 1 < 2 then 0 else u (r + 1 - 2)) + w 2 * (if r + 2 < 2 then 0 else u (r + 2 - 2))

/-- The two convolved halves at a row and a column of the half. -/
def convA (X : S8192x2816.Idx → EReal) (W : S3x5632.Idx → EReal) (f r : ℕ) : EReal := conv (fun k => extW W k f) (fun r => ext X r f) r
def convB (X : S8192x2816.Idx → EReal) (W : S3x5632.Idx → EReal) (f r : ℕ) : EReal := conv (fun k => extW W k (2816 + f)) (fun r => ext X r f) r

/-- The gradients of the convolved halves, from the arguments. -/
def GA (X0 X1 : S8192x2816.Idx → EReal) (W : S3x5632.Idx → EReal) (D : S8192x2816.Idx → EReal) (f r : ℕ) : EReal :=
  gateA (convA X0 W f r) (convB X1 W f r) (ext D r f)
def GB (X0 : S8192x2816.Idx → EReal) (W : S3x5632.Idx → EReal) (D : S8192x2816.Idx → EReal) (f r : ℕ) : EReal :=
  gateB (convA X0 W f r) (ext D r f)

variable (m : (ℓ : Loc nD τ sig) → Buf (Elt Ideal) ℓ)

theorem ext_at (X : S8192x2816.Idx → EReal) (r f : ℕ) (hr : r < 8192) (hf : f < 2816) : ext X r f = X (ix2 ⟨r, hr⟩ ⟨f, hf⟩) := by
  unfold ext; rw [dif_pos ⟨hr, hf⟩]
theorem extW_at (X : S3x5632.Idx → EReal) (k f : ℕ) (hk : k < 3) (hf : f < 5632) : extW X k f = X (ix2 ⟨k, hk⟩ ⟨f, hf⟩) := by
  unfold extW; rw [dif_pos ⟨hk, hf⟩]

/-- The convolved halves that the kernel reads. -/
theorem V_convA (c : Dev nD) (z : S8192x2816.Idx) :
    (V m c main_v16 z : EReal) = convA (m ((c : Thread nD τ).loc main_arg0)) (m ((c : Thread nD τ).loc main_arg2)) (z 1).val (z 0).val := by
  have h0 : (z 0).val < 8192 := (z 0).isLt
  have h1 : (z 1).val < 2816 := (z 1).isLt
  after_reads_at
  after_reads_at
  unfold convA conv
  beta_reduce
  rw [extW_at _ 0 ((z 1).val) (by omega) (by omega), extW_at _ 1 ((z 1).val) (by omega) (by omega), extW_at _ 2 ((z 1).val) (by omega) (by omega)]
  refine congrArg₂ (· + ·) (congrArg₂ (· + ·) (congrArg₂ (· * ·) ?_ ?_) (congrArg₂ (· * ·) ?_ ?_)) (congrArg₂ (· * ·) ?_ ?_)
  · exact congrArg _ (by blk_ext)
  · by_cases h : (z 0).val < 2
    · exact (dif_pos h).trans (if_pos h).symm
    · refine (dif_neg h).trans (Eq.trans ?_ (if_neg h).symm); refine Eq.trans ?_ (ext_at _ _ _ (by omega) (by omega)).symm; exact congrArg _ (by blk_ext)
  · exact congrArg _ (by blk_ext)
  · by_cases h : 1 + (z 0).val < 2
    · exact (dif_pos h).trans (if_pos (by omega)).symm
    · refine (dif_neg h).trans (Eq.trans ?_ (if_neg (by omega)).symm); refine Eq.trans ?_ (ext_at _ _ _ (by omega) (by omega)).symm; exact congrArg _ (by blk_ext)
  · exact congrArg _ (by blk_ext)
  · refine Eq.trans ?_ (if_neg (by omega)).symm; refine Eq.trans ?_ (ext_at _ _ _ (by omega) (by omega)).symm; exact congrArg _ (by blk_ext)

theorem V_convB (c : Dev nD) (z : S8192x2816.Idx) :
    (V m c main_v33 z : EReal) = convB (m ((c : Thread nD τ).loc main_arg1)) (m ((c : Thread nD τ).loc main_arg2)) (z 1).val (z 0).val := by
  have h0 : (z 0).val < 8192 := (z 0).isLt
  have h1 : (z 1).val < 2816 := (z 1).isLt
  after_reads_at
  after_reads_at
  unfold convB conv
  beta_reduce
  rw [extW_at _ 0 (2816 + (z 1).val) (by omega) (by omega), extW_at _ 1 (2816 + (z 1).val) (by omega) (by omega), extW_at _ 2 (2816 + (z 1).val) (by omega) (by omega)]
  refine congrArg₂ (· + ·) (congrArg₂ (· + ·) (congrArg₂ (· * ·) ?_ ?_) (congrArg₂ (· * ·) ?_ ?_)) (congrArg₂ (· * ·) ?_ ?_)
  · exact congrArg _ (by blk_ext)
  · by_cases h : (z 0).val < 2
    · exact (dif_pos h).trans (if_pos h).symm
    · refine (dif_neg h).trans (Eq.trans ?_ (if_neg h).symm); refine Eq.trans ?_ (ext_at _ _ _ (by omega) (by omega)).symm; exact congrArg _ (by blk_ext)
  · exact congrArg _ (by blk_ext)
  · by_cases h : 1 + (z 0).val < 2
    · exact (dif_pos h).trans (if_pos (by omega)).symm
    · refine (dif_neg h).trans (Eq.trans ?_ (if_neg (by omega)).symm); refine Eq.trans ?_ (ext_at _ _ _ (by omega) (by omega)).symm; exact congrArg _ (by blk_ext)
  · exact congrArg _ (by blk_ext)
  · refine Eq.trans ?_ (if_neg (by omega)).symm; refine Eq.trans ?_ (ext_at _ _ _ (by omega) (by omega)).symm; exact congrArg _ (by blk_ext)

theorem out_index (t : Fin cfg0.N) :
    win0_7.index t = ![31 - t.val % 32, t.val / 32] ∧ win0_8.index t = ![31 - t.val % 32, t.val / 32] ∧ win0_9.index t = ![0, t.val / 32] := by
  revert t; decide +kernel

theorem arr7 (c : Dev nD) :
    (dats m 0 c).arrAt 7 (cfgs 0).N = fun z : S8192x2816.Idx => taps (wt m c (z 1).val) (gA m c (z 1).val) (z 0).val := by
  refine (dats m 0 c).arrAt_eq_of_covers 7 _ (by decide +kernel) fun t hf y => ?_
  rw [after0_7, outA]
  blk_simp [out_index t]
  have e1 : col0 t.val + (y 1).val = t.val / 32 * 1408 + (y 1).val := by show 1408 * _ + _ = _; omega
  have e0 : row0 t.val + (y 0).val = (31 - t.val % 32) * 256 + (y 0).val := by show 256 * _ + _ = _; omega
  exact congr (congrArg₂ taps (congrArg (wt m c) e1) (congrArg (gA m c) e1)) e0

theorem arr8 (c : Dev nD) :
    (dats m 0 c).arrAt 8 (cfgs 0).N = fun z : S8192x2816.Idx => taps (wt m c (2816 + (z 1).val)) (gB m c (z 1).val) (z 0).val := by
  refine (dats m 0 c).arrAt_eq_of_covers 8 _ (by decide +kernel) fun t hf y => ?_
  rw [after0_8, outB]
  blk_simp [out_index t]
  have e1 : col0 t.val + (y 1).val = t.val / 32 * 1408 + (y 1).val := by show 1408 * _ + _ = _; omega
  have e0 : row0 t.val + (y 0).val = (31 - t.val % 32) * 256 + (y 0).val := by show 256 * _ + _ = _; omega
  exact congr (congrArg₂ taps (congrArg (fun k => wt m c (2816 + k)) e1) (congrArg (gB m c) e1)) e0

/-- What the kept sums hold, at row `s` and column `f`, after all tiles of the column. -/
def kept (c : Dev nD) (s f : ℕ) : EReal :=
  ∑ k ∈ Finset.range 32, share (gA m c f) (gB m c f) (uA m c f) (uB m c f) (256 * (31 - k)) s

theorem arr9 (c : Dev nD) :
    (dats m 0 c).arrAt 9 (cfgs 0).N = fun z : S48x2816.Idx => kept m c (z 0).val (z 1).val := by
  refine (dats m 0 c).arrAt_eq_of_covers 9 _ (by decide +kernel) fun t hf y => ?_
  rw [after0_9]
  have ht := (flush0_9 t).mp hf
  refine (Pipeline.eq_sum_of_reset_step_apply_of_mod (fun n h => (outsAt0 m c n h).2.2.1) 32 (fun _ : S48x1408.Idx => (0 : EReal))
    (fun n y => share (gA m c (col0 n + (y 1).val)) (gB m c (col0 n + (y 1).val)) (uA m c (col0 n + (y 1).val)) (uB m c (col0 n + (y 1).val)) (row0 n) (y 0).val)
    (fun t h i => sums_A m c t h i) (fun t h i => sums_B m c t h _ i) t ht y).trans ?_
  rw [zero_add]
  refine Finset.sum_congr rfl fun k hk => ?_
  have hk : k < 32 := Finset.mem_range.mp hk
  blk_simp [out_index t]
  have e1 : col0 (32 * (t.val / 32) + k) + (y 1).val = t.val / 32 * 1408 + (y 1).val := by show 1408 * ((32 * (t.val / 32) + k) / 32) + _ = _; omega
  have e0 : row0 (32 * (t.val / 32) + k) = 256 * (31 - k) := by show 256 * (31 - (32 * (t.val / 32) + k) % 32) = _; omega
  rw [e1, e0]

/-- The kernel's gradients, weights and inputs are those of the arguments. -/
theorem gA_eq (c : Dev nD) (f : ℕ) (hf : f < 2816) : gA m c f = GA (m ((c : Thread nD τ).loc main_arg0)) (m ((c : Thread nD τ).loc main_arg1))
    (m ((c : Thread nD τ).loc main_arg2)) (m ((c : Thread nD τ).loc main_arg3)) f := by
  funext r
  unfold gA dyA GA
  rw [V_main_arg3]
  by_cases hr : r < 8192
  · rw [ext_at _ _ _ hr hf, ext_at _ _ _ hr hf, V_convA, V_convB]; rfl
  · unfold gateA; rw [ext_row _ r f (by omega), zero_mul, zero_mul, zero_mul, zero_mul]

theorem gB_eq (c : Dev nD) (f : ℕ) (hf : f < 2816) : gB m c f = GB (m ((c : Thread nD τ).loc main_arg0))
    (m ((c : Thread nD τ).loc main_arg2)) (m ((c : Thread nD τ).loc main_arg3)) f := by
  funext r
  unfold gB dyB GB
  rw [V_main_arg3]
  by_cases hr : r < 8192
  · rw [ext_at _ _ _ hr hf, V_convA]; rfl
  · unfold gateB; rw [ext_row _ r f (by omega), zero_mul, zero_mul]

theorem GA_row (X0 X1 W D) (f r : ℕ) (h : 8192 ≤ r) : GA X0 X1 W D f r = 0 := by
  unfold GA gateA; rw [ext_row D r f h, zero_mul, zero_mul]
theorem GB_row (X0 W D) (f r : ℕ) (h : 8192 ≤ r) : GB X0 W D f r = 0 := by
  unfold GB gateB; rw [ext_row D r f h, zero_mul]

/-- The rows of a column, counted by residue modulo 8, by tile from the last on, and within the tile. -/
theorem sum_rows (F : ℕ → EReal) :
    ∑ q : Fin 8, ∑ k ∈ Finset.range 32, ∑ x : Fin 32, F (256 * (31 - k) + (x.val * 8 + q.val)) = ∑ r ∈ Finset.range 8192, F r := by
  simp only [← Finset.sum_product']
  refine Finset.sum_nbij' (fun p => 256 * (31 - p.2.1) + (p.2.2.val * 8 + p.1.val))
    (fun r => ((⟨r % 8, by omega⟩ : Fin 8), 31 - r / 256, (⟨r % 256 / 8, by omega⟩ : Fin 32))) ?_ ?_ ?_ ?_ ?_
  · rintro ⟨q, k, x⟩ h
    simp only [Finset.mem_product, Finset.mem_range, Finset.mem_univ, true_and, and_true] at h ⊢
    omega
  · intro r h
    simp only [Finset.mem_product, Finset.mem_range, Finset.mem_univ, true_and, and_true] at h ⊢
    omega
  · rintro ⟨q, k, x⟩ h
    simp only [Finset.mem_product, Finset.mem_range, Finset.mem_univ, true_and, and_true] at h
    refine Prod.ext (Fin.ext ?_) (Prod.ext ?_ (Fin.ext ?_)) <;> dsimp only <;> omega
  · intro r h
    simp only [Finset.mem_range] at h
    dsimp only
    omega
  · intro p _; rfl

/-- A weight's gradient: the kept sums of one weight and one half, added up over their 8 rows, are the sum over all rows of gradient times input. -/
theorem kept_A (c : Dev nD) (k f : ℕ) (hk : k < 3) :
    ∑ q : Fin 8, kept m c (8 * k + q.val) f = ∑ r ∈ Finset.range 8192, gA m c f (r + (2 - k)) * uA m c f r := by
  rw [← sum_rows]
  unfold kept share
  refine Finset.sum_congr rfl fun q _ => Finset.sum_congr rfl fun i _ => Finset.sum_congr rfl fun x _ => ?_
  rw [if_pos (by omega), if_pos (by omega), show (8 * k + q.val) % 8 = q.val by omega, show (8 * k + q.val) % 24 / 8 = k by omega]

theorem kept_B (c : Dev nD) (k f : ℕ) (hk : k < 3) :
    ∑ q : Fin 8, kept m c (24 + 8 * k + q.val) f = ∑ r ∈ Finset.range 8192, gB m c f (r + (2 - k)) * uB m c f r := by
  rw [← sum_rows]
  unfold kept share
  refine Finset.sum_congr rfl fun q _ => Finset.sum_congr rfl fun i _ => Finset.sum_congr rfl fun x _ => ?_
  rw [if_neg (by omega), if_neg (by omega), show (24 + 8 * k + q.val) % 8 = q.val by omega, show (24 + 8 * k + q.val) % 24 / 8 = k by omega]

/-- After the kernel, the array of the kept sums holds what the last tiles left. -/
theorem tail9 (c : Dev nD) :
    Pipeline.withArrays (cfgs 0).spec c (V0 m c) (fun w => (dats m 0 c).arrAt w (cfgs 0).N) (Proc.tc.devRef main_v34_2)
      = (dats m 0 c).arrAt 9 (cfgs 0).N := by
  have e : ∀ w, (dats m 0 c).A w = V0 m c (Proc.devRef .tc (Pipeline.arrRef (cfgs 0).spec w)) := fun w => A_eq m c w
  exact (dats m 0 c).withArrays_arrAt sharedIn0 (V0 m c) e 9

set_option maxHeartbeats 1600000 in
/-- The weights' gradient, as the program leaves it: the kept sums added up by eights, the halves side by side. -/
theorem dcw_at (c : Dev nD) (z : S3x5632.Idx) :
    (Pipeline.afterTail₀ cfgs (dats m) 0 (V0 m) [hostOps1] c main_v41 z : EReal) =
      if (z 1).val < 2816 then ∑ q : Fin 8, kept m c (8 * (z 0).val + q.val) (z 1).val
      else ∑ q : Fin 8, kept m c (24 + 8 * (z 0).val + q.val) ((z 1).val - 2816) := by
  have h0 : (z 0).val < 3 := (z 0).isLt
  have h1 : (z 1).val < 5632 := (z 1).isLt
  unfold Pipeline.afterTail₀
  simp only [List.flatten_cons, List.flatten_nil, List.append_nil]
  unfold hostOps1
  after_reads_at
  have e : ∀ (r f : ℕ) (hr : r < 48) (hf : f < 2816), (Pipeline.withArrays (cfgs 0).spec c (V0 m c) (fun w => (dats m 0 c).arrAt w (cfgs 0).N)
      (Proc.tc.devRef main_v34_2) (ix2 ⟨r, hr⟩ ⟨f, hf⟩) : EReal) = kept m c r f := fun r f hr hf => congrFun ((tail9 m c).trans (arr9 m c)) _
  by_cases h : (z 1).val < 2816
  · refine (dif_pos h).trans (Eq.trans ?_ (if_pos h).symm)
    refine Finset.sum_congr rfl fun q _ => (e _ _ _ _).trans ?_
    rw [Nat.mul_comm 8]
  · refine (dif_neg h).trans (Eq.trans ?_ (if_neg h).symm)
    refine Finset.sum_congr rfl fun q _ => (e _ _ _ _).trans ?_
    rw [Nat.mul_comm 8]

end Cert.KernelIdeal.Act

end
-- ==== Proof.ActReference.lean ====
/-
  THE REFERENCE, index by index: the gradients of the activation's two inputs and of the convolution's weights, as the differentiated
  convolution and gate give them.
-/
module

public import proofs.«01_k».proof.Proof.ActArray
public import proofs.«01_k».proof.Proof.Gen.ReferenceIdeal.Run

@[expose] public section

set_option maxRecDepth 16384

noncomputable section

namespace Cert.ReferenceIdeal.Act

open Cert.ReferenceIdeal Cert.ReferenceIdeal.Gen Idealize.ShloMosaic Idealize.ShloMosaic.TcCoe Idealize.SL.Sem Idealize.ShloMosaic.StableHlo
open Cert.KernelIdeal.Act (conv convA convB ext ext_at extW extW_at logi taps)

variable (m : (ℓ : Loc nD τ sig) → Buf (Elt Ideal) ℓ) (c : Dev nD)

/-- The two inputs side by side. -/
def xx : FVec Ideal S8192x5632 .f32 :=
  concatenate S8192x5632 1 [⟨S8192x2816, (m ((c.tc : Thread nD τ).loc main_arg0))⟩, ⟨S8192x2816, (m ((c.tc : Thread nD τ).loc main_arg1))⟩] concatenates_S8192x2816_S8192x2816_S8192x5632_d1

/-- Two rows of zeros above the inputs. -/
def pd : FVec Ideal S8194x5632 .f32 :=
  concatenate S8194x5632 0 [⟨S2x5632, (broadcastInDim S2x5632 ![] bcast_S_S2x5632 (constant S_ .f32 0x00000000#32))⟩, ⟨S8192x5632, (xx m c)⟩] concatenates_S2x5632_S8192x5632_S8194x5632_d0

/-- The convolution. -/
def up : FVec Ideal S8192x5632 .f32 :=
  addf (addf (mulf (broadcastInDim S8192x5632 ![0, 1] bcast_S1x5632_S8192x5632_0_1 (extractStridedSlice S1x5632 ![0, 0] (m ((c.tc : Thread nD τ).loc main_arg2)) slices_S3x5632_S1x5632_0_0)) (extractStridedSlice S8192x5632 ![0, 0] (pd m c) slices_S8194x5632_S8192x5632_0_0)) (mulf (broadcastInDim S8192x5632 ![0, 1] bcast_S1x5632_S8192x5632_0_1 (extractStridedSlice S1x5632 ![1, 0] (m ((c.tc : Thread nD τ).loc main_arg2)) slices_S3x5632_S1x5632_1_0)) (extractStridedSlice S8192x5632 ![1, 0] (pd m c) slices_S8194x5632_S8192x5632_1_0))) (mulf (broadcastInDim S8192x5632 ![0, 1] bcast_S1x5632_S8192x5632_0_1 (extractStridedSlice S1x5632 ![2, 0] (m ((c.tc : Thread nD τ).loc main_arg2)) slices_S3x5632_S1x5632_2_0)) (extractStridedSlice S8192x5632 ![2, 0] (pd m c) slices_S8194x5632_S8192x5632_2_0))

/-- Its first half. -/
def aa : FVec Ideal S8192x2816 .f32 :=
  extractStridedSlice S8192x2816 ![0, 0] (up m c) slices_S8192x5632_S8192x2816_0_0

/-- Its second half. -/
def bb : FVec Ideal S8192x2816 .f32 :=
  extractStridedSlice S8192x2816 ![0, 2816] (up m c) slices_S8192x5632_S8192x2816_0_2816

/-- The sigmoid of the first half. -/
def sg : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf (aa m c))))

/-- The gradients of the convolution's two halves side by side. -/
def dy : FVec Ideal S8192x5632 .f32 :=
  concatenate S8192x5632 1 [⟨S8192x2816, (addf (mulf (mulf (m ((c.tc : Thread nD τ).loc main_arg3)) (bb m c)) (sg m c)) (mulf (mulf (aa m c) (mulf (m ((c.tc : Thread nD τ).loc main_arg3)) (bb m c))) (mulf (sg m c) (subf (broadcastInDim S8192x2816 ![] bcast_S_S8192x2816 (constant S_ .f32 0x3F800000#32)) (sg m c)))))⟩, ⟨S8192x2816, (mulf (mulf (aa m c) (sg m c)) (m ((c.tc : Thread nD τ).loc main_arg3)))⟩] concatenates_S8192x2816_S8192x2816_S8192x5632_d1

/-- The arguments: the two inputs, the weights, and the gradient of the activation. -/
abbrev X0 : S8192x2816.Idx → EReal := m ((c.tc : Thread nD τ).loc main_arg0)
abbrev X1 : S8192x2816.Idx → EReal := m ((c.tc : Thread nD τ).loc main_arg1)
abbrev W : S3x5632.Idx → EReal := m ((c.tc : Thread nD τ).loc main_arg2)
abbrev D : S8192x2816.Idx → EReal := m ((c.tc : Thread nD τ).loc main_arg3)

/-- The gate's gradients as the differentiated gate forms them. -/
def refA (a b d : EReal) : EReal := d * b * logi a + a * (d * b) * (logi a * (1 - logi a))
def refB (a d : EReal) : EReal := a * logi a * d

/-- A column of the inputs side by side. -/
def xcol (f r : ℕ) : EReal := if f < 2816 then ext (X0 m c) r f else ext (X1 m c) r (f - 2816)

theorem pd_at (z : S8194x5632.Idx) : (pd m c z : EReal) = if (z 0).val < 2 then 0 else xcol m c (z 1).val ((z 0).val - 2) := by
  have h0 : (z 0).val < 8194 := (z 0).isLt
  have h1 : (z 1).val < 5632 := (z 1).isLt
  unfold pd xx xcol
  pointwise
  by_cases h : (z 0).val < 2
  · rw [dif_pos h, if_pos h]
  rw [dif_neg h, if_neg h]
  by_cases h' : (z 1).val < 2816
  · rw [dif_pos h', if_pos h']; exact (ext_at _ _ _ (by omega) (by omega)).symm
  · rw [dif_neg h', if_neg h']; exact (ext_at _ _ _ (by omega) (by omega)).symm

theorem pd_ix (r : Fin 8194) (f : Fin 5632) : (pd m c (ix2 r f) : EReal) = if r.val < 2 then 0 else xcol m c f.val (r.val - 2) := pd_at m c _

theorem W_ix (k : Fin 3) (f : Fin 5632) : (m ((c.tc : Thread nD τ).loc main_arg2) (ix2 k f) : EReal) = extW (W m c) k.val f.val :=
  (extW_at _ _ _ k.isLt f.isLt).symm
theorem D_ix (r : Fin 8192) (f : Fin 2816) : (m ((c.tc : Thread nD τ).loc main_arg3) (ix2 r f) : EReal) = ext (D m c) r.val f.val :=
  (ext_at _ _ _ r.isLt f.isLt).symm

theorem up_ix (r : Fin 8192) (f : Fin 5632) : (up m c (ix2 r f) : EReal) = conv (fun k => extW (W m c) k f.val) (xcol m c f.val) r.val := by
  unfold up conv
  beta_reduce
  pointwise
  simp only [pd_ix]
  refine congrArg₂ (· + ·) (congrArg₂ (· + ·) (congrArg₂ (· * ·) (W_ix m c 0 f) rfl) (congrArg₂ (· * ·) (W_ix m c 1 f) ?_)) (congrArg₂ (· * ·) (W_ix m c 2 f) ?_)
  · rw [Nat.add_comm 1 r.val]
  · rw [Nat.add_comm 2 r.val]

/-- A column of the gradients of the convolution's two halves; no rows beyond the last. -/
def dycol (f r : ℕ) : EReal :=
  if r < 8192 then
    if f < 2816 then refA (convA (X0 m c) (W m c) f r) (convB (X1 m c) (W m c) f r) (ext (D m c) r f)
    else refB (convA (X0 m c) (W m c) (f - 2816) r) (ext (D m c) r (f - 2816))
  else 0

theorem xcol_A (f : ℕ) (h : f < 2816) : xcol m c f = fun r => ext (X0 m c) r f := by funext r; exact if_pos h
theorem xcol_B (f : ℕ) : xcol m c (2816 + f) = fun r => ext (X1 m c) r f := by
  funext r; refine (if_neg (by omega)).trans ?_; rw [Nat.add_sub_cancel_left]

theorem aa_ix (r : Fin 8192) (f : Fin 2816) : (aa m c (ix2 r f) : EReal) = convA (X0 m c) (W m c) f.val r.val := by
  unfold aa convA
  pointwise
  rw [up_ix, xcol_A m c _ f.isLt]

theorem bb_ix (r : Fin 8192) (f : Fin 2816) : (bb m c (ix2 r f) : EReal) = convB (X1 m c) (W m c) f.val r.val := by
  unfold bb convB
  pointwise
  rw [up_ix, xcol_B]

theorem sg_ix (r : Fin 8192) (f : Fin 2816) : (sg m c (ix2 r f) : EReal) = logi (convA (X0 m c) (W m c) f.val r.val) := by
  unfold sg logi
  pointwise
  rw [aa_ix, zero_sub]

theorem dy_ix (r : Fin 8192) (f : Fin 5632) : (dy m c (ix2 r f) : EReal) = dycol m c f.val r.val := by
  unfold dy dycol refA refB
  rw [if_pos r.isLt]
  pointwise
  simp only [aa_ix, bb_ix, sg_ix, D_ix]
  by_cases h : f.val < 2816
  · exact (dif_pos h).trans (if_pos h).symm
  · exact (dif_neg h).trans (if_neg h).symm

/-- The gradients of the two inputs. -/
theorem v55_at (z : S8192x2816.Idx) : (Value.res_main_v55 m c z : EReal) =
    taps (fun k => extW (W m c) k (z 1).val) (dycol m c (z 1).val) (z 0).val := by
  have h0 : (z 0).val < 8192 := (z 0).isLt
  have h1 : (z 1).val < 2816 := (z 1).isLt
  refine (congrFun (show Value.res_main_v55 m c = truncf .bf16 (extractStridedSlice S8192x2816 ![0, 0] (extractStridedSlice S8192x5632 ![2, 0] (addf (addf (pad S8194x5632 ![2, 0] ![0, 0] ![0, 0] (mulf (broadcastInDim S8192x5632 ![0, 1] bcast_S1x5632_S8192x5632_0_1 (extractStridedSlice S1x5632 ![2, 0] (m ((c.tc : Thread nD τ).loc main_arg2)) slices_S3x5632_S1x5632_2_0)) (dy m c)) (constant S_ .f32 0x00000000#32) pads_S8192x5632_S8194x5632_200_000 h_S_) (pad S8194x5632 ![1, 0] ![1, 0] ![0, 0] (mulf (broadcastInDim S8192x5632 ![0, 1] bcast_S1x5632_S8192x5632_0_1 (extractStridedSlice S1x5632 ![1, 0] (m ((c.tc : Thread nD τ).loc main_arg2)) slices_S3x5632_S1x5632_1_0)) (dy m c)) (constant S_ .f32 0x00000000#32) pads_S8192x5632_S8194x5632_110_000 h_S_)) (pad S8194x5632 ![0, 0] ![2, 0] ![0, 0] (mulf (broadcastInDim S8192x5632 ![0, 1] bcast_S1x5632_S8192x5632_0_1 (extractStridedSlice S1x5632 ![0, 0] (m ((c.tc : Thread nD τ).loc main_arg2)) slices_S3x5632_S1x5632_0_0)) (dy m c)) (constant S_ .f32 0x00000000#32) pads_S8192x5632_S8194x5632_020_000 h_S_)) slices_S8194x5632_S8192x5632_2_0) slices_S8192x5632_S8192x2816_0_0) bitsLt_bf16_f32 from rfl) z).trans ?_
  unfold taps
  pointwise
  simp only [dy_ix, W_ix]
  refine congrArg₂ (· + ·) (congrArg₂ (· + ·) ?_ ?_) ?_
  · exact (dif_pos (show (z 1).val < 5632 by omega)).trans (congrArg _ (dy_ix m c (z 0) ⟨(z 1).val, by omega⟩))
  · by_cases h : (z 0).val + 1 < 8192
    · refine (dif_pos (by omega)).trans ?_
      rw [show 2 + (z 0).val - 1 = (z 0).val + 1 by omega]; rfl
    · refine (dif_neg (by omega)).trans ?_
      rw [dycol, if_neg h, mul_zero]
  · by_cases h : (z 0).val + 2 < 8192
    · refine (dif_pos (by omega)).trans ?_
      rw [show 2 + (z 0).val = (z 0).val + 2 by omega]; rfl
    · refine (dif_neg (by omega)).trans ?_
      rw [dycol, if_neg h, mul_zero]

theorem v56_at (z : S8192x2816.Idx) : (Value.res_main_v56 m c z : EReal) =
    taps (fun k => extW (W m c) k (2816 + (z 1).val)) (dycol m c (2816 + (z 1).val)) (z 0).val := by
  have h0 : (z 0).val < 8192 := (z 0).isLt
  have h1 : (z 1).val < 2816 := (z 1).isLt
  refine (congrFun (show Value.res_main_v56 m c = truncf .bf16 (extractStridedSlice S8192x2816 ![0, 2816] (extractStridedSlice S8192x5632 ![2, 0] (addf (addf (pad S8194x5632 ![2, 0] ![0, 0] ![0, 0] (mulf (broadcastInDim S8192x5632 ![0, 1] bcast_S1x5632_S8192x5632_0_1 (extractStridedSlice S1x5632 ![2, 0] (m ((c.tc : Thread nD τ).loc main_arg2)) slices_S3x5632_S1x5632_2_0)) (dy m c)) (constant S_ .f32 0x00000000#32) pads_S8192x5632_S8194x5632_200_000 h_S_) (pad S8194x5632 ![1, 0] ![1, 0] ![0, 0] (mulf (broadcastInDim S8192x5632 ![0, 1] bcast_S1x5632_S8192x5632_0_1 (extractStridedSlice S1x5632 ![1, 0] (m ((c.tc : Thread nD τ).loc main_arg2)) slices_S3x5632_S1x5632_1_0)) (dy m c)) (constant S_ .f32 0x00000000#32) pads_S8192x5632_S8194x5632_110_000 h_S_)) (pad S8194x5632 ![0, 0] ![2, 0] ![0, 0] (mulf (broadcastInDim S8192x5632 ![0, 1] bcast_S1x5632_S8192x5632_0_1 (extractStridedSlice S1x5632 ![0, 0] (m ((c.tc : Thread nD τ).loc main_arg2)) slices_S3x5632_S1x5632_0_0)) (dy m c)) (constant S_ .f32 0x00000000#32) pads_S8192x5632_S8194x5632_020_000 h_S_)) slices_S8194x5632_S8192x5632_2_0) slices_S8192x5632_S8192x2816_0_2816) bitsLt_bf16_f32 from rfl) z).trans ?_
  unfold taps
  pointwise
  simp only [dy_ix, W_ix]
  refine congrArg₂ (· + ·) (congrArg₂ (· + ·) ?_ ?_) ?_
  · exact (dif_pos (show 2816 + (z 1).val < 5632 by omega)).trans (congrArg _ (dy_ix m c (z 0) ⟨2816 + (z 1).val, by omega⟩))
  · by_cases h : (z 0).val + 1 < 8192
    · refine (dif_pos (by omega)).trans ?_
      rw [show 2 + (z 0).val - 1 = (z 0).val + 1 by omega]; rfl
    · refine (dif_neg (by omega)).trans ?_
      rw [dycol, if_neg h, mul_zero]
  · by_cases h : (z 0).val + 2 < 8192
    · refine (dif_pos (by omega)).trans ?_
      rw [show 2 + (z 0).val = (z 0).val + 2 by omega]; rfl
    · refine (dif_neg (by omega)).trans ?_
      rw [dycol, if_neg h, mul_zero]

/-- A sum of gradient times delayed input, as gradient ahead of input: nothing comes before the first row or after the last. -/
theorem sum_ahead (g x : ℕ → EReal) (n d : ℕ) (hg : ∀ r, n ≤ r → g r = 0) :
    ∑ r ∈ Finset.range n, g r * (if r < d then 0 else x (r - d)) = ∑ r ∈ Finset.range n, g (r + d) * x r := by
  have e : ∀ k, ∑ r ∈ Finset.range (d + k), g r * (if r < d then 0 else x (r - d)) = ∑ r ∈ Finset.range k, g (r + d) * x r := by
    intro k
    rw [Finset.sum_range_add, Finset.sum_eq_zero fun r hr => by rw [if_pos (Finset.mem_range.mp hr), mul_zero], zero_add]
    refine Finset.sum_congr rfl fun r _ => ?_
    rw [if_neg (by omega), Nat.add_sub_cancel_left, Nat.add_comm]
  rw [← e n, Nat.add_comm, Finset.sum_range_add, Finset.sum_eq_zero (s := Finset.range d) fun r _ => by rw [hg (n + r) (by omega), zero_mul], add_zero]

theorem row_sum (k : ℕ) (hk : k < 3) (f : Fin 5632) (F : Fin 8192 → EReal)
    (hF : ∀ r, F r = dycol m c f.val r.val * (if r.val + k < 2 then 0 else xcol m c f.val (r.val + k - 2))) :
    ∑ r, F r = ∑ r ∈ Finset.range 8192, dycol m c f.val (r + (2 - k)) * xcol m c f.val r := by
  rw [Fintype.sum_congr _ _ hF, Fin.sum_univ_eq_sum_range (fun r => dycol m c f.val r * (if r + k < 2 then 0 else xcol m c f.val (r + k - 2))) 8192,
    ← sum_ahead _ _ _ _ (fun r hr => by rw [dycol, if_neg (by omega)])]
  refine Finset.sum_congr rfl fun r _ => congrArg _ ?_
  by_cases h : r + k < 2
  · rw [if_pos h, if_pos (by omega)]
  · rw [if_neg h, if_neg (by omega), show r + k - 2 = r - (2 - k) by omega]

/-- The gradient of the convolution's weights. -/
theorem v50_at (z : S3x5632.Idx) : (Value.res_main_v50 m c z : EReal) =
    ∑ r ∈ Finset.range 8192, dycol m c (z 1).val (r + (2 - (z 0).val)) * xcol m c (z 1).val r := by
  have h0 : (z 0).val < 3 := (z 0).isLt
  have h1 : (z 1).val < 5632 := (z 1).isLt
  refine (congrFun (show Value.res_main_v50 m c = addf (addf (pad S3x5632 ![2, 0] ![0, 0] ![0, 0] (shapeCast _ (Host.reduceAdd (mulf (dy m c) (extractStridedSlice S8192x5632 ![2, 0] (pd m c) slices_S8194x5632_S8192x5632_2_0)) (constant S_ .f32 0x00000000#32) reducesTo_S8192x5632_S5632_d0 h_S_) shapeCasts_S5632_S1x5632) (constant S_ .f32 0x00000000#32) pads_S1x5632_S3x5632_200_000 h_S_) (pad S3x5632 ![1, 0] ![1, 0] ![0, 0] (shapeCast _ (Host.reduceAdd (mulf (dy m c) (extractStridedSlice S8192x5632 ![1, 0] (pd m c) slices_S8194x5632_S8192x5632_1_0)) (constant S_ .f32 0x00000000#32) reducesTo_S8192x5632_S5632_d0 h_S_) shapeCasts_S5632_S1x5632) (constant S_ .f32 0x00000000#32) pads_S1x5632_S3x5632_110_000 h_S_)) (pad S3x5632 ![0, 0] ![2, 0] ![0, 0] (shapeCast _ (Host.reduceAdd (mulf (dy m c) (extractStridedSlice S8192x5632 ![0, 0] (pd m c) slices_S8194x5632_S8192x5632_0_0)) (constant S_ .f32 0x00000000#32) reducesTo_S8192x5632_S5632_d0 h_S_) shapeCasts_S5632_S1x5632) (constant S_ .f32 0x00000000#32) pads_S1x5632_S3x5632_020_000 h_S_) from rfl) z).trans ?_
  pointwise
  obtain h | h | h : (z 0).val = 0 ∨ (z 0).val = 1 ∨ (z 0).val = 2 := by omega
  · rw [dif_neg (by omega), dif_neg (by omega), dif_pos (by omega), zero_add, zero_add, h]
    exact row_sum m c 0 (by omega) (z 1) _ fun r => congrArg₂ (· * ·) (dy_ix m c r (z 1)) (pd_ix m c _ (z 1))
  · rw [dif_neg (by omega), dif_pos (by omega), dif_neg (by omega), zero_add, add_zero, h]
    exact row_sum m c 1 (by omega) (z 1) _ fun r => by
      rw [Nat.add_comm r.val 1]; exact congrArg₂ (· * ·) (dy_ix m c r (z 1)) (pd_ix m c _ (z 1))
  · rw [dif_pos (by omega), dif_neg (by omega), dif_neg (by omega), add_zero, add_zero, h]
    exact row_sum m c 2 (by omega) (z 1) _ fun r => by
      rw [Nat.add_comm r.val 2]; exact congrArg₂ (· * ·) (dy_ix m c r (z 1)) (pd_ix m c _ (z 1))

end Cert.ReferenceIdeal.Act

end
-- ==== Proof.ActEquation.lean ====
/-
  THE EQUATION of the feed-forward activation's backward program: where the second input, the weights and the incoming gradient are finite,
  the kernel's gate and the differentiated gate are one function, and with it the three results.
-/
module

public import proofs.«01_k».proof.Proof.ActReference
public import proofs.«01_k».proof.Proof.Gen.Pre_finite
public import Idealize.ShloMosaic.Lib.ReduceAll
public import Idealize.ShloMosaic.Lib.WordArith

@[expose] public section

set_option maxRecDepth 16384

noncomputable section

namespace Cert.Act

open Idealize.ShloMosaic Idealize.ShloMosaic.TcCoe Idealize.SL.Sem
open Cert.KernelIdeal.Act Cert.ReferenceIdeal.Act

/-- A real number among the extended ones. -/
def IsReal (x : EReal) : Prop := ∃ r : ℝ, x = r

theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.ite {x y : EReal} (p : Prop) [Decidable p] (hx : IsReal x) (hy : IsReal y) : IsReal (if p then x else y) := by
  split_ifs <;> assumption

/-- A number whose absolute value is at most the largest float is real. -/
theorem isReal_of_abs (x : Ideal .f32) (h : FloatOps.absf x ≤ Ideal.ofBits FTy.f32 2139095039#32) : IsReal x := by
  have e : FloatOps.absf x = max (x : EReal) (-x : EReal) := rfl
  have t : Ideal.ofBits FTy.f32 2139095039#32 ≠ ⊤ := by
    change Ideal.ieee 8 23 (2139095039#32) ≠ ⊤
    unfold Ideal.ieee
    dsimp only
    rw [if_neg (by decide), if_neg (by decide)]
    exact EReal.coe_ne_top _
  rw [e] at h
  clear e
  induction x using EReal.rec with
  | coe r => exact ⟨r, rfl⟩
  | top => exact absurd (top_le_iff.mp (le_trans (le_max_left _ _) h)) t
  | bot => exact absurd (top_le_iff.mp (le_trans (le_trans (le_of_eq EReal.neg_bot.symm) (le_max_right _ _)) h)) t

/-- What the precondition says: the second input, the weights and the incoming gradient are real. -/
theorem real_of_pre (A0 A1 : FVec Ideal Cert.Pre_finite.S8192x2816 .f32) (A2 : FVec Ideal Cert.Pre_finite.S3x5632 .f32)
    (A3 : FVec Ideal Cert.Pre_finite.S8192x2816 .f32) (h : Cert.Pre_finite.fn (F := Ideal) A0 A1 A2 A3 = fun _ => 1#1) :
    (∀ z, IsReal (A1 z)) ∧ (∀ z, IsReal (A2 z)) ∧ (∀ z, IsReal (A3 z)) := by
  have h' := congrFun h (Shape.Idx.first Cert.Pre_finite.Facts.h_S_)
  dsimp only [Cert.Pre_finite.fn] at h'
  obtain ⟨h12, h3⟩ := IntOp.andi_eq_one.mp h'
  obtain ⟨h1, h2⟩ := IntOp.andi_eq_one.mp h12
  clear h h' h12
  refine ⟨fun z => ?_, fun z => ?_, fun z => ?_⟩
  · have e1 := Host.reduce_andi_all _ _ _ _ _ h1 z
    pointwise at e1
    exact isReal_of_abs _ (of_decide_eq_true ((WordArith.ofBool_eq_one_iff _).mp e1))
  · have e1 := Host.reduce_andi_all _ _ _ _ _ h2 z
    pointwise at e1
    exact isReal_of_abs _ (of_decide_eq_true ((WordArith.ofBool_eq_one_iff _).mp e1))
  · have e1 := Host.reduce_andi_all _ _ _ _ _ h3 z
    pointwise at e1
    exact isReal_of_abs _ (of_decide_eq_true ((WordArith.ofBool_eq_one_iff _).mp e1))

theorem logi_top : logi ⊤ = 1 := by
  have e : (0 : EReal) - ⊤ = ⊥ := rfl
  have e1 : Ideal.exp ⊥ = 0 := rfl
  unfold logi Ideal.div
  rw [e, e1, add_zero, if_neg one_ne_zero, one_mul]
  exact inv_one
theorem logi_bot : logi ⊥ = 0 := by
  have e : (0 : EReal) - ⊥ = ⊤ := rfl
  have e1 : Ideal.exp ⊤ = ⊤ := rfl
  unfold logi Ideal.div
  rw [e, e1, EReal.add_top_of_ne_bot (by decide), if_neg (by decide), one_mul]
  exact EReal.inv_top
theorem logi_real (a : ℝ) : IsReal (logi a) := by
  have e1 : Ideal.exp ((0 - a : ℝ) : EReal) = ((Real.exp (0 - a) : ℝ) : EReal) := rfl
  have h : (0:ℝ) < 1 + Real.exp (0 - a) := by positivity
  refine ⟨1 * (1 + Real.exp (0 - a))⁻¹, ?_⟩
  unfold logi Ideal.div
  rw [← EReal.coe_zero, ← EReal.coe_sub, e1, ← EReal.coe_one, ← EReal.coe_add, if_neg (by exact_mod_cast h.ne'), ← EReal.coe_inv, ← EReal.coe_mul]

/-- The gate's first gradient as the kernel forms it, and as differentiation forms it. -/
theorem gate_eq (a b d : EReal) (hb : IsReal b) (hd : IsReal d) : refA a b d = gateA a b d := by
  obtain ⟨p, hp⟩ := hd.mul hb
  unfold refA gateA
  rw [hp]
  induction a using EReal.rec with
  | coe a =>
    obtain ⟨s, hs⟩ := logi_real a
    rw [hs]
    norm_cast
    ring
  | top =>
    rw [logi_top]
    have e : (1 : EReal) - 1 = 0 := by rw [← EReal.coe_one, ← EReal.coe_sub, sub_self, EReal.coe_zero]
    rw [e, mul_zero, mul_zero, mul_zero, add_zero, add_zero, mul_one, mul_one, mul_one]
  | bot => rw [logi_bot, zero_mul, zero_mul, mul_zero, mul_zero, add_zero]

theorem ext_real (X : Cert.KernelIdeal.S8192x2816.Idx → EReal) (h : ∀ z, IsReal (X z)) (r f : ℕ) : IsReal (ext X r f) := by
  unfold ext
  split_ifs
  · exact h _
  · exact IsReal.zero
theorem extW_real (X : Cert.KernelIdeal.S3x5632.Idx → EReal) (h : ∀ z, IsReal (X z)) (r f : ℕ) : IsReal (extW X r f) := by
  unfold extW
  split_ifs
  · exact h _
  · exact IsReal.zero
theorem conv_real (w u : ℕ → EReal) (hw : ∀ k, IsReal (w k)) (hu : ∀ r, IsReal (u r)) (r : ℕ) : IsReal (conv w u r) :=
  (((hw 0).mul (IsReal.ite _ IsReal.zero (hu _))).add ((hw 1).mul (IsReal.ite _ IsReal.zero (hu _)))).add ((hw 2).mul (IsReal.ite _ IsReal.zero (hu _)))

open Cert.KernelIdeal Cert.KernelIdeal.Gen

variable (m : (ℓ : Loc nD τ sig) → Buf (Elt Ideal) ℓ)
variable (m' : (ℓ : Loc Cert.ReferenceIdeal.nD Cert.ReferenceIdeal.τ Cert.ReferenceIdeal.sig) → Buf (Elt Ideal) ℓ)
variable (c : Dev nD)

/-- Both programs' arguments are the same arrays, the last three of them real. -/
structure Agree : Prop where
  a0 : X0 m' c = m ((c : Thread nD τ).loc main_arg0)
  a1 : X1 m' c = m ((c : Thread nD τ).loc main_arg1)
  a2 : W m' c = m ((c : Thread nD τ).loc main_arg2)
  a3 : D m' c = m ((c : Thread nD τ).loc main_arg3)
  r1 : ∀ z, IsReal (X1 m' c z)
  r2 : ∀ z, IsReal (W m' c z)
  r3 : ∀ z, IsReal (D m' c z)

variable {m m' c}

theorem Agree.colA (h : Agree m m' c) (f : ℕ) (hf : f < 2816) : dycol m' c f = gA m c f := by
  rw [gA_eq m c f hf, ← h.a0, ← h.a1, ← h.a2, ← h.a3]
  funext r
  by_cases hr : r < 8192
  · unfold dycol GA
    rw [if_pos hr, if_pos hf]
    exact gate_eq _ _ _ (conv_real _ _ (fun k => extW_real _ h.r2 _ _) (fun r => ext_real _ h.r1 _ _) r) (ext_real _ h.r3 _ _)
  · rw [GA_row _ _ _ _ _ _ (by omega), dycol, if_neg hr]

theorem Agree.colB (h : Agree m m' c) (f : ℕ) (hf : f < 2816) : dycol m' c (2816 + f) = gB m c f := by
  rw [gB_eq m c f hf, ← h.a0, ← h.a2, ← h.a3]
  funext r
  by_cases hr : r < 8192
  · unfold dycol GB refB gateB
    rw [if_pos hr, if_neg (by omega), Nat.add_sub_cancel_left, mul_comm]
  · rw [GB_row _ _ _ _ _ (by omega), dycol, if_neg hr]

theorem Agree.wts (h : Agree m m' c) (f : ℕ) : (fun k => extW (W m' c) k f) = wt m c f := by
  funext k
  unfold wt
  rw [V_main_arg2, h.a2]

/-- The gradients of the two inputs. -/
theorem Agree.input_A (h : Agree m m' c) : Cert.ReferenceIdeal.Value.res_main_v55 m' c = (dats m 0 c).arrAt 7 (cfgs 0).N := by
  rw [arr7]
  funext z
  refine (v55_at m' c z).trans ?_
  rw [h.wts, h.colA _ (z 1).isLt]

theorem Agree.input_B (h : Agree m m' c) : Cert.ReferenceIdeal.Value.res_main_v56 m' c = (dats m 0 c).arrAt 8 (cfgs 0).N := by
  rw [arr8]
  funext z
  refine (v56_at m' c z).trans ?_
  rw [h.wts, h.colB _ (z 1).isLt]

/-- The gradient of the weights. -/
theorem Agree.weights (h : Agree m m' c) : Cert.ReferenceIdeal.Value.res_main_v50 m' c =
    Pipeline.afterTail₀ cfgs (dats m) 0 (V0 m) [hostOps1] c main_v41 := by
  funext z
  refine (v50_at m' c z).trans (Eq.trans ?_ (dcw_at m c z).symm)
  have h0 : (z 0).val < 3 := (z 0).isLt
  have h1 : (z 1).val < 5632 := (z 1).isLt
  by_cases hf : (z 1).val < 2816
  · refine Eq.trans ?_ (if_pos hf).symm
    have hu : uA m c (z 1).val = xcol m' c (z 1).val := by
      rw [xcol_A m' c _ hf, h.a0]; funext r; unfold uA; rw [V_main_arg0]
    rw [kept_A m c _ _ h0, h.colA _ hf, hu]
  · refine Eq.trans ?_ (if_neg hf).symm
    obtain ⟨f, hf'⟩ : ∃ f, (z 1).val = 2816 + f := ⟨(z 1).val - 2816, by omega⟩
    have hu : uB m c f = xcol m' c (2816 + f) := by
      rw [xcol_B m' c, h.a1]; funext r; unfold uB; rw [V_main_arg1]
    rw [kept_B m c _ _ h0, hf', Nat.add_sub_cancel_left, h.colB f (by omega), hu]

end Cert.Act

end
-- ==== Proof.ScanEquation.lean ====
/-
  THE EQUATION of the scan's gradient: where the gradient of the states and the decay are finite they are complex numbers, and both
  programs compute the same gradients; the other arguments are free.
-/
module

public import proofs.«01_k».proof.Proof.ScanGrid
public import proofs.«01_k».proof.Proof.ScanReference
public import proofs.«01_k».proof.Proof.ActEquation
public import proofs.«01_k».proof.Proof.Gen.Pre_finite_scan
public import proofs.«01_k».proof.Defs
public import Idealize.ShloMosaic.Lib.ReduceAll
public import Idealize.ShloMosaic.Lib.WordArith

@[expose] public section

set_option maxRecDepth 16384

noncomputable section

namespace Cert.Scan

open Idealize.ShloMosaic Idealize.ShloMosaic.TcCoe Idealize.SL.Sem
open Cert.Act (IsReal isReal_of_abs)

/-- What the precondition says: the gradient of the states and the decay are real. -/
theorem real_of_pre (A0 : FVec Ideal Cert.Pre_finite_scan.S8192x1024 .f32) (A1 : FVec Ideal Cert.Pre_finite_scan.S8192x1024 .f32) (A2 : FVec Ideal Cert.Pre_finite_scan.S8192x1024 .f32) (A3 : FVec Ideal Cert.Pre_finite_scan.S8192x1024 .f32) (A4 : FVec Ideal Cert.Pre_finite_scan.S8192x1024 .f32) (A5 : FVec Ideal Cert.Pre_finite_scan.S8192x1024 .f32) (A6 : FVec Ideal Cert.Pre_finite_scan.S1x1024 .f32) (A7 : FVec Ideal Cert.Pre_finite_scan.S1x1024 .f32) (A8 : FVec Ideal Cert.Pre_finite_scan.S1x1024 .f32) (A9 : FVec Ideal Cert.Pre_finite_scan.S1x1024 .f32)
    (h : Cert.Pre_finite_scan.fn (F := Ideal) A0 A1 A2 A3 A4 A5 A6 A7 A8 A9 = fun _ => 1#1) :
    (∀ z, IsReal (A0 z)) ∧ (∀ z, IsReal (A1 z)) ∧ (∀ z, IsReal (A6 z)) ∧ (∀ z, IsReal (A7 z)) := by
  have h' := congrFun h (Shape.Idx.first Cert.Pre_finite_scan.Facts.h_S_)
  dsimp only [Cert.Pre_finite_scan.fn, Cert.Pre_finite_scan.fn_part1] at h'
  obtain ⟨k3, h3⟩ := IntOp.andi_eq_one.mp h'
  obtain ⟨k2, h2⟩ := IntOp.andi_eq_one.mp k3
  obtain ⟨h0, h1⟩ := IntOp.andi_eq_one.mp k2
  clear h h' k3 k2
  exact ⟨fun z => by
      have e1 := Host.reduce_andi_all _ _ _ _ _ h0 z
      pointwise at e1
      exact isReal_of_abs _ (of_decide_eq_true ((WordArith.ofBool_eq_one_iff _).mp e1)),
    fun z => by
      have e1 := Host.reduce_andi_all _ _ _ _ _ h1 z
      pointwise at e1
      exact isReal_of_abs _ (of_decide_eq_true ((WordArith.ofBool_eq_one_iff _).mp e1)),
    fun z => by
      have e1 := Host.reduce_andi_all _ _ _ _ _ h2 z
      pointwise at e1
      exact isReal_of_abs _ (of_decide_eq_true ((WordArith.ofBool_eq_one_iff _).mp e1)),
    fun z => by
      have e1 := Host.reduce_andi_all _ _ _ _ _ h3 z
      pointwise at e1
      exact isReal_of_abs _ (of_decide_eq_true ((WordArith.ofBool_eq_one_iff _).mp e1))⟩

/-- The complex array of two real ones, zero beyond the last row. -/
def array (A B : FVec Ideal Cert.Pre_finite_scan.S8192x1024 .f32) (r : ℕ) (j : Fin 1024) : ℂ :=
  if h : r < 8192 then ⟨EReal.toReal (A (ix2 ⟨r, h⟩ j)), EReal.toReal (B (ix2 ⟨r, h⟩ j))⟩ else 0

/-- The complex vector of two real ones. -/
def vector (A B : FVec Ideal Cert.Pre_finite_scan.S1x1024 .f32) (j : Fin 1024) : ℂ := ⟨EReal.toReal (A (ix2 0 j)), EReal.toReal (B (ix2 0 j))⟩

theorem IsReal.back {x : EReal} (h : IsReal x) : x = ((x.toReal : ℝ) : EReal) := by
  obtain ⟨r, rfl⟩ := h; rw [EReal.toReal_coe]

theorem array_re {A : FVec Ideal Cert.Pre_finite_scan.S8192x1024 .f32} (h : ∀ z, IsReal (A z)) (B) (r : Fin 8192) (j : Fin 1024) : (A (ix2 r j) : EReal) = Re (array A B r.val j) := by
  unfold array; rw [dif_pos r.isLt]; exact IsReal.back (h _)
theorem array_im {B : FVec Ideal Cert.Pre_finite_scan.S8192x1024 .f32} (h : ∀ z, IsReal (B z)) (A) (r : Fin 8192) (j : Fin 1024) : (B (ix2 r j) : EReal) = Im (array A B r.val j) := by
  unfold array; rw [dif_pos r.isLt]; exact IsReal.back (h _)
theorem vector_re {A : FVec Ideal Cert.Pre_finite_scan.S1x1024 .f32} (h : ∀ z, IsReal (A z)) (B) (r : Fin 1) (j : Fin 1024) : (A (ix2 r j) : EReal) = Re (vector A B j) := by
  obtain rfl : r = 0 := Subsingleton.elim _ _
  exact IsReal.back (h _)
theorem vector_im {B : FVec Ideal Cert.Pre_finite_scan.S1x1024 .f32} (h : ∀ z, IsReal (B z)) (A) (r : Fin 1) (j : Fin 1024) : (B (ix2 r j) : EReal) = Im (vector A B j) := by
  obtain rfl : r = 0 := Subsingleton.elim _ _
  exact IsReal.back (h _)

/-- The array of pairs of two real ones, zero beyond the last row. -/
def pairs (A B : FVec Ideal Cert.Pre_finite_scan.S8192x1024 .f32) (r : ℕ) (j : Fin 1024) : EReal × EReal :=
  if h : r < 8192 then (A (ix2 ⟨r, h⟩ j), B (ix2 ⟨r, h⟩ j)) else 0

theorem pairs_re (A B : FVec Ideal Cert.Pre_finite_scan.S8192x1024 .f32) (r : Fin 8192) (j : Fin 1024) : (A (ix2 r j) : EReal) = (pairs A B r.val j).1 := by
  unfold pairs; rw [dif_pos r.isLt]
theorem pairs_im (A B : FVec Ideal Cert.Pre_finite_scan.S8192x1024 .f32) (r : Fin 8192) (j : Fin 1024) : (B (ix2 r j) : EReal) = (pairs A B r.val j).2 := by
  unfold pairs; rw [dif_pos r.isLt]

/-- The vector of pairs of two real ones. -/
def pair (A B : FVec Ideal Cert.Pre_finite_scan.S1x1024 .f32) (j : Fin 1024) : EReal × EReal := (A (ix2 0 j), B (ix2 0 j))

theorem pair_re (A B : FVec Ideal Cert.Pre_finite_scan.S1x1024 .f32) (r : Fin 1) (j : Fin 1024) : (A (ix2 r j) : EReal) = (pair A B j).1 := by
  obtain rfl : r = 0 := Subsingleton.elim _ _
  rfl
theorem pair_im (A B : FVec Ideal Cert.Pre_finite_scan.S1x1024 .f32) (r : Fin 1) (j : Fin 1024) : (B (ix2 r j) : EReal) = (pair A B j).2 := by
  obtain rfl : r = 0 := Subsingleton.elim _ _
  rfl

/-- The scan of ten arrays. -/
def ofArrays (A0 A1 A2 A3 A4 A5 : FVec Ideal Cert.Pre_finite_scan.S8192x1024 .f32) (A6 A7 A8 A9 : FVec Ideal Cert.Pre_finite_scan.S1x1024 .f32) : Data :=
  ⟨array A0 A1, pairs A4 A5, pairs A2 A3, vector A6 A7, pair A8 A9⟩

/-- Each program's arguments are the arrays of one scan. -/
structure Both (m : (ℓ : Loc Cert.DscanIdeal.nD Cert.DscanIdeal.τ Cert.DscanIdeal.sig) → Buf (Elt Ideal) ℓ)
    (m' : (ℓ : Loc Cert.DscanRefIdeal.nD Cert.DscanRefIdeal.τ Cert.DscanRefIdeal.sig) → Buf (Elt Ideal) ℓ) (c : Dev Cert.DscanIdeal.nD) (D : Data) : Prop where
  kernel : Cert.DscanIdeal.Scan.Holds m c D
  reference : Cert.DscanRefIdeal.Scan.Holds m' c D

variable {m : (ℓ : Loc Cert.DscanIdeal.nD Cert.DscanIdeal.τ Cert.DscanIdeal.sig) → Buf (Elt Ideal) ℓ}
  {m' : (ℓ : Loc Cert.DscanRefIdeal.nD Cert.DscanRefIdeal.τ Cert.DscanRefIdeal.sig) → Buf (Elt Ideal) ℓ} {c : Dev Cert.DscanIdeal.nD} {D : Data}

theorem both_of_pre (hp : Cert.Pre_finite_scan.fn (F := Ideal) (m ((c.tc : Thread Cert.DscanIdeal.nD Cert.DscanIdeal.τ).loc Cert.DscanIdeal.main_arg0)) (m ((c.tc : Thread Cert.DscanIdeal.nD Cert.DscanIdeal.τ).loc Cert.DscanIdeal.main_arg1)) (m ((c.tc : Thread Cert.DscanIdeal.nD Cert.DscanIdeal.τ).loc Cert.DscanIdeal.main_arg2)) (m ((c.tc : Thread Cert.DscanIdeal.nD Cert.DscanIdeal.τ).loc Cert.DscanIdeal.main_arg3)) (m ((c.tc : Thread Cert.DscanIdeal.nD Cert.DscanIdeal.τ).loc Cert.DscanIdeal.main_arg4)) (m ((c.tc : Thread Cert.DscanIdeal.nD Cert.DscanIdeal.τ).loc Cert.DscanIdeal.main_arg5)) (m ((c.tc : Thread Cert.DscanIdeal.nD Cert.DscanIdeal.τ).loc Cert.DscanIdeal.main_arg6)) (m ((c.tc : Thread Cert.DscanIdeal.nD Cert.DscanIdeal.τ).loc Cert.DscanIdeal.main_arg7)) (m ((c.tc : Thread Cert.DscanIdeal.nD Cert.DscanIdeal.τ).loc Cert.DscanIdeal.main_arg8)) (m ((c.tc : Thread Cert.DscanIdeal.nD Cert.DscanIdeal.τ).loc Cert.DscanIdeal.main_arg9)) = fun _ => 1#1)
    (h0 : m' ((c.tc : Thread Cert.DscanRefIdeal.nD Cert.DscanRefIdeal.τ).loc Cert.DscanRefIdeal.main_arg0) = m ((c.tc : Thread Cert.DscanIdeal.nD Cert.DscanIdeal.τ).loc Cert.DscanIdeal.main_arg0))
    (h1 : m' ((c.tc : Thread Cert.DscanRefIdeal.nD Cert.DscanRefIdeal.τ).loc Cert.DscanRefIdeal.main_arg1) = m ((c.tc : Thread Cert.DscanIdeal.nD Cert.DscanIdeal.τ).loc Cert.DscanIdeal.main_arg1))
    (h2 : m' ((c.tc : Thread Cert.DscanRefIdeal.nD Cert.DscanRefIdeal.τ).loc Cert.DscanRefIdeal.main_arg2) = m ((c.tc : Thread Cert.DscanIdeal.nD Cert.DscanIdeal.τ).loc Cert.DscanIdeal.main_arg2))
    (h3 : m' ((c.tc : Thread Cert.DscanRefIdeal.nD Cert.DscanRefIdeal.τ).loc Cert.DscanRefIdeal.main_arg3) = m ((c.tc : Thread Cert.DscanIdeal.nD Cert.DscanIdeal.τ).loc Cert.DscanIdeal.main_arg3))
    (h4 : m' ((c.tc : Thread Cert.DscanRefIdeal.nD Cert.DscanRefIdeal.τ).loc Cert.DscanRefIdeal.main_arg4) = m ((c.tc : Thread Cert.DscanIdeal.nD Cert.DscanIdeal.τ).loc Cert.DscanIdeal.main_arg4))
    (h5 : m' ((c.tc : Thread Cert.DscanRefIdeal.nD Cert.DscanRefIdeal.τ).loc Cert.DscanRefIdeal.main_arg5) = m ((c.tc : Thread Cert.DscanIdeal.nD Cert.DscanIdeal.τ).loc Cert.DscanIdeal.main_arg5))
    (h6 : m' ((c.tc : Thread Cert.DscanRefIdeal.nD Cert.DscanRefIdeal.τ).loc Cert.DscanRefIdeal.main_arg6) = m ((c.tc : Thread Cert.DscanIdeal.nD Cert.DscanIdeal.τ).loc Cert.DscanIdeal.main_arg6))
    (h7 : m' ((c.tc : Thread Cert.DscanRefIdeal.nD Cert.DscanRefIdeal.τ).loc Cert.DscanRefIdeal.main_arg7) = m ((c.tc : Thread Cert.DscanIdeal.nD Cert.DscanIdeal.τ).loc Cert.DscanIdeal.main_arg7))
    (h8 : m' ((c.tc : Thread Cert.DscanRefIdeal.nD Cert.DscanRefIdeal.τ).loc Cert.DscanRefIdeal.main_arg8) = m ((c.tc : Thread Cert.DscanIdeal.nD Cert.DscanIdeal.τ).loc Cert.DscanIdeal.main_arg8))
    (h9 : m' ((c.tc : Thread Cert.DscanRefIdeal.nD Cert.DscanRefIdeal.τ).loc Cert.DscanRefIdeal.main_arg9) = m ((c.tc : Thread Cert.DscanIdeal.nD Cert.DscanIdeal.τ).loc Cert.DscanIdeal.main_arg9)) : ∃ D, Both m m' c D := by
  obtain ⟨r0, r1, r6, r7⟩ := real_of_pre _ _ _ _ _ _ _ _ _ _ hp
  refine ⟨ofArrays (m ((c.tc : Thread Cert.DscanIdeal.nD Cert.DscanIdeal.τ).loc Cert.DscanIdeal.main_arg0)) (m ((c.tc : Thread Cert.DscanIdeal.nD Cert.DscanIdeal.τ).loc Cert.DscanIdeal.main_arg1)) (m ((c.tc : Thread Cert.DscanIdeal.nD Cert.DscanIdeal.τ).loc Cert.DscanIdeal.main_arg2)) (m ((c.tc : Thread Cert.DscanIdeal.nD Cert.DscanIdeal.τ).loc Cert.DscanIdeal.main_arg3)) (m ((c.tc : Thread Cert.DscanIdeal.nD Cert.DscanIdeal.τ).loc Cert.DscanIdeal.main_arg4)) (m ((c.tc : Thread Cert.DscanIdeal.nD Cert.DscanIdeal.τ).loc Cert.DscanIdeal.main_arg5)) (m ((c.tc : Thread Cert.DscanIdeal.nD Cert.DscanIdeal.τ).loc Cert.DscanIdeal.main_arg6)) (m ((c.tc : Thread Cert.DscanIdeal.nD Cert.DscanIdeal.τ).loc Cert.DscanIdeal.main_arg7)) (m ((c.tc : Thread Cert.DscanIdeal.nD Cert.DscanIdeal.τ).loc Cert.DscanIdeal.main_arg8)) (m ((c.tc : Thread Cert.DscanIdeal.nD Cert.DscanIdeal.τ).loc Cert.DscanIdeal.main_arg9)), ⟨array_re r0 _, array_im r1 _, pairs_re _ _, pairs_im _ _, pairs_re _ _, pairs_im _ _, vector_re r6 _, vector_im r7 _, pair_re _ _, pair_im _ _⟩, ⟨fun r j => (congrFun h0 (ix2 r j)).trans (array_re r0 _ r j), fun r j => (congrFun h1 (ix2 r j)).trans (array_im r1 _ r j), fun r j => (congrFun h2 (ix2 r j)).trans (pairs_re _ _ r j), fun r j => (congrFun h3 (ix2 r j)).trans (pairs_im _ _ r j), fun r j => (congrFun h4 (ix2 r j)).trans (pairs_re _ _ r j), fun r j => (congrFun h5 (ix2 r j)).trans (pairs_im _ _ r j), fun r j => (congrFun h6 (ix2 r j)).trans (vector_re r6 _ r j), fun r j => (congrFun h7 (ix2 r j)).trans (vector_im r7 _ r j), fun r j => (congrFun h8 (ix2 r j)).trans (pair_re _ _ r j), fun r j => (congrFun h9 (ix2 r j)).trans (pair_im _ _ r j)⟩⟩

open Cert.DscanIdeal Cert.DscanIdeal.Gen

theorem Both.first (h : Both m m' c D) : Cert.DscanRefIdeal.Value.out_main_v71 (Cert.DscanRefIdeal.Value.STEP^[8192] (StableHlo.entryContents Cert.DscanRefIdeal.Value.preI m' c)) = (dats m 0 c).arrAt 8 (cfgs 0).N := by
  rw [Cert.DscanIdeal.Scan.arr8 h.kernel]
  funext z
  rw [eq_ix2 z]
  exact Cert.DscanRefIdeal.Scan.result_re h.reference (z 0) (z 1)

theorem Both.second (h : Both m m' c D) : Cert.DscanRefIdeal.Value.out_main_v64 (Cert.DscanRefIdeal.Value.STEP^[8192] (StableHlo.entryContents Cert.DscanRefIdeal.Value.preI m' c)) = (dats m 0 c).arrAt 9 (cfgs 0).N := by
  rw [Cert.DscanIdeal.Scan.arr9 h.kernel]
  funext z
  rw [eq_ix2 z]
  exact Cert.DscanRefIdeal.Scan.result_im h.reference (z 0) (z 1)

theorem Both.third (h : Both m m' c D) : Cert.DscanRefIdeal.Value.out_main_v76 (Cert.DscanRefIdeal.Value.STEP^[8192] (StableHlo.entryContents Cert.DscanRefIdeal.Value.preI m' c)) = Pipeline.afterTail₀ cfgs (dats m) 0 (V0 m) [hostOps1] c main_v64 := by
  funext z
  rw [eq_ix2 z]
  exact (Cert.DscanRefIdeal.Scan.result_four h.reference (z 0) (z 1)).trans (Cert.DscanIdeal.Scan.vectors_eq h.kernel (z 0) (z 1)).symm

/-- The kernel's run: what its three results end holding, and its arguments as they were. -/
theorem run_results (ρ : Dev nD → PrngReg) : θ_run (defs (F := Ideal)) (onTc (τ := τ) (main (F := Ideal))) ⟨m, fun _ => 0, ρ⟩ (fun r => ∀ c : Dev nD,
      r.2.mem ((c.tc : Thread nD τ).loc main_v62_0) = (dats m 0 c).arrAt 8 (cfgs 0).N
      ∧ r.2.mem ((c.tc : Thread nD τ).loc main_v62_1) = (dats m 0 c).arrAt 9 (cfgs 0).N
      ∧ r.2.mem ((c.tc : Thread nD τ).loc main_v64) = Pipeline.afterTail₀ cfgs (dats m) 0 (V0 m) [hostOps1] c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h.1 c).1 8, (h.1 c).1 9, (h.1 c).2 main_v64 (by decide), h.2 c⟩)
    (θ_run_and (run_main m ρ) (frame_of m ρ (dats m) (A_eq m) (run_main m ρ)))

/-- The kernel's three results are the reference's. -/
theorem equation : Cert.algebraic_DscanIdeal_DscanRefIdeal_pre_finite_scan := by
  intro m g m' g' hpre hagree
  have ag : ∀ c, ∃ D, Both m m' c D := fun c => by
    obtain ⟨h0, h1, h2, h3, h4, h5, h6, h7, h8, h9⟩ := hagree c
    exact both_of_pre (hpre c) h0 h1 h2 h3 h4 h5 h6 h7 h8 h9
  refine ⟨_, _, _, run_results g, (θ_run _ _ _).mono (fun r h c => ?_) (Cert.DscanRefIdeal.Value.run m' g')⟩
  obtain ⟨D, hD⟩ := ag c
  exact ⟨(h c).1.trans hD.first, (h c).2.1.trans hD.second, (h c).2.2.1.trans hD.third, (h c).2.2.2⟩

end Cert.Scan

end
-- ==== Proof.Product.lean ====
/-
  THE SUM of products of two rows of numbers, over the extended reals, whole and in consecutive blocks. Nothing here needs the numbers to be finite.
-/
module

public import Idealize.ShloMosaic.Lib.Pointwise
public import Idealize.ShloMosaic.PureOps.Ideal.Laws

@[expose] public section

noncomputable section

namespace Cert.Product

open Idealize.ShloMosaic

/-- The sum of the products of two rows. -/
def dot {K : ℕ} (f g : Fin K → EReal) : EReal := ∑ k : Fin K, f k * g k

theorem dot_comm {K : ℕ} (f g : Fin K → EReal) : dot f g = dot g f :=
  Finset.sum_congr rfl fun _ _ => mul_comm _ _

/-- The products of the first `a` places and of the next `b`. -/
theorem dot_split (a b : ℕ) (f g : Fin (a + b) → EReal) :
    dot f g = dot (fun k : Fin a => f (Fin.castAdd b k)) (fun k => g (Fin.castAdd b k)) + dot (fun k : Fin b => f (Fin.natAdd a k)) (fun k => g (Fin.natAdd a k)) :=
  Fin.sum_univ_add _

/-- `n` blocks of `T` products are the one sum of `T · n` products. -/
theorem dot_blocks (T n : ℕ) (f g : ℕ → EReal) :
    ∑ s ∈ Finset.range n, dot (fun k : Fin T => f (T * s + k.val)) (fun k : Fin T => g (T * s + k.val))
      = dot (fun k : Fin (T * n) => f k.val) (fun k : Fin (T * n) => g k.val) := by
  unfold dot
  rw [Fin.sum_univ_eq_sum_range (fun k => f k * g k) (T * n)]
  induction n with
  | zero => simp
  | succ n ih =>
    rw [Finset.sum_range_succ, ih, Nat.mul_succ, Finset.sum_range_add, Fin.sum_univ_eq_sum_range (fun k => f (T * n + k) * g (T * n + k)) T]

/-- An array of `M` rows and `N` columns by row and column number, zero outside of it. -/
def entry {M N : ℕ} (X : (⟨2, ![M, N]⟩ : Shape).Idx → EReal) (r c : ℕ) : EReal :=
  if h : r < M ∧ c < N then X (ix2 ⟨r, h.1⟩ ⟨c, h.2⟩) else 0

theorem entry_at {M N : ℕ} (X : (⟨2, ![M, N]⟩ : Shape).Idx → EReal) (r c : ℕ) (hr : r < M) (hc : c < N) :
    entry X r c = X (ix2 ⟨r, hr⟩ ⟨c, hc⟩) := by
  unfold entry; rw [dif_pos ⟨hr, hc⟩]

/-- AN ACCUMULATOR that is begun anew at each `J`-th point and gains `T` products at every point holds, at the last of its `J` points, the whole sum
    of `T · J` products. `f q i` and `g q i` are the two rows that meet at place `i` of the `q`-th tile. -/
theorem gathered {N : ℕ} {ι : Type} (T J : ℕ) (hJ : 0 < J) (S : (n : ℕ) → n < N → ι → EReal) (f g : ℕ → ι → ℕ → EReal)
    (begun : ∀ t : Fin N, t.val % J = 0 → ∀ i, S t.val t.isLt i
      = 0 + dot (fun k : Fin T => f (t.val / J) i (T * (t.val % J) + k.val)) (fun k : Fin T => g (t.val / J) i (T * (t.val % J) + k.val)))
    (continued : ∀ t : Fin N, ¬ t.val % J = 0 → ∀ (h : t.val - 1 < N) (i : ι), S t.val t.isLt i
      = S (t.val - 1) h i + dot (fun k : Fin T => f (t.val / J) i (T * (t.val % J) + k.val)) (fun k : Fin T => g (t.val / J) i (T * (t.val % J) + k.val)))
    (t : Fin N) (ht : t.val % J = J - 1) (i : ι) :
    S t.val t.isLt i = dot (fun k : Fin (T * J) => f (t.val / J) i k.val) (fun k : Fin (T * J) => g (t.val / J) i k.val) := by
  have key : ∀ d : ℕ, ∀ h : J * (t.val / J) + d < N, d < J → S (J * (t.val / J) + d) h i
      = ∑ s ∈ Finset.range (d + 1), dot (fun k : Fin T => f (t.val / J) i (T * s + k.val)) (fun k : Fin T => g (t.val / J) i (T * s + k.val)) := by
    intro d
    induction d with
    | zero =>
      intro h _
      have hm : (J * (t.val / J) + 0) % J = 0 := by simp
      have hd : (J * (t.val / J) + 0) / J = t.val / J := by simp [Nat.mul_div_cancel_left _ hJ]
      rw [Finset.sum_range_one]
      refine (begun ⟨_, h⟩ hm i).trans ?_
      dsimp only
      rw [hm, hd, zero_add]
    | succ d ih =>
      intro h hd
      have hm : (J * (t.val / J) + (d + 1)) % J = d + 1 := by rw [Nat.mul_add_mod, Nat.mod_eq_of_lt hd]
      have hq : (J * (t.val / J) + (d + 1)) / J = t.val / J := by rw [Nat.mul_add_div hJ, Nat.div_eq_of_lt hd, Nat.add_zero]
      rw [Finset.sum_range_succ, ← ih (by omega) (by omega)]
      refine (continued ⟨_, h⟩ (by dsimp only; omega) (by dsimp only; omega) i).trans ?_
      dsimp only
      rw [hm, hq]
      rfl
  have e : J * (t.val / J) + (J - 1) = t.val := by have := Nat.div_add_mod t.val J; omega
  have := key (J - 1) (by rw [e]; exact t.isLt) (by omega)
  rw [show J - 1 + 1 = J by omega, dot_blocks] at this
  rw [← this]
  congr 1
  exact e.symm

/-- THE GRADIENT OF A PRODUCT'S WEIGHTS, gathered over the batch: an accumulator that is begun anew at each `J`-th point and gains, at each point, the
    products of the columns of two blocks of `T` rows, ends at the products of the whole columns of `X` and `Y`. `A t` and `B t` are the blocks, which begin
    at the rows `T · (t % J)` and at the columns `p (t / J)` and `q (t / J)`. -/
theorem weights {N T J R C M L P Q : ℕ} (hJ : 0 < J) (S : (n : ℕ) → n < N → (⟨2, ![P, Q]⟩ : Shape).Idx → EReal)
    (X : (⟨2, ![R, M]⟩ : Shape).Idx → EReal) (Y : (⟨2, ![C, L]⟩ : Shape).Idx → EReal) (p q : ℕ → ℕ)
    (A : Fin N → (⟨2, ![T, P]⟩ : Shape).Idx → EReal) (B : Fin N → (⟨2, ![T, Q]⟩ : Shape).Idx → EReal)
    (hA : ∀ t k i, A t (ix2 k i) = entry X (T * (t.val % J) + k.val) (p (t.val / J) + i.val))
    (hB : ∀ t k i, B t (ix2 k i) = entry Y (T * (t.val % J) + k.val) (q (t.val / J) + i.val))
    (begun : ∀ t : Fin N, t.val % J = 0 → ∀ y, S t.val t.isLt y = dot (fun k => A t (ix2 k (y 0))) (fun k => B t (ix2 k (y 1))))
    (continued : ∀ t : Fin N, ¬ t.val % J = 0 → ∀ (h : t.val - 1 < N) y, S t.val t.isLt y
      = S (t.val - 1) h y + dot (fun k => A t (ix2 k (y 0))) (fun k => B t (ix2 k (y 1))))
    (t : Fin N) (ht : t.val % J = J - 1) (y : (⟨2, ![P, Q]⟩ : Shape).Idx) :
    S t.val t.isLt y = dot (fun k : Fin (T * J) => entry X k.val (p (t.val / J) + (y 0).val)) (fun k : Fin (T * J) => entry Y k.val (q (t.val / J) + (y 1).val)) :=
  gathered T J hJ S (fun s y k => entry X k (p s + (y 0).val)) (fun s y k => entry Y k (q s + (y 1).val))
    (fun t h y => (begun t h y).trans ((congrArg₂ dot (funext fun k => hA t k (y 0)) (funext fun k => hB t k (y 1))).trans (zero_add _).symm))
    (fun t h h' y => (continued t h h' y).trans (congrArg (_ + ·) (congrArg₂ dot (funext fun k => hA t k (y 0)) (funext fun k => hB t k (y 1))))) t ht y

end Cert.Product

end
-- ==== Proof.DwdownProduct.lean ====
/-
  THE GRADIENT OF THE DOWN-PROJECTION'S WEIGHTS: the transposed activation times the incoming gradient. A tile of 1408 rows of weights is gathered in an
  accumulator over eight grid points, each with 1024 of the 8192 rows of the batch; the last of them rounds and stores it.
-/
module

public import proofs.«01_k».proof.Defs
public import proofs.«01_k».proof.Proof.Product
public import proofs.«01_k».proof.Proof.Gen.DwdownIdeal.Frame
public import proofs.«01_k».proof.Proof.Gen.DwdownRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DwdownIdeal.Gradient

open Idealize.ShloMosaic Idealize.ShloMosaic.TcCoe Idealize.SL.Sem
open Cert.DwdownIdeal Cert.DwdownIdeal.Gen Cert.Product

variable (m : (ℓ : Loc nD τ sig) → Buf (Elt Ideal) ℓ)

/-- What one grid point multiplies: two blocks of 1024 rows of the batch. -/
theorem part (a : Vec Ideal S1024x1408 .bf16) (b : Vec Ideal S1024x1024 .bf16) (y : S1408x1024.Idx) :
    k0_pay1 a b y = dot (fun k => a (ix2 k (y 0))) (fun k => b (ix2 k (y 1))) := by
  unfold k0_pay1 dot
  pointwise

/-- Which tiles of the arrays the grid's points hold. -/
theorem index (t : Fin cfg0.N) : win0_0.index t = ![t.val % 8, t.val / 8] ∧ win0_1.index t = ![t.val % 8, 0] ∧ win0_2.index t = ![t.val / 8, 0] := by
  revert t; decide +kernel

/-- The activation. -/
def x (c : Dev nD) : S8192x2816.Idx → EReal := m ((c : Thread nD τ).loc main_arg0)
/-- The incoming gradient. -/
def dy (c : Dev nD) : S8192x1024.Idx → EReal := m ((c : Thread nD τ).loc main_arg1)

/-- The accumulator after the first of a tile's points. -/
theorem begun (c : Dev nD) (t : Fin cfg0.N) (h : t.val % 8 = 0) (y : S1408x1024.Idx) :
    (outsAt0 m c t.val t.isLt).2 y = k0_pay1 (iblk m c 0 t) (iblk m c 1 t) y := by
  have hN := lt_of_lt_of_eq t.isLt N_0
  rw [outsAt0_A m c t (by omega) (by omega) (by omega)]; frame_open
  simp (disch := decide) only [↓ View.readCov_skip, ↓ View.readCov_cons_toLoadRect, ↓ View.readCov_fill]
  frame_out
  unfold k0_pay2
  pointwise

/-- The accumulator after each of the others. -/
theorem continued (c : Dev nD) (t : Fin cfg0.N) (h : ¬ t.val % 8 = 0) (h' : t.val - 1 < cfg0.N) (y : S1408x1024.Idx) :
    (outsAt0 m c t.val t.isLt).2 y = (outsAt0 m c (t.val - 1) h').2 y + k0_pay1 (iblk m c 0 t) (iblk m c 1 t) y := by
  have hN := lt_of_lt_of_eq t.isLt N_0
  by_cases e : t.val % 8 = 7
  on_goal 1 => rw [outsAt0_C m c t (by omega) (by omega) (by omega)]
  on_goal 2 => rw [outsAt0_B m c t (by omega) (by omega) (by omega)]
  all_goals
    frame_open
    simp (disch := decide) only [↓ View.readCov_skip, ↓ View.readCov_cons_toLoadRect, ↓ View.readCov_fill]
    frame_out
    simp only [read_unread_whole]
    unfold k0_pay3
    pointwise

/-- What the last of a tile's points stores: the accumulator. -/
theorem stored (c : Dev nD) (t : Fin cfg0.N) (h : t.val % 8 = 7) (y : S1408x1024.Idx) :
    ((outsAt0 m c t.val t.isLt).1 y : EReal) = (outsAt0 m c t.val t.isLt).2 y := by
  have hN := lt_of_lt_of_eq t.isLt N_0
  rw [outsAt0_C m c t (by omega) (by omega) (by omega)]; frame_open
  simp (disch := decide) only [↓ View.readCov_skip, ↓ View.readCov_cons_toLoadRect, ↓ View.readCov_fill]
  frame_out
  unfold k0_pay4
  pointwise

/-- The array that the call leaves. -/
theorem array (c : Dev nD) : (dats m 0 c).arrAt 2 (cfgs 0).N = fun z : S2816x1024.Idx =>
    dot (fun k : Fin 8192 => x m c (ix2 k (z 0))) (fun k => dy m c (ix2 k (z 1))) := by
  refine (dats m 0 c).arrAt_eq_of_covers 2 _ (by decide +kernel) fun t hf y => ?_
  have ht := (flush0_2 t).mp hf
  have hN := lt_of_lt_of_eq t.isLt N_0
  have h0 : (y 0).val < 1408 := (y 0).isLt
  have h1 : (y 1).val < 1024 := (y 1).isLt
  rw [after0_2]
  refine (stored m c t (by omega) y).trans ((weights (T := 1024) (J := 8) (by decide) (fun n h => (outsAt0 m c n h).2) (x m c) (dy m c) (fun s => 1408 * s) (fun _ => 0)
    (fun t => iblk m c 0 t) (fun t => iblk m c 1 t) (fun t k i => ?_) (fun t k i => ?_)
    (fun t h y => (begun m c t h y).trans (part _ _ y)) (fun t h h' y => (continued m c t h h' y).trans (congrArg (_ + ·) (part _ _ y))) t (by omega) y).trans
    (congrArg₂ dot (funext fun k : Fin 8192 => ?_) (funext fun k : Fin 8192 => ?_)))
  · have := lt_of_lt_of_eq t.isLt N_0; rw [entry_at _ _ _ (by omega) (by omega)]; blk_ext [iblk, index t]
  · have := lt_of_lt_of_eq t.isLt N_0; rw [entry_at _ _ _ (by omega) (by omega)]; blk_ext [iblk, index t]
  · rw [entry_at _ _ _ k.isLt (by omega)]; blk_ext [index t]
  · rw [entry_at _ _ _ k.isLt (by omega)]; blk_ext [index t]

/-- The call's result is the reference's. -/
theorem equation : Cert.algebraic_DwdownIdeal_DwdownRefIdeal := by
  pair_intro
  · run_from (Cert.DwdownIdeal.Gen.run_main m g)
  · run_from (Cert.DwdownRefIdeal.Value.run m' g')
    rw [array]
    funext z
    obtain ⟨h0, h1⟩ := hagree c
    pointwise
    exact dot_comm _ _

end Cert.DwdownIdeal.Gradient

end
-- ==== Proof.DactProduct.lean ====
/-
  THE GRADIENT THAT REACHES THE ACTIVATION through the down-projection: the incoming gradient times the transposed weights. Each tile of 1024 rows and
  1408 columns is one product over all 1024 features, and the sixteen tiles make up the array.
-/
module

public import proofs.«01_k».proof.Defs
public import proofs.«01_k».proof.Proof.Product
public import proofs.«01_k».proof.Proof.Gen.DactIdeal.Frame
public import proofs.«01_k».proof.Proof.Gen.DactRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DactIdeal.Gradient

open Idealize.ShloMosaic Idealize.ShloMosaic.TcCoe Idealize.SL.Sem
open Cert.DactIdeal Cert.DactIdeal.Gen Cert.Product

variable (m : (ℓ : Loc nD τ sig) → Buf (Elt Ideal) ℓ)

/-- One tile: each place is the product of a row of gradients and a row of weights. -/
theorem tile (a : Vec Ideal S1024x1024 .bf16) (b : Vec Ideal S1408x1024 .bf16) (y : S1024x1408.Idx) :
    out0_2 a b y = dot (fun k => a (ix2 (y 0) k)) (fun k => b (ix2 (y 1) k)) := by
  unfold out0_2 dot
  frame_out
  unfold k0_pay1
  pointwise

/-- Which tiles of the arrays the grid's points hold. -/
theorem index (t : Fin cfg0.N) : win0_0.index t = ![t.val % 8, 0] ∧ win0_1.index t = ![t.val / 8, 0] ∧ win0_2.index t = ![t.val % 8, t.val / 8] := by
  revert t; decide +kernel

/-- The incoming gradient. -/
def x (c : Dev nD) : S8192x1024.Idx → EReal := m ((c : Thread nD τ).loc main_arg0)
/-- The weights. -/
def w (c : Dev nD) : S2816x1024.Idx → EReal := m ((c : Thread nD τ).loc main_arg1)

/-- The array that the call leaves. -/
theorem array (c : Dev nD) : (dats m 0 c).arrAt 2 (cfgs 0).N = fun z : S8192x2816.Idx => dot (fun k : Fin 1024 => x m c (ix2 (z 0) k)) (fun k => w m c (ix2 (z 1) k)) := by
  refine (dats m 0 c).arrAt_eq_of_covers 2 _ (by decide +kernel) fun t hf y => ?_
  rw [after0_2, tile]
  refine congrArg₂ dot (funext fun k => ?_) (funext fun k => ?_)
  · blk_ext [iblk, index t]
  · blk_ext [iblk, index t]

/-- The call's result is the reference's. -/
theorem equation : Cert.algebraic_DactIdeal_DactRefIdeal := by
  pair_intro
  · run_from (Cert.DactIdeal.Gen.run_main m g)
  · run_from (Cert.DactRefIdeal.Value.run m' g')
    rw [array]
    funext z
    obtain ⟨h0, h1⟩ := hagree c
    pointwise
    rfl

end Cert.DactIdeal.Gradient

end
-- ==== Proof.DwupProduct.lean ====
/-
  THE GRADIENT OF AN UP-PROJECTION'S WEIGHTS: the transposed input times the gradient of its output. A tile of 1408 columns of weights is gathered in an
  accumulator over eight grid points, each with 1024 of the 8192 rows of the batch; the last of them rounds and stores it.
-/
module

public import proofs.«01_k».proof.Defs
public import proofs.«01_k».proof.Proof.Product
public import proofs.«01_k».proof.Proof.Gen.DwupIdeal.Frame
public import proofs.«01_k».proof.Proof.Gen.DwupRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DwupIdeal.Gradient

open Idealize.ShloMosaic Idealize.ShloMosaic.TcCoe Idealize.SL.Sem
open Cert.DwupIdeal Cert.DwupIdeal.Gen Cert.Product

variable (m : (ℓ : Loc nD τ sig) → Buf (Elt Ideal) ℓ)

/-- What one grid point multiplies: two blocks of 1024 rows of the batch. -/
theorem part (a : Vec Ideal S1024x1024 .bf16) (b : Vec Ideal S1024x1408 .bf16) (y : S1024x1408.Idx) :
    k0_pay1 a b y = dot (fun k => a (ix2 k (y 0))) (fun k => b (ix2 k (y 1))) := by
  unfold k0_pay1 dot
  pointwise

/-- Which tiles of the arrays the grid's points hold. -/
theorem index (t : Fin cfg0.N) : win0_0.index t = ![t.val % 8, 0] ∧ win0_1.index t = ![t.val % 8, t.val / 8] ∧ win0_2.index t = ![0, t.val / 8] := by
  revert t; decide +kernel

/-- The input. -/
def x (c : Dev nD) : S8192x1024.Idx → EReal := m ((c : Thread nD τ).loc main_arg0)
/-- The gradient of the output. -/
def dy (c : Dev nD) : S8192x2816.Idx → EReal := m ((c : Thread nD τ).loc main_arg1)

/-- The accumulator after the first of a tile's points. -/
theorem begun (c : Dev nD) (t : Fin cfg0.N) (h : t.val % 8 = 0) (y : S1024x1408.Idx) :
    (outsAt0 m c t.val t.isLt).2 y = k0_pay1 (iblk m c 0 t) (iblk m c 1 t) y := by
  have hN := lt_of_lt_of_eq t.isLt N_0
  rw [outsAt0_A m c t (by omega) (by omega) (by omega)]; frame_open
  simp (disch := decide) only [↓ View.readCov_skip, ↓ View.readCov_cons_toLoadRect, ↓ View.readCov_fill]
  frame_out
  unfold k0_pay2
  pointwise

/-- The accumulator after each of the others. -/
theorem continued (c : Dev nD) (t : Fin cfg0.N) (h : ¬ t.val % 8 = 0) (h' : t.val - 1 < cfg0.N) (y : S1024x1408.Idx) :
    (outsAt0 m c t.val t.isLt).2 y = (outsAt0 m c (t.val - 1) h').2 y + k0_pay1 (iblk m c 0 t) (iblk m c 1 t) y := by
  have hN := lt_of_lt_of_eq t.isLt N_0
  by_cases e : t.val % 8 = 7
  on_goal 1 => rw [outsAt0_C m c t (by omega) (by omega) (by omega)]
  on_goal 2 => rw [outsAt0_B m c t (by omega) (by omega) (by omega)]
  all_goals
    frame_open
    simp (disch := decide) only [↓ View.readCov_skip, ↓ View.readCov_cons_toLoadRect, ↓ View.readCov_fill]
    frame_out
    simp only [read_unread_whole]
    unfold k0_pay3
    pointwise

/-- What the last of a tile's points stores: the accumulator. -/
theorem stored (c : Dev nD) (t : Fin cfg0.N) (h : t.val % 8 = 7) (y : S1024x1408.Idx) :
    ((outsAt0 m c t.val t.isLt).1 y : EReal) = (outsAt0 m c t.val t.isLt).2 y := by
  have hN := lt_of_lt_of_eq t.isLt N_0
  rw [outsAt0_C m c t (by omega) (by omega) (by omega)]; frame_open
  simp (disch := decide) only [↓ View.readCov_skip, ↓ View.readCov_cons_toLoadRect, ↓ View.readCov_fill]
  frame_out
  unfold k0_pay4
  pointwise

/-- The array that the call leaves. -/
theorem array (c : Dev nD) : (dats m 0 c).arrAt 2 (cfgs 0).N = fun z : S1024x2816.Idx =>
    dot (fun k : Fin 8192 => x m c (ix2 k (z 0))) (fun k => dy m c (ix2 k (z 1))) := by
  refine (dats m 0 c).arrAt_eq_of_covers 2 _ (by decide +kernel) fun t hf y => ?_
  have ht := (flush0_2 t).mp hf
  have hN := lt_of_lt_of_eq t.isLt N_0
  have h0 : (y 0).val < 1024 := (y 0).isLt
  have h1 : (y 1).val < 1408 := (y 1).isLt
  rw [after0_2]
  refine (stored m c t (by omega) y).trans ((weights (T := 1024) (J := 8) (by decide) (fun n h => (outsAt0 m c n h).2) (x m c) (dy m c) (fun _ => 0) (fun s => 1408 * s)
    (fun t => iblk m c 0 t) (fun t => iblk m c 1 t) (fun t k i => ?_) (fun t k i => ?_)
    (fun t h y => (begun m c t h y).trans (part _ _ y)) (fun t h h' y => (continued m c t h h' y).trans (congrArg (_ + ·) (part _ _ y))) t (by omega) y).trans
    (congrArg₂ dot (funext fun k : Fin 8192 => ?_) (funext fun k : Fin 8192 => ?_)))
  · have := lt_of_lt_of_eq t.isLt N_0; rw [entry_at _ _ _ (by omega) (by omega)]; blk_ext [iblk, index t]
  · have := lt_of_lt_of_eq t.isLt N_0; rw [entry_at _ _ _ (by omega) (by omega)]; blk_ext [iblk, index t]
  · rw [entry_at _ _ _ k.isLt (by omega)]; blk_ext [index t]
  · rw [entry_at _ _ _ k.isLt (by omega)]; blk_ext [index t]

/-- The call's result is the reference's. -/
theorem equation : Cert.algebraic_DwupIdeal_DwupRefIdeal := by
  pair_intro
  · run_from (Cert.DwupIdeal.Gen.run_main m g)
  · run_from (Cert.DwupRefIdeal.Value.run m' g')
    rw [array]
    funext z
    obtain ⟨h0, h1⟩ := hagree c
    pointwise
    exact dot_comm _ _

end Cert.DwupIdeal.Gradient

end
-- ==== Proof.DhidProduct.lean ====
/-
  THE GRADIENT THAT REACHES THE FEED-FORWARD'S INPUT through its two up-projections: two products, each with its transposed weights, added in one
  kernel. Each tile of 512 rows and all 1024 features is one pair of products over 2816 columns, and the sixteen tiles make up the array.
-/
module

public import proofs.«01_k».proof.Defs
public import proofs.«01_k».proof.Proof.Product
public import proofs.«01_k».proof.Proof.Gen.DhidIdeal.Frame
public import proofs.«01_k».proof.Proof.Gen.DhidRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DhidIdeal.Gradient

open Idealize.ShloMosaic Idealize.ShloMosaic.TcCoe Idealize.SL.Sem
open Cert.DhidIdeal Cert.DhidIdeal.Gen Cert.Product

variable (m : (ℓ : Loc nD τ sig) → Buf (Elt Ideal) ℓ)

/-- One tile: each place is the sum of the two products of its rows. -/
theorem tile (a : Vec Ideal S512x2816 .bf16) (b : Vec Ideal S1024x2816 .bf16) (a' : Vec Ideal S512x2816 .bf16) (b' : Vec Ideal S1024x2816 .bf16) (y : S512x1024.Idx) :
    out0_4 a b a' b' y = dot (fun k => a (ix2 (y 0) k)) (fun k => b (ix2 (y 1) k)) + dot (fun k => a' (ix2 (y 0) k)) (fun k => b' (ix2 (y 1) k)) := by
  unfold out0_4 dot
  frame_out
  unfold k0_pay1
  pointwise

/-- Which tiles of the arrays the grid's points hold. -/
theorem index (t : Fin cfg0.N) : win0_0.index t = ![t.val, 0] ∧ win0_1.index t = ![0, 0] ∧ win0_2.index t = ![t.val, 0] ∧ win0_3.index t = ![0, 0] ∧ win0_4.index t = ![t.val, 0] := by
  revert t; decide +kernel

/-- The arguments: the gradients of the two up-projections' outputs, and the two weights. -/
def da (c : Dev nD) : S8192x2816.Idx → EReal := m ((c : Thread nD τ).loc main_arg0)
def db (c : Dev nD) : S8192x2816.Idx → EReal := m ((c : Thread nD τ).loc main_arg1)
def wa (c : Dev nD) : S1024x2816.Idx → EReal := m ((c : Thread nD τ).loc main_arg2)
def wb (c : Dev nD) : S1024x2816.Idx → EReal := m ((c : Thread nD τ).loc main_arg3)

/-- The array that the call leaves. -/
theorem array (c : Dev nD) : (dats m 0 c).arrAt 4 (cfgs 0).N = fun z : S8192x1024.Idx =>
    dot (fun k : Fin 2816 => da m c (ix2 (z 0) k)) (fun k => wa m c (ix2 (z 1) k)) + dot (fun k : Fin 2816 => db m c (ix2 (z 0) k)) (fun k => wb m c (ix2 (z 1) k)) := by
  refine (dats m 0 c).arrAt_eq_of_covers 4 _ (by decide +kernel) fun t hf y => ?_
  rw [after0_4, tile]
  refine congrArg₂ (· + ·) (congrArg₂ dot (funext fun k => ?_) (funext fun k => ?_)) (congrArg₂ dot (funext fun k => ?_) (funext fun k => ?_))
  · blk_ext [iblk, index t]
  · blk_ext [iblk, index t]
  · blk_ext [iblk, index t]
  · blk_ext [iblk, index t]

/-- The call's result is the reference's. -/
theorem equation : Cert.algebraic_DhidIdeal_DhidRefIdeal := by
  pair_intro
  · run_from (Cert.DhidIdeal.Gen.run_main m g)
  · run_from (Cert.DhidRefIdeal.Value.run m' g')
    rw [array]
    funext z
    obtain ⟨h0, h1, h2, h3⟩ := hagree c
    pointwise
    exact add_comm _ _

end Cert.DhidIdeal.Gradient

end
-- ==== Proof.UpProduct.lean ====
/-
  AN UP-PROJECTION of the feed-forward: the input times the weights, sixteen tiles of 1024 rows and 1408 columns.
-/
module

public import proofs.«01_k».proof.Defs
public import proofs.«01_k».proof.Proof.Product
public import proofs.«01_k».proof.Proof.Gen.UpIdeal.Frame
public import proofs.«01_k».proof.Proof.Gen.UpRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.UpIdeal.Forward

open Idealize.ShloMosaic Idealize.ShloMosaic.TcCoe Idealize.SL.Sem
open Cert.UpIdeal Cert.UpIdeal.Gen Cert.Product

variable (m : (ℓ : Loc nD τ sig) → Buf (Elt Ideal) ℓ)

/-- One tile: each place is the product of a row of the first factor and a column of the second. -/
theorem tile (a : Vec Ideal S1024x1024 .bf16) (b : Vec Ideal S1024x1408 .bf16) (y : S1024x1408.Idx) :
    out0_2 a b y = dot (fun k => a (ix2 (y 0) k)) (fun k => b (ix2 k (y 1))) := by
  unfold out0_2 dot
  frame_out
  unfold k0_pay1
  pointwise

/-- Which tiles of the arrays the grid's points hold. -/
theorem index (t : Fin cfg0.N) : win0_0.index t = ![t.val % 8, 0] ∧ win0_1.index t = ![0, t.val / 8] ∧ win0_2.index t = ![t.val % 8, t.val / 8] := by
  revert t; decide +kernel

/-- The input. -/
def x (c : Dev nD) : S8192x1024.Idx → EReal := m ((c : Thread nD τ).loc main_arg0)
/-- The weights. -/
def w (c : Dev nD) : S1024x2816.Idx → EReal := m ((c : Thread nD τ).loc main_arg1)

/-- The array that the call leaves. -/
theorem array (c : Dev nD) : (dats m 0 c).arrAt 2 (cfgs 0).N = fun z : S8192x2816.Idx => dot (fun k : Fin 1024 => x m c (ix2 (z 0) k)) (fun k => w m c (ix2 k (z 1))) := by
  refine (dats m 0 c).arrAt_eq_of_covers 2 _ (by decide +kernel) fun t hf y => ?_
  rw [after0_2, tile]
  refine congrArg₂ dot (funext fun k => ?_) (funext fun k => ?_)
  · blk_ext [iblk, index t]
  · blk_ext [iblk, index t]

/-- The call's result is the reference's. -/
theorem equation : Cert.algebraic_UpIdeal_UpRefIdeal := by
  pair_intro
  · run_from (Cert.UpIdeal.Gen.run_main m g)
  · run_from (Cert.UpRefIdeal.Value.run m' g')
    rw [array]
    funext z
    obtain ⟨h0, h1⟩ := hagree c
    pointwise
    rfl

end Cert.UpIdeal.Forward

end
-- ==== Proof.DownProduct.lean ====
/-
  THE DOWN-PROJECTION of the feed-forward: the activation times the weights, eight tiles of 1024 rows.
-/
module

public import proofs.«01_k».proof.Defs
public import proofs.«01_k».proof.Proof.Product
public import proofs.«01_k».proof.Proof.Gen.DownIdeal.Frame
public import proofs.«01_k».proof.Proof.Gen.DownRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DownIdeal.Forward

open Idealize.ShloMosaic Idealize.ShloMosaic.TcCoe Idealize.SL.Sem
open Cert.DownIdeal Cert.DownIdeal.Gen Cert.Product

variable (m : (ℓ : Loc nD τ sig) → Buf (Elt Ideal) ℓ)

/-- One tile: each place is the product of a row of the first factor and a column of the second. -/
theorem tile (a : Vec Ideal S1024x2816 .bf16) (b : Vec Ideal S2816x1024 .bf16) (y : S1024x1024.Idx) :
    out0_2 a b y = dot (fun k => a (ix2 (y 0) k)) (fun k => b (ix2 k (y 1))) := by
  unfold out0_2 dot
  frame_out
  unfold k0_pay1
  pointwise

/-- Which tiles of the arrays the grid's points hold. -/
theorem index (t : Fin cfg0.N) : win0_0.index t = ![t.val, 0] ∧ win0_1.index t = ![0, 0] ∧ win0_2.index t = ![t.val, 0] := by
  revert t; decide +kernel

/-- The activation. -/
def x (c : Dev nD) : S8192x2816.Idx → EReal := m ((c : Thread nD τ).loc main_arg0)
/-- The weights. -/
def w (c : Dev nD) : S2816x1024.Idx → EReal := m ((c : Thread nD τ).loc main_arg1)

/-- The array that the call leaves. -/
theorem array (c : Dev nD) : (dats m 0 c).arrAt 2 (cfgs 0).N = fun z : S8192x1024.Idx => dot (fun k : Fin 2816 => x m c (ix2 (z 0) k)) (fun k => w m c (ix2 k (z 1))) := by
  refine (dats m 0 c).arrAt_eq_of_covers 2 _ (by decide +kernel) fun t hf y => ?_
  rw [after0_2, tile]
  refine congrArg₂ dot (funext fun k => ?_) (funext fun k => ?_)
  · blk_ext [iblk, index t]
  · blk_ext [iblk, index t]

/-- The call's result is the reference's. -/
theorem equation : Cert.algebraic_DownIdeal_DownRefIdeal := by
  pair_intro
  · run_from (Cert.DownIdeal.Gen.run_main m g)
  · run_from (Cert.DownRefIdeal.Value.run m' g')
    rw [array]
    funext z
    obtain ⟨h0, h1⟩ := hagree c
    pointwise
    rfl

end Cert.DownIdeal.Forward

end
-- ==== Proof.QkvProduct.lean ====
/-
  THE PROJECTION to queries, keys and values: the attention's input times the weights, sixteen tiles of 1024 rows and 1152 columns.
-/
module

public import proofs.«01_k».proof.Defs
public import proofs.«01_k».proof.Proof.Product
public import proofs.«01_k».proof.Proof.Gen.QkvIdeal.Frame
public import proofs.«01_k».proof.Proof.Gen.QkvRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.QkvIdeal.Forward

open Idealize.ShloMosaic Idealize.ShloMosaic.TcCoe Idealize.SL.Sem
open Cert.QkvIdeal Cert.QkvIdeal.Gen Cert.Product

variable (m : (ℓ : Loc nD τ sig) → Buf (Elt Ideal) ℓ)

/-- One tile: each place is the product of a row of the first factor and a column of the second. -/
theorem tile (a : Vec Ideal S1024x1024 .bf16) (b : Vec Ideal S1024x1152 .bf16) (y : S1024x1152.Idx) :
    out0_2 a b y = dot (fun k => a (ix2 (y 0) k)) (fun k => b (ix2 k (y 1))) := by
  unfold out0_2 dot
  frame_out
  unfold k0_pay1
  pointwise

/-- Which tiles of the arrays the grid's points hold. -/
theorem index (t : Fin cfg0.N) : win0_0.index t = ![t.val % 8, 0] ∧ win0_1.index t = ![0, t.val / 8] ∧ win0_2.index t = ![t.val % 8, t.val / 8] := by
  revert t; decide +kernel

/-- The input. -/
def x (c : Dev nD) : S8192x1024.Idx → EReal := m ((c : Thread nD τ).loc main_arg0)
/-- The weights. -/
def w (c : Dev nD) : S1024x2304.Idx → EReal := m ((c : Thread nD τ).loc main_arg1)

/-- The array that the call leaves. -/
theorem array (c : Dev nD) : (dats m 0 c).arrAt 2 (cfgs 0).N = fun z : S8192x2304.Idx => dot (fun k : Fin 1024 => x m c (ix2 (z 0) k)) (fun k => w m c (ix2 k (z 1))) := by
  refine (dats m 0 c).arrAt_eq_of_covers 2 _ (by decide +kernel) fun t hf y => ?_
  rw [after0_2, tile]
  refine congrArg₂ dot (funext fun k => ?_) (funext fun k => ?_)
  · blk_ext [iblk, index t]
  · blk_ext [iblk, index t]

/-- The call's result is the reference's. -/
theorem equation : Cert.algebraic_QkvIdeal_QkvRefIdeal := by
  pair_intro
  · run_from (Cert.QkvIdeal.Gen.run_main m g)
  · run_from (Cert.QkvRefIdeal.Value.run m' g')
    rw [array]
    funext z
    obtain ⟨h0, h1⟩ := hagree c
    pointwise
    rfl

end Cert.QkvIdeal.Forward

end
-- ==== Proof.MixoutProduct.lean ====
/-
  A MIXER'S OUTPUT PROJECTION: what the mixer made times the weights, eight tiles of 1024 rows.
-/
module

public import proofs.«01_k».proof.Defs
public import proofs.«01_k».proof.Proof.Product
public import proofs.«01_k».proof.Proof.Gen.MixoutIdeal.Frame
public import proofs.«01_k».proof.Proof.Gen.MixoutRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.MixoutIdeal.Forward

open Idealize.ShloMosaic Idealize.ShloMosaic.TcCoe Idealize.SL.Sem
open Cert.MixoutIdeal Cert.MixoutIdeal.Gen Cert.Product

variable (m : (ℓ : Loc nD τ sig) → Buf (Elt Ideal) ℓ)

/-- One tile: each place is the product of a row of the first factor and a column of the second. -/
theorem tile (a : Vec Ideal S1024x1024 .bf16) (b : Vec Ideal S1024x1024 .bf16) (y : S1024x1024.Idx) :
    out0_2 a b y = dot (fun k => a (ix2 (y 0) k)) (fun k => b (ix2 k (y 1))) := by
  unfold out0_2 dot
  frame_out
  unfold k0_pay1
  pointwise

/-- Which tiles of the arrays the grid's points hold. -/
theorem index (t : Fin cfg0.N) : win0_0.index t = ![t.val, 0] ∧ win0_1.index t = ![0, 0] ∧ win0_2.index t = ![t.val, 0] := by
  revert t; decide +kernel

/-- What the mixer made. -/
def x (c : Dev nD) : S8192x1024.Idx → EReal := m ((c : Thread nD τ).loc main_arg0)
/-- The weights. -/
def w (c : Dev nD) : S1024x1024.Idx → EReal := m ((c : Thread nD τ).loc main_arg1)

/-- The array that the call leaves. -/
theorem array (c : Dev nD) : (dats m 0 c).arrAt 2 (cfgs 0).N = fun z : S8192x1024.Idx => dot (fun k : Fin 1024 => x m c (ix2 (z 0) k)) (fun k => w m c (ix2 k (z 1))) := by
  refine (dats m 0 c).arrAt_eq_of_covers 2 _ (by decide +kernel) fun t hf y => ?_
  rw [after0_2, tile]
  refine congrArg₂ dot (funext fun k => ?_) (funext fun k => ?_)
  · blk_ext [iblk, index t]
  · blk_ext [iblk, index t]

/-- The call's result is the reference's. -/
theorem equation : Cert.algebraic_MixoutIdeal_MixoutRefIdeal := by
  pair_intro
  · run_from (Cert.MixoutIdeal.Gen.run_main m g)
  · run_from (Cert.MixoutRefIdeal.Value.run m' g')
    rw [array]
    funext z
    obtain ⟨h0, h1⟩ := hagree c
    pointwise
    rfl

end Cert.MixoutIdeal.Forward

end
-- ==== Proof.RecinProduct.lean ====
/-
  THE INPUT PROJECTION of the recurrent layer: the input times the weights, 24 tiles of 1024 rows and 1152 columns.
-/
module

public import proofs.«01_k».proof.Defs
public import proofs.«01_k».proof.Proof.Product
public import proofs.«01_k».proof.Proof.Gen.RecinIdeal.Frame
public import proofs.«01_k».proof.Proof.Gen.RecinRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.RecinIdeal.Forward

open Idealize.ShloMosaic Idealize.ShloMosaic.TcCoe Idealize.SL.Sem
open Cert.RecinIdeal Cert.RecinIdeal.Gen Cert.Product

variable (m : (ℓ : Loc nD τ sig) → Buf (Elt Ideal) ℓ)

/-- One tile: each place is the product of a row of the first factor and a column of the second. -/
theorem tile (a : Vec Ideal S1024x1024 .bf16) (b : Vec Ideal S1024x1152 .bf16) (y : S1024x1152.Idx) :
    out0_2 a b y = dot (fun k => a (ix2 (y 0) k)) (fun k => b (ix2 k (y 1))) := by
  unfold out0_2 dot
  frame_out
  unfold k0_pay1
  pointwise

/-- Which tiles of the arrays the grid's points hold. -/
theorem index (t : Fin cfg0.N) : win0_0.index t = ![t.val % 8, 0] ∧ win0_1.index t = ![0, t.val / 8] ∧ win0_2.index t = ![t.val % 8, t.val / 8] := by
  revert t; decide +kernel

/-- The input. -/
def x (c : Dev nD) : S8192x1024.Idx → EReal := m ((c : Thread nD τ).loc main_arg0)
/-- The weights. -/
def w (c : Dev nD) : S1024x3456.Idx → EReal := m ((c : Thread nD τ).loc main_arg1)

/-- The array that the call leaves. -/
theorem array (c : Dev nD) : (dats m 0 c).arrAt 2 (cfgs 0).N = fun z : S8192x3456.Idx => dot (fun k : Fin 1024 => x m c (ix2 (z 0) k)) (fun k => w m c (ix2 k (z 1))) := by
  refine (dats m 0 c).arrAt_eq_of_covers 2 _ (by decide +kernel) fun t hf y => ?_
  rw [after0_2, tile]
  refine congrArg₂ dot (funext fun k => ?_) (funext fun k => ?_)
  · blk_ext [iblk, index t]
  · blk_ext [iblk, index t]

/-- The call's result is the reference's. -/
theorem equation : Cert.algebraic_RecinIdeal_RecinRefIdeal := by
  pair_intro
  · run_from (Cert.RecinIdeal.Gen.run_main m g)
  · run_from (Cert.RecinRefIdeal.Value.run m' g')
    rw [array]
    funext z
    obtain ⟨h0, h1⟩ := hagree c
    pointwise
    rfl

end Cert.RecinIdeal.Forward

end
-- ==== Proof.DwqkvProduct.lean ====
/-
  THE GRADIENT OF AN INPUT PROJECTION'S WEIGHTS (queries, keys and values): the transposed input times the gradient. A tile of 1152 columns is gathered in an
  accumulator over eight grid points, each with 1024 of the 8192 rows of the batch; the last of them rounds and stores it.
-/
module

public import proofs.«01_k».proof.Defs
public import proofs.«01_k».proof.Proof.Product
public import proofs.«01_k».proof.Proof.Gen.DwqkvIdeal.Frame
public import proofs.«01_k».proof.Proof.Gen.DwqkvRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DwqkvIdeal.Gradient

open Idealize.ShloMosaic Idealize.ShloMosaic.TcCoe Idealize.SL.Sem
open Cert.DwqkvIdeal Cert.DwqkvIdeal.Gen Cert.Product

variable (m : (ℓ : Loc nD τ sig) → Buf (Elt Ideal) ℓ)

/-- What one grid point multiplies: two blocks of 1024 rows of the batch. -/
theorem part (a : Vec Ideal S1024x1024 .bf16) (b : Vec Ideal S1024x1152 .bf16) (y : S1024x1152.Idx) :
    k0_pay1 a b y = dot (fun k => a (ix2 k (y 0))) (fun k => b (ix2 k (y 1))) := by
  unfold k0_pay1 dot
  pointwise

/-- Which tiles of the arrays the grid's points hold. -/
theorem index (t : Fin cfg0.N) : win0_0.index t = ![t.val % 8, 0] ∧ win0_1.index t = ![t.val % 8, t.val / 8] ∧ win0_2.index t = ![0, t.val / 8] := by
  revert t; decide +kernel

/-- The input. -/
def x (c : Dev nD) : S8192x1024.Idx → EReal := m ((c : Thread nD τ).loc main_arg0)
/-- The gradient of the queries, keys and values. -/
def dy (c : Dev nD) : S8192x2304.Idx → EReal := m ((c : Thread nD τ).loc main_arg1)

/-- The accumulator after the first of a tile's points. -/
theorem begun (c : Dev nD) (t : Fin cfg0.N) (h : t.val % 8 = 0) (y : S1024x1152.Idx) :
    (outsAt0 m c t.val t.isLt).2 y = k0_pay1 (iblk m c 0 t) (iblk m c 1 t) y := by
  have hN := lt_of_lt_of_eq t.isLt N_0
  rw [outsAt0_A m c t (by omega) (by omega) (by omega)]; frame_open
  simp (disch := decide) only [↓ View.readCov_skip, ↓ View.readCov_cons_toLoadRect, ↓ View.readCov_fill]
  frame_out
  unfold k0_pay2
  pointwise

/-- The accumulator after each of the others. -/
theorem continued (c : Dev nD) (t : Fin cfg0.N) (h : ¬ t.val % 8 = 0) (h' : t.val - 1 < cfg0.N) (y : S1024x1152.Idx) :
    (outsAt0 m c t.val t.isLt).2 y = (outsAt0 m c (t.val - 1) h').2 y + k0_pay1 (iblk m c 0 t) (iblk m c 1 t) y := by
  have hN := lt_of_lt_of_eq t.isLt N_0
  by_cases e : t.val % 8 = 7
  on_goal 1 => rw [outsAt0_C m c t (by omega) (by omega) (by omega)]
  on_goal 2 => rw [outsAt0_B m c t (by omega) (by omega) (by omega)]
  all_goals
    frame_open
    simp (disch := decide) only [↓ View.readCov_skip, ↓ View.readCov_cons_toLoadRect, ↓ View.readCov_fill]
    frame_out
    simp only [read_unread_whole]
    unfold k0_pay3
    pointwise

/-- What the last of a tile's points stores: the accumulator. -/
theorem stored (c : Dev nD) (t : Fin cfg0.N) (h : t.val % 8 = 7) (y : S1024x1152.Idx) :
    ((outsAt0 m c t.val t.isLt).1 y : EReal) = (outsAt0 m c t.val t.isLt).2 y := by
  have hN := lt_of_lt_of_eq t.isLt N_0
  rw [outsAt0_C m c t (by omega) (by omega) (by omega)]; frame_open
  simp (disch := decide) only [↓ View.readCov_skip, ↓ View.readCov_cons_toLoadRect, ↓ View.readCov_fill]
  frame_out
  unfold k0_pay4
  pointwise

/-- The array that the call leaves. -/
theorem array (c : Dev nD) : (dats m 0 c).arrAt 2 (cfgs 0).N = fun z : S1024x2304.Idx =>
    dot (fun k : Fin 8192 => x m c (ix2 k (z 0))) (fun k => dy m c (ix2 k (z 1))) := by
  refine (dats m 0 c).arrAt_eq_of_covers 2 _ (by decide +kernel) fun t hf y => ?_
  have ht := (flush0_2 t).mp hf
  have hN := lt_of_lt_of_eq t.isLt N_0
  have h0 : (y 0).val < 1024 := (y 0).isLt
  have h1 : (y 1).val < 1152 := (y 1).isLt
  rw [after0_2]
  refine (stored m c t (by omega) y).trans ((weights (T := 1024) (J := 8) (by decide) (fun n h => (outsAt0 m c n h).2) (x m c) (dy m c) (fun _ => 0) (fun s => 1152 * s)
    (fun t => iblk m c 0 t) (fun t => iblk m c 1 t) (fun t k i => ?_) (fun t k i => ?_)
    (fun t h y => (begun m c t h y).trans (part _ _ y)) (fun t h h' y => (continued m c t h h' y).trans (congrArg (_ + ·) (part _ _ y))) t (by omega) y).trans
    (congrArg₂ dot (funext fun k : Fin 8192 => ?_) (funext fun k : Fin 8192 => ?_)))
  · have := lt_of_lt_of_eq t.isLt N_0; rw [entry_at _ _ _ (by omega) (by omega)]; blk_ext [iblk, index t]
  · have := lt_of_lt_of_eq t.isLt N_0; rw [entry_at _ _ _ (by omega) (by omega)]; blk_ext [iblk, index t]
  · rw [entry_at _ _ _ k.isLt (by omega)]; blk_ext [index t]
  · rw [entry_at _ _ _ k.isLt (by omega)]; blk_ext [index t]

/-- The call's result is the reference's. -/
theorem equation : Cert.algebraic_DwqkvIdeal_DwqkvRefIdeal := by
  pair_intro
  · run_from (Cert.DwqkvIdeal.Gen.run_main m g)
  · run_from (Cert.DwqkvRefIdeal.Value.run m' g')
    rw [array]
    funext z
    obtain ⟨h0, h1⟩ := hagree c
    pointwise
    exact dot_comm _ _

end Cert.DwqkvIdeal.Gradient

end
-- ==== Proof.DwoutProduct.lean ====
/-
  THE GRADIENT OF AN OUTPUT PROJECTION'S WEIGHTS: what the mixer made, transposed, times the incoming gradient. The weights are gathered in an
  accumulator over eight grid points, each with 1024 of the 8192 rows of the batch; the last of them rounds and stores it.
-/
module

public import proofs.«01_k».proof.Defs
public import proofs.«01_k».proof.Proof.Product
public import proofs.«01_k».proof.Proof.Gen.DwoutIdeal.Frame
public import proofs.«01_k».proof.Proof.Gen.DwoutRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DwoutIdeal.Gradient

open Idealize.ShloMosaic Idealize.ShloMosaic.TcCoe Idealize.SL.Sem
open Cert.DwoutIdeal Cert.DwoutIdeal.Gen Cert.Product

variable (m : (ℓ : Loc nD τ sig) → Buf (Elt Ideal) ℓ)

/-- What one grid point multiplies: two blocks of 1024 rows of the batch. -/
theorem part (a : Vec Ideal S1024x1024 .bf16) (b : Vec Ideal S1024x1024 .bf16) (y : S1024x1024.Idx) :
    k0_pay1 a b y = dot (fun k => a (ix2 k (y 0))) (fun k => b (ix2 k (y 1))) := by
  unfold k0_pay1 dot
  pointwise

/-- Which tiles of the arrays the grid's points hold. -/
theorem index (t : Fin cfg0.N) : win0_0.index t = ![t.val % 8, 0] ∧ win0_1.index t = ![t.val % 8, 0] ∧ win0_2.index t = ![0, 0] := by
  revert t; decide +kernel

/-- What the mixer made. -/
def x (c : Dev nD) : S8192x1024.Idx → EReal := m ((c : Thread nD τ).loc main_arg0)
/-- The incoming gradient. -/
def dy (c : Dev nD) : S8192x1024.Idx → EReal := m ((c : Thread nD τ).loc main_arg1)

/-- The accumulator after the first of a tile's points. -/
theorem begun (c : Dev nD) (t : Fin cfg0.N) (h : t.val % 8 = 0) (y : S1024x1024.Idx) :
    (outsAt0 m c t.val t.isLt).2 y = k0_pay1 (iblk m c 0 t) (iblk m c 1 t) y := by
  have hN := lt_of_lt_of_eq t.isLt N_0
  rw [outsAt0_A m c t (by omega) (by omega) (by omega)]; frame_open
  simp (disch := decide) only [↓ View.readCov_skip, ↓ View.readCov_cons_toLoadRect, ↓ View.readCov_fill]
  frame_out
  unfold k0_pay2
  pointwise

/-- The accumulator after each of the others. -/
theorem continued (c : Dev nD) (t : Fin cfg0.N) (h : ¬ t.val % 8 = 0) (h' : t.val - 1 < cfg0.N) (y : S1024x1024.Idx) :
    (outsAt0 m c t.val t.isLt).2 y = (outsAt0 m c (t.val - 1) h').2 y + k0_pay1 (iblk m c 0 t) (iblk m c 1 t) y := by
  have hN := lt_of_lt_of_eq t.isLt N_0
  by_cases e : t.val % 8 = 7
  on_goal 1 => rw [outsAt0_C m c t (by omega) (by omega) (by omega)]
  on_goal 2 => rw [outsAt0_B m c t (by omega) (by omega) (by omega)]
  all_goals
    frame_open
    simp (disch := decide) only [↓ View.readCov_skip, ↓ View.readCov_cons_toLoadRect, ↓ View.readCov_fill]
    frame_out
    simp only [read_unread_whole]
    unfold k0_pay3
    pointwise

/-- What the last of a tile's points stores: the accumulator. -/
theorem stored (c : Dev nD) (t : Fin cfg0.N) (h : t.val % 8 = 7) (y : S1024x1024.Idx) :
    ((outsAt0 m c t.val t.isLt).1 y : EReal) = (outsAt0 m c t.val t.isLt).2 y := by
  have hN := lt_of_lt_of_eq t.isLt N_0
  rw [outsAt0_C m c t (by omega) (by omega) (by omega)]; frame_open
  simp (disch := decide) only [↓ View.readCov_skip, ↓ View.readCov_cons_toLoadRect, ↓ View.readCov_fill]
  frame_out
  unfold k0_pay4
  pointwise

/-- The array that the call leaves. -/
theorem array (c : Dev nD) : (dats m 0 c).arrAt 2 (cfgs 0).N = fun z : S1024x1024.Idx =>
    dot (fun k : Fin 8192 => x m c (ix2 k (z 0))) (fun k => dy m c (ix2 k (z 1))) := by
  refine (dats m 0 c).arrAt_eq_of_covers 2 _ (by decide +kernel) fun t hf y => ?_
  have ht := (flush0_2 t).mp hf
  have hN := lt_of_lt_of_eq t.isLt N_0
  have h0 : (y 0).val < 1024 := (y 0).isLt
  have h1 : (y 1).val < 1024 := (y 1).isLt
  rw [after0_2]
  refine (stored m c t (by omega) y).trans ((weights (T := 1024) (J := 8) (by decide) (fun n h => (outsAt0 m c n h).2) (x m c) (dy m c) (fun _ => 0) (fun _ => 0)
    (fun t => iblk m c 0 t) (fun t => iblk m c 1 t) (fun t k i => ?_) (fun t k i => ?_)
    (fun t h y => (begun m c t h y).trans (part _ _ y)) (fun t h h' y => (continued m c t h h' y).trans (congrArg (_ + ·) (part _ _ y))) t (by omega) y).trans
    (congrArg₂ dot (funext fun k : Fin 8192 => ?_) (funext fun k : Fin 8192 => ?_)))
  · have := lt_of_lt_of_eq t.isLt N_0; rw [entry_at _ _ _ (by omega) (by omega)]; blk_ext [iblk, index t]
  · have := lt_of_lt_of_eq t.isLt N_0; rw [entry_at _ _ _ (by omega) (by omega)]; blk_ext [iblk, index t]
  · rw [entry_at _ _ _ k.isLt (by omega)]; blk_ext [index t]
  · rw [entry_at _ _ _ k.isLt (by omega)]; blk_ext [index t]

/-- The call's result is the reference's. -/
theorem equation : Cert.algebraic_DwoutIdeal_DwoutRefIdeal := by
  pair_intro
  · run_from (Cert.DwoutIdeal.Gen.run_main m g)
  · run_from (Cert.DwoutRefIdeal.Value.run m' g')
    rw [array]
    funext z
    obtain ⟨h0, h1⟩ := hagree c
    pointwise
    exact dot_comm _ _

end Cert.DwoutIdeal.Gradient

end
-- ==== Proof.DwgateProduct.lean ====
/-
  THE GRADIENT OF THE WEIGHTS that make the recurrent layer's output gate: the transposed input times the gradient of the gate. They are gathered in an
  accumulator over eight grid points, each with 1024 of the 8192 rows of the batch; the last of them rounds and stores it.
-/
module

public import proofs.«01_k».proof.Defs
public import proofs.«01_k».proof.Proof.Product
public import proofs.«01_k».proof.Proof.Gen.DwgateIdeal.Frame
public import proofs.«01_k».proof.Proof.Gen.DwgateRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DwgateIdeal.Gradient

open Idealize.ShloMosaic Idealize.ShloMosaic.TcCoe Idealize.SL.Sem
open Cert.DwgateIdeal Cert.DwgateIdeal.Gen Cert.Product

variable (m : (ℓ : Loc nD τ sig) → Buf (Elt Ideal) ℓ)

/-- What one grid point multiplies: two blocks of 1024 rows of the batch. -/
theorem part (a : Vec Ideal S1024x1024 .bf16) (b : Vec Ideal S1024x768 .bf16) (y : S1024x768.Idx) :
    k0_pay1 a b y = dot (fun k => a (ix2 k (y 0))) (fun k => b (ix2 k (y 1))) := by
  unfold k0_pay1 dot
  pointwise

/-- Which tiles of the arrays the grid's points hold. -/
theorem index (t : Fin cfg0.N) : win0_0.index t = ![t.val % 8, 0] ∧ win0_1.index t = ![t.val % 8, 0] ∧ win0_2.index t = ![0, 0] := by
  revert t; decide +kernel

/-- The input. -/
def x (c : Dev nD) : S8192x1024.Idx → EReal := m ((c : Thread nD τ).loc main_arg0)
/-- The gradient of the gate. -/
def dy (c : Dev nD) : S8192x768.Idx → EReal := m ((c : Thread nD τ).loc main_arg1)

/-- The accumulator after the first of a tile's points. -/
theorem begun (c : Dev nD) (t : Fin cfg0.N) (h : t.val % 8 = 0) (y : S1024x768.Idx) :
    (outsAt0 m c t.val t.isLt).2 y = k0_pay1 (iblk m c 0 t) (iblk m c 1 t) y := by
  have hN := lt_of_lt_of_eq t.isLt N_0
  rw [outsAt0_A m c t (by omega) (by omega) (by omega)]; frame_open
  simp (disch := decide) only [↓ View.readCov_skip, ↓ View.readCov_cons_toLoadRect, ↓ View.readCov_fill]
  frame_out
  unfold k0_pay2
  pointwise

/-- The accumulator after each of the others. -/
theorem continued (c : Dev nD) (t : Fin cfg0.N) (h : ¬ t.val % 8 = 0) (h' : t.val - 1 < cfg0.N) (y : S1024x768.Idx) :
    (outsAt0 m c t.val t.isLt).2 y = (outsAt0 m c (t.val - 1) h').2 y + k0_pay1 (iblk m c 0 t) (iblk m c 1 t) y := by
  have hN := lt_of_lt_of_eq t.isLt N_0
  by_cases e : t.val % 8 = 7
  on_goal 1 => rw [outsAt0_C m c t (by omega) (by omega) (by omega)]
  on_goal 2 => rw [outsAt0_B m c t (by omega) (by omega) (by omega)]
  all_goals
    frame_open
    simp (disch := decide) only [↓ View.readCov_skip, ↓ View.readCov_cons_toLoadRect, ↓ View.readCov_fill]
    frame_out
    simp only [read_unread_whole]
    unfold k0_pay3
    pointwise

/-- What the last of a tile's points stores: the accumulator. -/
theorem stored (c : Dev nD) (t : Fin cfg0.N) (h : t.val % 8 = 7) (y : S1024x768.Idx) :
    ((outsAt0 m c t.val t.isLt).1 y : EReal) = (outsAt0 m c t.val t.isLt).2 y := by
  have hN := lt_of_lt_of_eq t.isLt N_0
  rw [outsAt0_C m c t (by omega) (by omega) (by omega)]; frame_open
  simp (disch := decide) only [↓ View.readCov_skip, ↓ View.readCov_cons_toLoadRect, ↓ View.readCov_fill]
  frame_out
  unfold k0_pay4
  pointwise

/-- The array that the call leaves. -/
theorem array (c : Dev nD) : (dats m 0 c).arrAt 2 (cfgs 0).N = fun z : S1024x768.Idx =>
    dot (fun k : Fin 8192 => x m c (ix2 k (z 0))) (fun k => dy m c (ix2 k (z 1))) := by
  refine (dats m 0 c).arrAt_eq_of_covers 2 _ (by decide +kernel) fun t hf y => ?_
  have ht := (flush0_2 t).mp hf
  have hN := lt_of_lt_of_eq t.isLt N_0
  have h0 : (y 0).val < 1024 := (y 0).isLt
  have h1 : (y 1).val < 768 := (y 1).isLt
  rw [after0_2]
  refine (stored m c t (by omega) y).trans ((weights (T := 1024) (J := 8) (by decide) (fun n h => (outsAt0 m c n h).2) (x m c) (dy m c) (fun _ => 0) (fun _ => 0)
    (fun t => iblk m c 0 t) (fun t => iblk m c 1 t) (fun t k i => ?_) (fun t k i => ?_)
    (fun t h y => (begun m c t h y).trans (part _ _ y)) (fun t h h' y => (continued m c t h h' y).trans (congrArg (_ + ·) (part _ _ y))) t (by omega) y).trans
    (congrArg₂ dot (funext fun k : Fin 8192 => ?_) (funext fun k : Fin 8192 => ?_)))
  · have := lt_of_lt_of_eq t.isLt N_0; rw [entry_at _ _ _ (by omega) (by omega)]; blk_ext [iblk, index t]
  · have := lt_of_lt_of_eq t.isLt N_0; rw [entry_at _ _ _ (by omega) (by omega)]; blk_ext [iblk, index t]
  · rw [entry_at _ _ _ k.isLt (by omega)]; blk_ext [index t]
  · rw [entry_at _ _ _ k.isLt (by omega)]; blk_ext [index t]

/-- The call's result is the reference's. -/
theorem equation : Cert.algebraic_DwgateIdeal_DwgateRefIdeal := by
  pair_intro
  · run_from (Cert.DwgateIdeal.Gen.run_main m g)
  · run_from (Cert.DwgateRefIdeal.Value.run m' g')
    rw [array]
    funext z
    obtain ⟨h0, h1⟩ := hagree c
    pointwise
    exact dot_comm _ _

end Cert.DwgateIdeal.Gradient

end
-- ==== Proof.DwrestProduct.lean ====
/-
  THE GRADIENT OF THE WEIGHTS of the recurrent layer's last 384 columns: the transposed input times their gradient. They are gathered in an
  accumulator over eight grid points, each with 1024 of the 8192 rows of the batch; the last of them rounds and stores it.
-/
module

public import proofs.«01_k».proof.Defs
public import proofs.«01_k».proof.Proof.Product
public import proofs.«01_k».proof.Proof.Gen.DwrestIdeal.Frame
public import proofs.«01_k».proof.Proof.Gen.DwrestRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DwrestIdeal.Gradient

open Idealize.ShloMosaic Idealize.ShloMosaic.TcCoe Idealize.SL.Sem
open Cert.DwrestIdeal Cert.DwrestIdeal.Gen Cert.Product

variable (m : (ℓ : Loc nD τ sig) → Buf (Elt Ideal) ℓ)

/-- What one grid point multiplies: two blocks of 1024 rows of the batch. -/
theorem part (a : Vec Ideal S1024x1024 .bf16) (b : Vec Ideal S1024x384 .bf16) (y : S1024x384.Idx) :
    k0_pay1 a b y = dot (fun k => a (ix2 k (y 0))) (fun k => b (ix2 k (y 1))) := by
  unfold k0_pay1 dot
  pointwise

/-- Which tiles of the arrays the grid's points hold. -/
theorem index (t : Fin cfg0.N) : win0_0.index t = ![t.val % 8, 0] ∧ win0_1.index t = ![t.val % 8, 0] ∧ win0_2.index t = ![0, 0] := by
  revert t; decide +kernel

/-- The input. -/
def x (c : Dev nD) : S8192x1024.Idx → EReal := m ((c : Thread nD τ).loc main_arg0)
/-- The gradient of the last columns. -/
def dy (c : Dev nD) : S8192x384.Idx → EReal := m ((c : Thread nD τ).loc main_arg1)

/-- The accumulator after the first of a tile's points. -/
theorem begun (c : Dev nD) (t : Fin cfg0.N) (h : t.val % 8 = 0) (y : S1024x384.Idx) :
    (outsAt0 m c t.val t.isLt).2 y = k0_pay1 (iblk m c 0 t) (iblk m c 1 t) y := by
  have hN := lt_of_lt_of_eq t.isLt N_0
  rw [outsAt0_A m c t (by omega) (by omega) (by omega)]; frame_open
  simp (disch := decide) only [↓ View.readCov_skip, ↓ View.readCov_cons_toLoadRect, ↓ View.readCov_fill]
  frame_out
  unfold k0_pay2
  pointwise

/-- The accumulator after each of the others. -/
theorem continued (c : Dev nD) (t : Fin cfg0.N) (h : ¬ t.val % 8 = 0) (h' : t.val - 1 < cfg0.N) (y : S1024x384.Idx) :
    (outsAt0 m c t.val t.isLt).2 y = (outsAt0 m c (t.val - 1) h').2 y + k0_pay1 (iblk m c 0 t) (iblk m c 1 t) y := by
  have hN := lt_of_lt_of_eq t.isLt N_0
  by_cases e : t.val % 8 = 7
  on_goal 1 => rw [outsAt0_C m c t (by omega) (by omega) (by omega)]
  on_goal 2 => rw [outsAt0_B m c t (by omega) (by omega) (by omega)]
  all_goals
    frame_open
    simp (disch := decide) only [↓ View.readCov_skip, ↓ View.readCov_cons_toLoadRect, ↓ View.readCov_fill]
    frame_out
    simp only [read_unread_whole]
    unfold k0_pay3
    pointwise

/-- What the last of a tile's points stores: the accumulator. -/
theorem stored (c : Dev nD) (t : Fin cfg0.N) (h : t.val % 8 = 7) (y : S1024x384.Idx) :
    ((outsAt0 m c t.val t.isLt).1 y : EReal) = (outsAt0 m c t.val t.isLt).2 y := by
  have hN := lt_of_lt_of_eq t.isLt N_0
  rw [outsAt0_C m c t (by omega) (by omega) (by omega)]; frame_open
  simp (disch := decide) only [↓ View.readCov_skip, ↓ View.readCov_cons_toLoadRect, ↓ View.readCov_fill]
  frame_out
  unfold k0_pay4
  pointwise

/-- The array that the call leaves. -/
theorem array (c : Dev nD) : (dats m 0 c).arrAt 2 (cfgs 0).N = fun z : S1024x384.Idx =>
    dot (fun k : Fin 8192 => x m c (ix2 k (z 0))) (fun k => dy m c (ix2 k (z 1))) := by
  refine (dats m 0 c).arrAt_eq_of_covers 2 _ (by decide +kernel) fun t hf y => ?_
  have ht := (flush0_2 t).mp hf
  have hN := lt_of_lt_of_eq t.isLt N_0
  have h0 : (y 0).val < 1024 := (y 0).isLt
  have h1 : (y 1).val < 384 := (y 1).isLt
  rw [after0_2]
  refine (stored m c t (by omega) y).trans ((weights (T := 1024) (J := 8) (by decide) (fun n h => (outsAt0 m c n h).2) (x m c) (dy m c) (fun _ => 0) (fun _ => 0)
    (fun t => iblk m c 0 t) (fun t => iblk m c 1 t) (fun t k i => ?_) (fun t k i => ?_)
    (fun t h y => (begun m c t h y).trans (part _ _ y)) (fun t h h' y => (continued m c t h h' y).trans (congrArg (_ + ·) (part _ _ y))) t (by omega) y).trans
    (congrArg₂ dot (funext fun k : Fin 8192 => ?_) (funext fun k : Fin 8192 => ?_)))
  · have := lt_of_lt_of_eq t.isLt N_0; rw [entry_at _ _ _ (by omega) (by omega)]; blk_ext [iblk, index t]
  · have := lt_of_lt_of_eq t.isLt N_0; rw [entry_at _ _ _ (by omega) (by omega)]; blk_ext [iblk, index t]
  · rw [entry_at _ _ _ k.isLt (by omega)]; blk_ext [index t]
  · rw [entry_at _ _ _ k.isLt (by omega)]; blk_ext [index t]

/-- The call's result is the reference's. -/
theorem equation : Cert.algebraic_DwrestIdeal_DwrestRefIdeal := by
  pair_intro
  · run_from (Cert.DwrestIdeal.Gen.run_main m g)
  · run_from (Cert.DwrestRefIdeal.Value.run m' g')
    rw [array]
    funext z
    obtain ⟨h0, h1⟩ := hagree c
    pointwise
    exact dot_comm _ _

end Cert.DwrestIdeal.Gradient

end
-- ==== Proof.DhqkvProduct.lean ====
/-
  THE GRADIENT THAT REACHES THE ATTENTION'S INPUT: the gradient of the queries, keys and values times the transposed weights, eight tiles of 1024 rows.
-/
module

public import proofs.«01_k».proof.Defs
public import proofs.«01_k».proof.Proof.Product
public import proofs.«01_k».proof.Proof.Gen.DhqkvIdeal.Frame
public import proofs.«01_k».proof.Proof.Gen.DhqkvRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DhqkvIdeal.Gradient

open Idealize.ShloMosaic Idealize.ShloMosaic.TcCoe Idealize.SL.Sem
open Cert.DhqkvIdeal Cert.DhqkvIdeal.Gen Cert.Product

variable (m : (ℓ : Loc nD τ sig) → Buf (Elt Ideal) ℓ)

/-- One tile: each place is the product of a row of gradients and a row of weights. -/
theorem tile (a : Vec Ideal S1024x2304 .bf16) (b : Vec Ideal S1024x2304 .bf16) (y : S1024x1024.Idx) :
    out0_2 a b y = dot (fun k => a (ix2 (y 0) k)) (fun k => b (ix2 (y 1) k)) := by
  unfold out0_2 dot
  frame_out
  unfold k0_pay1
  pointwise

/-- Which tiles of the arrays the grid's points hold. -/
theorem index (t : Fin cfg0.N) : win0_0.index t = ![t.val, 0] ∧ win0_1.index t = ![0, 0] ∧ win0_2.index t = ![t.val, 0] := by
  revert t; decide +kernel

/-- The gradient of the queries, keys and values. -/
def x (c : Dev nD) : S8192x2304.Idx → EReal := m ((c : Thread nD τ).loc main_arg0)
/-- The weights. -/
def w (c : Dev nD) : S1024x2304.Idx → EReal := m ((c : Thread nD τ).loc main_arg1)

/-- The array that the call leaves. -/
theorem array (c : Dev nD) : (dats m 0 c).arrAt 2 (cfgs 0).N = fun z : S8192x1024.Idx => dot (fun k : Fin 2304 => x m c (ix2 (z 0) k)) (fun k => w m c (ix2 (z 1) k)) := by
  refine (dats m 0 c).arrAt_eq_of_covers 2 _ (by decide +kernel) fun t hf y => ?_
  rw [after0_2, tile]
  refine congrArg₂ dot (funext fun k => ?_) (funext fun k => ?_)
  · blk_ext [iblk, index t]
  · blk_ext [iblk, index t]

/-- The call's result is the reference's. -/
theorem equation : Cert.algebraic_DhqkvIdeal_DhqkvRefIdeal := by
  pair_intro
  · run_from (Cert.DhqkvIdeal.Gen.run_main m g)
  · run_from (Cert.DhqkvRefIdeal.Value.run m' g')
    rw [array]
    funext z
    obtain ⟨h0, h1⟩ := hagree c
    pointwise
    rfl

end Cert.DhqkvIdeal.Gradient

end
-- ==== Proof.DmixProduct.lean ====
/-
  THE GRADIENT THAT REACHES A MIXER'S RESULT through its output projection: the incoming gradient times the transposed weights, eight tiles of 1024 rows.
-/
module

public import proofs.«01_k».proof.Defs
public import proofs.«01_k».proof.Proof.Product
public import proofs.«01_k».proof.Proof.Gen.DmixIdeal.Frame
public import proofs.«01_k».proof.Proof.Gen.DmixRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DmixIdeal.Gradient

open Idealize.ShloMosaic Idealize.ShloMosaic.TcCoe Idealize.SL.Sem
open Cert.DmixIdeal Cert.DmixIdeal.Gen Cert.Product

variable (m : (ℓ : Loc nD τ sig) → Buf (Elt Ideal) ℓ)

/-- One tile: each place is the product of a row of gradients and a row of weights. -/
theorem tile (a : Vec Ideal S1024x1024 .bf16) (b : Vec Ideal S1024x1024 .bf16) (y : S1024x1024.Idx) :
    out0_2 a b y = dot (fun k => a (ix2 (y 0) k)) (fun k => b (ix2 (y 1) k)) := by
  unfold out0_2 dot
  frame_out
  unfold k0_pay1
  pointwise

/-- Which tiles of the arrays the grid's points hold. -/
theorem index (t : Fin cfg0.N) : win0_0.index t = ![t.val, 0] ∧ win0_1.index t = ![0, 0] ∧ win0_2.index t = ![t.val, 0] := by
  revert t; decide +kernel

/-- The incoming gradient. -/
def x (c : Dev nD) : S8192x1024.Idx → EReal := m ((c : Thread nD τ).loc main_arg0)
/-- The weights. -/
def w (c : Dev nD) : S1024x1024.Idx → EReal := m ((c : Thread nD τ).loc main_arg1)

/-- The array that the call leaves. -/
theorem array (c : Dev nD) : (dats m 0 c).arrAt 2 (cfgs 0).N = fun z : S8192x1024.Idx => dot (fun k : Fin 1024 => x m c (ix2 (z 0) k)) (fun k => w m c (ix2 (z 1) k)) := by
  refine (dats m 0 c).arrAt_eq_of_covers 2 _ (by decide +kernel) fun t hf y => ?_
  rw [after0_2, tile]
  refine congrArg₂ dot (funext fun k => ?_) (funext fun k => ?_)
  · blk_ext [iblk, index t]
  · blk_ext [iblk, index t]

/-- The call's result is the reference's. -/
theorem equation : Cert.algebraic_DmixIdeal_DmixRefIdeal := by
  pair_intro
  · run_from (Cert.DmixIdeal.Gen.run_main m g)
  · run_from (Cert.DmixRefIdeal.Value.run m' g')
    rw [array]
    funext z
    obtain ⟨h0, h1⟩ := hagree c
    pointwise
    rfl

end Cert.DmixIdeal.Gradient

end
-- ==== Proof.DrecProduct.lean ====
/-
  THE GRADIENT THAT REACHES THE RECURRENT LAYER'S INPUT through its input projection: three products, of the gradients of the DeltaNet's 2304 columns,
  of the gate's 768 and of the last 384 with their parts of the transposed weights, added in one kernel. They are the one product over all 3456
  columns, a sum in three parts.
-/
module

public import proofs.«01_k».proof.Defs
public import proofs.«01_k».proof.Proof.Product
public import proofs.«01_k».proof.Proof.Gen.DrecIdeal.Frame
public import proofs.«01_k».proof.Proof.Gen.DrecRefIdeal.Run
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.PureOps.Ideal.Laws

@[expose] public section

set_option maxRecDepth 16384

noncomputable section

namespace Cert.DrecIdeal.Gradient

open Idealize.ShloMosaic Idealize.ShloMosaic.TcCoe Idealize.SL.Sem
open Cert.DrecIdeal Cert.DrecIdeal.Gen Cert.Product

variable (m : (ℓ : Loc nD τ sig) → Buf (Elt Ideal) ℓ)

/-- One tile: each place is the sum of the three products of its rows. -/
theorem tile (a : Vec Ideal S1024x2304 .bf16) (b : Vec Ideal S1024x2304 .bf16) (a' : Vec Ideal S1024x768 .bf16) (b' : Vec Ideal S1024x768 .bf16)
    (a'' : Vec Ideal S1024x384 .bf16) (b'' : Vec Ideal S1024x384 .bf16) (y : S1024x1024.Idx) :
    out0_6 a b a' b' a'' b'' y = dot (fun k => a (ix2 (y 0) k)) (fun k => b (ix2 (y 1) k)) + dot (fun k => a' (ix2 (y 0) k)) (fun k => b' (ix2 (y 1) k))
      + dot (fun k => a'' (ix2 (y 0) k)) (fun k => b'' (ix2 (y 1) k)) := by
  unfold out0_6 dot
  frame_out
  unfold k0_pay1
  pointwise

/-- Which tiles of the arrays the grid's points hold. -/
theorem index (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] := by
  revert t; decide +kernel

/-- The arguments: the three gradients and the weights. -/
def da (c : Dev nD) : S8192x2304.Idx → EReal := m ((c : Thread nD τ).loc main_arg0)
def db (c : Dev nD) : S8192x768.Idx → EReal := m ((c : Thread nD τ).loc main_arg1)
def dc (c : Dev nD) : S8192x384.Idx → EReal := m ((c : Thread nD τ).loc main_arg2)
def w (c : Dev nD) : S1024x3456.Idx → EReal := m ((c : Thread nD τ).loc main_arg3)

/-- The weights' three parts, which are cut out before the kernel runs. -/
theorem cut_a (c : Dev nD) (i : Fin 1024) (k : Fin 2304) : ((V m c main_v0 : S1024x2304.Idx → EReal) (ix2 i k)) = w m c (ix2 i ⟨k.val, by omega⟩) := by
  after_reads_at; rfl
theorem cut_b (c : Dev nD) (i : Fin 1024) (k : Fin 768) : ((V m c main_v1 : S1024x768.Idx → EReal) (ix2 i k)) = w m c (ix2 i ⟨2304 + k.val, by omega⟩) := by
  after_reads_at; rfl
theorem cut_c (c : Dev nD) (i : Fin 1024) (k : Fin 384) : ((V m c main_v2 : S1024x384.Idx → EReal) (ix2 i k)) = w m c (ix2 i ⟨3072 + k.val, by omega⟩) := by
  after_reads_at; rfl

/-- The array that the call leaves. -/
theorem array (c : Dev nD) : (dats m 0 c).arrAt 6 (cfgs 0).N = fun z : S8192x1024.Idx =>
    dot (fun k : Fin 2304 => da m c (ix2 (z 0) k)) (fun k => w m c (ix2 (z 1) ⟨k.val, by omega⟩))
      + dot (fun k : Fin 768 => db m c (ix2 (z 0) k)) (fun k => w m c (ix2 (z 1) ⟨2304 + k.val, by omega⟩))
      + dot (fun k : Fin 384 => dc m c (ix2 (z 0) k)) (fun k => w m c (ix2 (z 1) ⟨3072 + k.val, by omega⟩)) := by
  refine (dats m 0 c).arrAt_eq_of_covers 6 _ (by decide +kernel) fun t hf y => ?_
  rw [after0_6, tile]
  refine congrArg₂ (· + ·) (congrArg₂ (· + ·) (congrArg₂ dot (funext fun k => ?_) (funext fun k => ?_)) (congrArg₂ dot (funext fun k => ?_) (funext fun k => ?_)))
    (congrArg₂ dot (funext fun k => ?_) (funext fun k => ?_))
  · blk_ext [iblk, index t]
  · refine Eq.trans ?_ (cut_a m c _ k)
    blk_ext [iblk, index t]
  · blk_ext [iblk, index t]
  · refine Eq.trans ?_ (cut_b m c _ k)
    blk_ext [iblk, index t]
  · blk_ext [iblk, index t]
  · refine Eq.trans ?_ (cut_c m c _ k)
    blk_ext [iblk, index t]

/-- The call's result is the reference's. -/
theorem equation : Cert.algebraic_DrecIdeal_DrecRefIdeal := by
  pair_intro
  · run_from (Cert.DrecIdeal.Gen.run_main m g)
  · run_from (Cert.DrecRefIdeal.Value.run m' g')
    rw [array]
    funext z
    obtain ⟨h0, h1, h2, h3⟩ := hagree c
    pointwise
    refine (Fin.sum_univ_add (a := 2304) (b := 1152) _).trans ?_
    rw [add_assoc]
    refine congrArg₂ (· + ·) (Finset.sum_congr rfl fun k _ => congrArg (· * _) (dif_pos k.isLt)) ((Fin.sum_univ_add (a := 768) (b := 384) _).trans
      (congrArg₂ (· + ·) (Finset.sum_congr rfl fun k _ => ?_) (Finset.sum_congr rfl fun k _ => ?_)))
    · refine congrArg₂ (· * ·) ((dif_neg (by simp)).trans ((dif_pos (by simp)).trans (congrArg (fun j => db m c (ix2 (z 0) j)) (Fin.ext ?_)))) rfl
      simp only [Fin.val_natAdd, Fin.val_castAdd]
      omega
    · refine congrArg₂ (· * ·) ((dif_neg (by simp)).trans ((dif_neg (by simp)).trans (congrArg (fun j => dc m c (ix2 (z 0) j)) (Fin.ext ?_))))
        (congrArg (fun j => w m c (ix2 (z 1) j)) (Fin.ext ?_))
      all_goals simp only [Fin.val_natAdd]
      all_goals omega

end Cert.DrecIdeal.Gradient

end
-- ==== Proof.lean ====
module

public import proofs.«01_k».proof.Proof.ScanFrameBits
public import proofs.«01_k».proof.Proof.ScanEquation
public import proofs.«01_k».proof.Proof.Gen.Pre_finite_scan
public import proofs.«01_k».proof.Proof.Gen.Dscan.Frame
public import proofs.«01_k».proof.Proof.Gen.Dscan.Loops
public import proofs.«01_k».proof.Proof.Gen.Dscan.Skeleton
public import proofs.«01_k».proof.Proof.Gen.DscanIdeal.Loops
public import proofs.«01_k».proof.Proof.Gen.DscanIdeal.Skeleton
public import proofs.«01_k».proof.Proof.Gen.DscanRefIdeal.Run
public import proofs.«01_k».proof.Proof.Gen.DscanIdeal.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.Dwdown.Frame
public import proofs.«01_k».proof.Proof.Gen.DwdownIdeal
public import proofs.«01_k».proof.Proof.Gen.DwdownIdeal.Skeleton
public import proofs.«01_k».proof.Proof.Gen.DwdownIdeal.Launch
public import proofs.«01_k».proof.Proof.Gen.DwdownIdeal.Points
public import proofs.«01_k».proof.Proof.Gen.DwdownIdeal.Frame
public import proofs.«01_k».proof.Proof.Gen.DwdownRefIdeal
public import proofs.«01_k».proof.Proof.Gen.DwdownRefIdeal.Run
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.DactRefIdeal.Run
public import proofs.«01_k».proof.Proof.Gen.Dwup.Frame
public import proofs.«01_k».proof.Proof.Gen.DwupIdeal
public import proofs.«01_k».proof.Proof.Gen.DwupIdeal.Skeleton
public import proofs.«01_k».proof.Proof.Gen.DwupIdeal.Launch
public import proofs.«01_k».proof.Proof.Gen.DwupIdeal.Points
public import proofs.«01_k».proof.Proof.Gen.DwupIdeal.Frame
public import proofs.«01_k».proof.Proof.Gen.DwupRefIdeal
public import proofs.«01_k».proof.Proof.Gen.DwupRefIdeal.Run
public import proofs.«01_k».proof.Proof.Gen.Dhid.Frame
public import proofs.«01_k».proof.Proof.Gen.DhidIdeal
public import proofs.«01_k».proof.Proof.Gen.DhidIdeal.Skeleton
public import proofs.«01_k».proof.Proof.Gen.DhidIdeal.Launch
public import proofs.«01_k».proof.Proof.Gen.DhidIdeal.Points
public import proofs.«01_k».proof.Proof.Gen.DhidIdeal.Frame
public import proofs.«01_k».proof.Proof.Gen.DhidRefIdeal
public import proofs.«01_k».proof.Proof.Gen.DhidRefIdeal.Run
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.Mixout.Frame
public import proofs.«01_k».proof.Proof.Gen.MixoutIdeal
public import proofs.«01_k».proof.Proof.Gen.MixoutIdeal.Skeleton
public import proofs.«01_k».proof.Proof.Gen.MixoutIdeal.Launch
public import proofs.«01_k».proof.Proof.Gen.MixoutIdeal.Points
public import proofs.«01_k».proof.Proof.Gen.MixoutIdeal.Frame
public import proofs.«01_k».proof.Proof.Gen.MixoutRefIdeal
public import proofs.«01_k».proof.Proof.Gen.MixoutRefIdeal.Run
public import proofs.«01_k».proof.Proof.Gen.Recin.Frame
public import proofs.«01_k».proof.Proof.Gen.RecinIdeal
public import proofs.«01_k».proof.Proof.Gen.RecinIdeal.Skeleton
public import proofs.«01_k».proof.Proof.Gen.RecinIdeal.Launch
public import proofs.«01_k».proof.Proof.Gen.RecinIdeal.Points
public import proofs.«01_k».proof.Proof.Gen.RecinIdeal.Frame
public import proofs.«01_k».proof.Proof.Gen.RecinRefIdeal
public import proofs.«01_k».proof.Proof.Gen.RecinRefIdeal.Run
public import proofs.«01_k».proof.Proof.Gen.Dwqkv.Frame
public import proofs.«01_k».proof.Proof.Gen.DwqkvIdeal
public import proofs.«01_k».proof.Proof.Gen.DwqkvIdeal.Skeleton
public import proofs.«01_k».proof.Proof.Gen.DwqkvIdeal.Launch
public import proofs.«01_k».proof.Proof.Gen.DwqkvIdeal.Points
public import proofs.«01_k».proof.Proof.Gen.DwqkvIdeal.Frame
public import proofs.«01_k».proof.Proof.Gen.DwqkvRefIdeal
public import proofs.«01_k».proof.Proof.Gen.DwqkvRefIdeal.Run
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutRefIdeal
public import proofs.«01_k».proof.Proof.Gen.DwoutRefIdeal.Run
public import proofs.«01_k».proof.Proof.Gen.Dwgate.Frame
public import proofs.«01_k».proof.Proof.Gen.DwgateIdeal
public import proofs.«01_k».proof.Proof.Gen.DwgateIdeal.Skeleton
public import proofs.«01_k».proof.Proof.Gen.DwgateIdeal.Launch
public import proofs.«01_k».proof.Proof.Gen.DwgateIdeal.Points
public import proofs.«01_k».proof.Proof.Gen.DwgateIdeal.Frame
public import proofs.«01_k».proof.Proof.Gen.DwgateRefIdeal
public import proofs.«01_k».proof.Proof.Gen.DwgateRefIdeal.Run
public import proofs.«01_k».proof.Proof.Gen.Dwrest.Frame
public import proofs.«01_k».proof.Proof.Gen.DwrestIdeal
public import proofs.«01_k».proof.Proof.Gen.DwrestIdeal.Skeleton
public import proofs.«01_k».proof.Proof.Gen.DwrestIdeal.Launch
public import proofs.«01_k».proof.Proof.Gen.DwrestIdeal.Points
public import proofs.«01_k».proof.Proof.Gen.DwrestIdeal.Frame
public import proofs.«01_k».proof.Proof.Gen.DwrestRefIdeal
public import proofs.«01_k».proof.Proof.Gen.DwrestRefIdeal.Run
public import proofs.«01_k».proof.Proof.Gen.Dhqkv.Frame
public import proofs.«01_k».proof.Proof.Gen.DhqkvIdeal
public import proofs.«01_k».proof.Proof.Gen.DhqkvIdeal.Skeleton
public import proofs.«01_k».proof.Proof.Gen.DhqkvIdeal.Launch
public import proofs.«01_k».proof.Proof.Gen.DhqkvIdeal.Points
public import proofs.«01_k».proof.Proof.Gen.DhqkvIdeal.Frame
public import proofs.«01_k».proof.Proof.Gen.DhqkvRefIdeal
public import proofs.«01_k».proof.Proof.Gen.DhqkvRefIdeal.Run
public import proofs.«01_k».proof.Proof.Gen.Dmix.Frame
public import proofs.«01_k».proof.Proof.Gen.DmixIdeal
public import proofs.«01_k».proof.Proof.Gen.DmixIdeal.Skeleton
public import proofs.«01_k».proof.Proof.Gen.DmixIdeal.Launch
public import proofs.«01_k».proof.Proof.Gen.DmixIdeal.Points
public import proofs.«01_k».proof.Proof.Gen.DmixIdeal.Frame
public import proofs.«01_k».proof.Proof.Gen.DmixRefIdeal
public import proofs.«01_k».proof.Proof.Gen.DmixRefIdeal.Run
public import proofs.«01_k».proof.Proof.Gen.Drec.Frame
public import proofs.«01_k».proof.Proof.Gen.DrecIdeal
public import proofs.«01_k».proof.Proof.Gen.DrecIdeal.Skeleton
public import proofs.«01_k».proof.Proof.Gen.DrecIdeal.Launch
public import proofs.«01_k».proof.Proof.Gen.DrecIdeal.Points
public import proofs.«01_k».proof.Proof.Gen.DrecIdeal.Frame
public import proofs.«01_k».proof.Proof.Gen.DrecRefIdeal
public import proofs.«01_k».proof.Proof.Gen.DrecRefIdeal.Run
public import proofs.«01_k».proof.Proof.DwdownProduct
public import proofs.«01_k».proof.Proof.DactProduct
public import proofs.«01_k».proof.Proof.DwupProduct
public import proofs.«01_k».proof.Proof.DhidProduct
public import proofs.«01_k».proof.Proof.UpProduct
public import proofs.«01_k».proof.Proof.DownProduct
public import proofs.«01_k».proof.Proof.QkvProduct
public import proofs.«01_k».proof.Proof.MixoutProduct
public import proofs.«01_k».proof.Proof.RecinProduct
public import proofs.«01_k».proof.Proof.DwqkvProduct
public import proofs.«01_k».proof.Proof.DwoutProduct
public import proofs.«01_k».proof.Proof.DwgateProduct
public import proofs.«01_k».proof.Proof.DwrestProduct
public import proofs.«01_k».proof.Proof.DhqkvProduct
public import proofs.«01_k».proof.Proof.DmixProduct
public import proofs.«01_k».proof.Proof.DrecProduct
public import proofs.«01_k».proof.Proof.ActEquation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference keeps its arguments and owns no semaphore. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The kernel's three results are the reference's. -/
theorem act_equation : Cert.algebraic_KernelIdeal_ReferenceIdeal_pre_finite := by
  pair_intro
  · run_from (Cert.KernelIdeal.Gen.run_main m g)
  · have ag : ∀ c, Cert.Act.Agree m m' c := fun c => by
      obtain ⟨h0, h1, h2, h3⟩ := hagree c
      obtain ⟨r1, r2, r3⟩ := Cert.Act.real_of_pre _ _ _ _ (hpre c)
      exact ⟨h0, h1, h2, h3, fun z => (congrArg Cert.Act.IsReal (congrFun h1 z)).mpr (r1 z), fun z => (congrArg Cert.Act.IsReal (congrFun h2 z)).mpr (r2 z), fun z => (congrArg Cert.Act.IsReal (congrFun h3 z)).mpr (r3 z)⟩
    run_from (Cert.ReferenceIdeal.Value.run m' g')
    · exact (ag c).input_A
    · exact (ag c).input_B
    · exact (ag c).weights

/-- The scan's reference keeps its arguments and owns no semaphore. -/
theorem frame_scan_reference : Cert.quiescent_DscanRefIdeal := fun m ρ _ =>
  (θ_run Cert.DscanRefIdeal.defs _ _).mono (fun r h => ⟨fun c => (h c).2.2.2, Idealize.ShloMosaic.sem_eq_zero_of_no_sems (by decide) r.2⟩)
    (Cert.DscanRefIdeal.Value.run (F := Ideal) m ρ)

theorem claim : Cert.Claim := ⟨Cert.Dscan.Gen.facts, Cert.DscanIdeal.Gen.facts, Cert.DscanRefIdeal.Gen.facts,
  Cert.Kernel.Gen.facts, Cert.KernelIdeal.Gen.facts, Cert.ReferenceIdeal.Gen.facts,
  Cert.Dwdown.Gen.facts, Cert.DwdownIdeal.Gen.facts, Cert.DwdownRefIdeal.Gen.facts,
  Cert.Dact.Gen.facts, Cert.DactIdeal.Gen.facts, Cert.DactRefIdeal.Gen.facts,
  Cert.Dwup.Gen.facts, Cert.DwupIdeal.Gen.facts, Cert.DwupRefIdeal.Gen.facts,
  Cert.Dhid.Gen.facts, Cert.DhidIdeal.Gen.facts, Cert.DhidRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Qkv.Gen.facts, Cert.QkvIdeal.Gen.facts, Cert.QkvRefIdeal.Gen.facts,
  Cert.Mixout.Gen.facts, Cert.MixoutIdeal.Gen.facts, Cert.MixoutRefIdeal.Gen.facts,
  Cert.Recin.Gen.facts, Cert.RecinIdeal.Gen.facts, Cert.RecinRefIdeal.Gen.facts,
  Cert.Dwqkv.Gen.facts, Cert.DwqkvIdeal.Gen.facts, Cert.DwqkvRefIdeal.Gen.facts,
  Cert.Dwout.Gen.facts, Cert.DwoutIdeal.Gen.facts, Cert.DwoutRefIdeal.Gen.facts,
  Cert.Dwgate.Gen.facts, Cert.DwgateIdeal.Gen.facts, Cert.DwgateRefIdeal.Gen.facts,
  Cert.Dwrest.Gen.facts, Cert.DwrestIdeal.Gen.facts, Cert.DwrestRefIdeal.Gen.facts,
  Cert.Dhqkv.Gen.facts, Cert.DhqkvIdeal.Gen.facts, Cert.DhqkvRefIdeal.Gen.facts,
  Cert.Dmix.Gen.facts, Cert.DmixIdeal.Gen.facts, Cert.DmixRefIdeal.Gen.facts,
  Cert.Drec.Gen.facts, Cert.DrecIdeal.Gen.facts, Cert.DrecRefIdeal.Gen.facts,
  Cert.Pre_finite_scan.Gen.facts, Cert.Pre_finite.Gen.facts, by
  exact ⟨fun m ρ _ => Cert.Dscan.Gen.frame m ρ, fun m ρ _ => Cert.DscanIdeal.Gen.frame m ρ, fun m ρ _ => Cert.DscanIdeal.Gen.frame m ρ,
    frame_scan_reference, fun m ρ _ => frame_scan_reference m ρ trivial,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Dwdown.Gen.frame m ρ, fun m ρ _ => Cert.DwdownIdeal.Gen.frame m ρ,
    fun m ρ _ => (θ_run Cert.DwdownRefIdeal.defs _ _).mono (fun r h => ⟨fun c => (h c).2, Idealize.ShloMosaic.sem_eq_zero_of_no_sems (by decide) r.2⟩)
      (Cert.DwdownRefIdeal.Value.run (F := Ideal) m ρ),
    fun m ρ _ => Cert.Dact.Gen.frame m ρ, fun m ρ _ => Cert.DactIdeal.Gen.frame m ρ,
    fun m ρ _ => (θ_run Cert.DactRefIdeal.defs _ _).mono (fun r h => ⟨fun c => (h c).2, Idealize.ShloMosaic.sem_eq_zero_of_no_sems (by decide) r.2⟩)
      (Cert.DactRefIdeal.Value.run (F := Ideal) m ρ),
    fun m ρ _ => Cert.Dwup.Gen.frame m ρ, fun m ρ _ => Cert.DwupIdeal.Gen.frame m ρ,
    fun m ρ _ => (θ_run Cert.DwupRefIdeal.defs _ _).mono (fun r h => ⟨fun c => (h c).2, Idealize.ShloMosaic.sem_eq_zero_of_no_sems (by decide) r.2⟩)
      (Cert.DwupRefIdeal.Value.run (F := Ideal) m ρ),
    fun m ρ _ => Cert.Dhid.Gen.frame m ρ, fun m ρ _ => Cert.DhidIdeal.Gen.frame m ρ,
    fun m ρ _ => (θ_run Cert.DhidRefIdeal.defs _ _).mono (fun r h => ⟨fun c => (h c).2, Idealize.ShloMosaic.sem_eq_zero_of_no_sems (by decide) r.2⟩)
      (Cert.DhidRefIdeal.Value.run (F := Ideal) m ρ),
    fun m ρ _ => Cert.Up.Gen.frame m ρ, fun m ρ _ => Cert.UpIdeal.Gen.frame m ρ,
    fun m ρ _ => (θ_run Cert.UpRefIdeal.defs _ _).mono (fun r h => ⟨fun c => (h c).2, Idealize.ShloMosaic.sem_eq_zero_of_no_sems (by decide) r.2⟩)
      (Cert.UpRefIdeal.Value.run (F := Ideal) m ρ),
    fun m ρ _ => Cert.Down.Gen.frame m ρ, fun m ρ _ => Cert.DownIdeal.Gen.frame m ρ,
    fun m ρ _ => (θ_run Cert.DownRefIdeal.defs _ _).mono (fun r h => ⟨fun c => (h c).2, Idealize.ShloMosaic.sem_eq_zero_of_no_sems (by decide) r.2⟩)
      (Cert.DownRefIdeal.Value.run (F := Ideal) m ρ),
    fun m ρ _ => Cert.Qkv.Gen.frame m ρ, fun m ρ _ => Cert.QkvIdeal.Gen.frame m ρ,
    fun m ρ _ => (θ_run Cert.QkvRefIdeal.defs _ _).mono (fun r h => ⟨fun c => (h c).2, Idealize.ShloMosaic.sem_eq_zero_of_no_sems (by decide) r.2⟩)
      (Cert.QkvRefIdeal.Value.run (F := Ideal) m ρ),
    fun m ρ _ => Cert.Mixout.Gen.frame m ρ, fun m ρ _ => Cert.MixoutIdeal.Gen.frame m ρ,
    fun m ρ _ => (θ_run Cert.MixoutRefIdeal.defs _ _).mono (fun r h => ⟨fun c => (h c).2, Idealize.ShloMosaic.sem_eq_zero_of_no_sems (by decide) r.2⟩)
      (Cert.MixoutRefIdeal.Value.run (F := Ideal) m ρ),
    fun m ρ _ => Cert.Recin.Gen.frame m ρ, fun m ρ _ => Cert.RecinIdeal.Gen.frame m ρ,
    fun m ρ _ => (θ_run Cert.RecinRefIdeal.defs _ _).mono (fun r h => ⟨fun c => (h c).2, Idealize.ShloMosaic.sem_eq_zero_of_no_sems (by decide) r.2⟩)
      (Cert.RecinRefIdeal.Value.run (F := Ideal) m ρ),
    fun m ρ _ => Cert.Dwqkv.Gen.frame m ρ, fun m ρ _ => Cert.DwqkvIdeal.Gen.frame m ρ,
    fun m ρ _ => (θ_run Cert.DwqkvRefIdeal.defs _ _).mono (fun r h => ⟨fun c => (h c).2, Idealize.ShloMosaic.sem_eq_zero_of_no_sems (by decide) r.2⟩)
      (Cert.DwqkvRefIdeal.Value.run (F := Ideal) m ρ),
    fun m ρ _ => Cert.Dwout.Gen.frame m ρ, fun m ρ _ => Cert.DwoutIdeal.Gen.frame m ρ,
    fun m ρ _ => (θ_run Cert.DwoutRefIdeal.defs _ _).mono (fun r h => ⟨fun c => (h c).2, Idealize.ShloMosaic.sem_eq_zero_of_no_sems (by decide) r.2⟩)
      (Cert.DwoutRefIdeal.Value.run (F := Ideal) m ρ),
    fun m ρ _ => Cert.Dwgate.Gen.frame m ρ, fun m ρ _ => Cert.DwgateIdeal.Gen.frame m ρ,
    fun m ρ _ => (θ_run Cert.DwgateRefIdeal.defs _ _).mono (fun r h => ⟨fun c => (h c).2, Idealize.ShloMosaic.sem_eq_zero_of_no_sems (by decide) r.2⟩)
      (Cert.DwgateRefIdeal.Value.run (F := Ideal) m ρ),
    fun m ρ _ => Cert.Dwrest.Gen.frame m ρ, fun m ρ _ => Cert.DwrestIdeal.Gen.frame m ρ,
    fun m ρ _ => (θ_run Cert.DwrestRefIdeal.defs _ _).mono (fun r h => ⟨fun c => (h c).2, Idealize.ShloMosaic.sem_eq_zero_of_no_sems (by decide) r.2⟩)
      (Cert.DwrestRefIdeal.Value.run (F := Ideal) m ρ),
    fun m ρ _ => Cert.Dhqkv.Gen.frame m ρ, fun m ρ _ => Cert.DhqkvIdeal.Gen.frame m ρ,
    fun m ρ _ => (θ_run Cert.DhqkvRefIdeal.defs _ _).mono (fun r h => ⟨fun c => (h c).2, Idealize.ShloMosaic.sem_eq_zero_of_no_sems (by decide) r.2⟩)
      (Cert.DhqkvRefIdeal.Value.run (F := Ideal) m ρ),
    fun m ρ _ => Cert.Dmix.Gen.frame m ρ, fun m ρ _ => Cert.DmixIdeal.Gen.frame m ρ,
    fun m ρ _ => (θ_run Cert.DmixRefIdeal.defs _ _).mono (fun r h => ⟨fun c => (h c).2, Idealize.ShloMosaic.sem_eq_zero_of_no_sems (by decide) r.2⟩)
      (Cert.DmixRefIdeal.Value.run (F := Ideal) m ρ),
    fun m ρ _ => Cert.Drec.Gen.frame m ρ, fun m ρ _ => Cert.DrecIdeal.Gen.frame m ρ,
    fun m ρ _ => (θ_run Cert.DrecRefIdeal.defs _ _).mono (fun r h => ⟨fun c => (h c).2, Idealize.ShloMosaic.sem_eq_zero_of_no_sems (by decide) r.2⟩)
      (Cert.DrecRefIdeal.Value.run (F := Ideal) m ρ),
    trivial, Cert.Scan.equation,
    trivial, act_equation,
    trivial, Cert.DwdownIdeal.Gradient.equation,
    trivial, Cert.DactIdeal.Gradient.equation,
    trivial, Cert.DwupIdeal.Gradient.equation,
    trivial, Cert.DhidIdeal.Gradient.equation,
    trivial, Cert.UpIdeal.Forward.equation,
    trivial, Cert.DownIdeal.Forward.equation,
    trivial, Cert.QkvIdeal.Forward.equation,
    trivial, Cert.MixoutIdeal.Forward.equation,
    trivial, Cert.RecinIdeal.Forward.equation,
    trivial, Cert.DwqkvIdeal.Gradient.equation,
    trivial, Cert.DwoutIdeal.Gradient.equation,
    trivial, Cert.DwgateIdeal.Gradient.equation,
    trivial, Cert.DwrestIdeal.Gradient.equation,
    trivial, Cert.DhqkvIdeal.Gradient.equation,
    trivial, Cert.DmixIdeal.Gradient.equation,
    trivial, Cert.DrecIdeal.Gradient.equation⟩⟩

end Cert.Proof

end
